-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_arguments4 [hPre_finite_arguments4 : Cert.Pre_finite_arguments4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_arguments4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_arguments4 [hPre_finite_arguments4 : Cert.Pre_finite_arguments4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_arguments4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_arguments4 [hKernel4Ideal : Cert.Kernel4Ideal.Facts] [hPre_finite_arguments4 : Cert.Pre_finite_arguments4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_arguments4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_arguments4 [hReference4Ideal : Cert.Reference4Ideal.Facts] [hPre_finite_arguments4 : Cert.Pre_finite_arguments4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_arguments4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v118)) (v2 : (c : Dev Cert.KernelIdeal.nD) → Buf (Elt Ideal) ((c.tc : Thread Cert.KernelIdeal.nD Cert.KernelIdeal.τ).loc Cert.KernelIdeal.main_v121)) (v3 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_v121) = v2 c
          ∧ r.2.mem ((c.tc : Thread Cert.KernelIdeal.nD Cert.KernelIdeal.τ).loc Cert.KernelIdeal.main_v123) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_arguments4 [hKernel4Ideal : Cert.Kernel4Ideal.Facts] [hReference4Ideal : Cert.Reference4Ideal.Facts] [hPre_finite_arguments4 : Cert.Pre_finite_arguments4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_arguments4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)) (v2 : (c : Dev Cert.Kernel4Ideal.nD) → Buf (Elt Ideal) ((c.tc : Thread Cert.Kernel4Ideal.nD Cert.Kernel4Ideal.τ).loc Cert.Kernel4Ideal.main_v31_2)) (v3 : (c : Dev Cert.Kernel4Ideal.nD) → Buf (Elt Ideal) ((c.tc : Thread Cert.Kernel4Ideal.nD Cert.Kernel4Ideal.τ).loc Cert.Kernel4Ideal.main_v31_3)) (v4 : (c : Dev Cert.Kernel4Ideal.nD) → Buf (Elt Ideal) ((c.tc : Thread Cert.Kernel4Ideal.nD Cert.Kernel4Ideal.τ).loc Cert.Kernel4Ideal.main_v31_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_v31_2) = v2 c
          ∧ r.2.mem ((c.tc : Thread Cert.Kernel4Ideal.nD Cert.Kernel4Ideal.τ).loc Cert.Kernel4Ideal.main_v31_3) = v3 c
          ∧ r.2.mem ((c.tc : Thread Cert.Kernel4Ideal.nD Cert.Kernel4Ideal.τ).loc Cert.Kernel4Ideal.main_v31_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_v63) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_arguments : Cert.Pre_finite_arguments.Facts) (hPre_finite_arguments4 : Cert.Pre_finite_arguments4.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_arguments4 (hKernel4Ideal := hKernel4Ideal) (hPre_finite_arguments4 := hPre_finite_arguments4)
    ∧ quiescent_Reference4Ideal (hReference4Ideal := hReference4Ideal)
    ∧ quiescent_Reference4Ideal_pre_finite_arguments4 (hReference4Ideal := hReference4Ideal) (hPre_finite_arguments4 := hPre_finite_arguments4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_arguments4 (hKernel4Ideal := hKernel4Ideal) (hReference4Ideal := hReference4Ideal) (hPre_finite_arguments4 := hPre_finite_arguments4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_arguments.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_arg4 : FVec F S1x8192x512 .f32) (main_v3 : IVec S_ 1) (main_v7 : IVec S_ 1) (main_v11 : IVec S_ 1) (main_v15 : IVec S_ 1) : IVec S_ 1 :=
  let main_v16 : FVec F S1x8192x512 .f32 := Host.absf main_arg4
  let main_cst_6 : FVec F S_ .f32 := constant S_ .f32 0x7F800000#32
  let main_v17 : FVec F S1x8192x512 .f32 := broadcastInDim S1x8192x512 ![] bcast_S_S1x8192x512 main_cst_6
  let main_v18 : IVec S1x8192x512 1 := cmpf .olt main_v16 main_v17
  let main_c_7 : IVec S_ 1 := constantI S_ 1 1#1
  let main_v19 : IVec S_ 1 := (fun x v => Host.reduce IntOp.andi x v reducesTo_S1x8192x512_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S1x8192x8x64 .f32) (main_arg1 : FVec F S1x8192x8x64 .f32) (main_arg2 : FVec F S1x8192x8x64 .f32) (main_arg3 : FVec F S1x8192x8 .f32) (main_arg4 : FVec F S1x8192x512 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x64 .f32 := Host.absf main_arg1
  let main_cst_0 : FVec F S_ .f32 := constant S_ .f32 0x7F800000#32
  let main_v5 : FVec F S1x8192x8x64 .f32 := broadcastInDim S1x8192x8x64 ![] bcast_S_S1x8192x8x64 main_cst_0
  let main_v6 : IVec S1x8192x8x64 1 := cmpf .olt main_v4 main_v5
  let main_c_1 : IVec S_ 1 := constantI S_ 1 1#1
  let main_v7 : IVec S_ 1 := (fun x v => Host.reduce IntOp.andi x v reducesTo_S1x8192x8x64_S_d0_1_2_3 h_S_) main_v6 main_c_1
  let main_v8 : FVec F S1x8192x8x64 .f32 := Host.absf main_arg2
  let main_cst_2 : FVec F S_ .f32 := constant S_ .f32 0x7F800000#32
  let main_v9 : FVec F S1x8192x8x64 .f32 := broadcastInDim S1x8192x8x64 ![] bcast_S_S1x8192x8x64 main_cst_2
  let main_v10 : IVec S1x8192x8x64 1 := cmpf .olt main_v8 main_v9
  let main_c_3 : IVec S_ 1 := constantI S_ 1 1#1
  let main_v11 : IVec S_ 1 := (fun x v => Host.reduce IntOp.andi x v reducesTo_S1x8192x8x64_S_d0_1_2_3 h_S_) main_v10 main_c_3
  let main_v12 : FVec F S1x8192x8 .f32 := Host.absf main_arg3
  let main_cst_4 : FVec F S_ .f32 := constant S_ .f32 0x7F800000#32
  let main_v13 : FVec F S1x8192x8 .f32 := broadcastInDim S1x8192x8 ![] bcast_S_S1x8192x8 main_cst_4
  let main_v14 : IVec S1x8192x8 1 := cmpf .olt main_v12 main_v13
  let main_c_5 : IVec S_ 1 := constantI S_ 1 1#1
  let main_v15 : IVec S_ 1 := (fun x v => Host.reduce IntOp.andi x v reducesTo_S1x8192x8_S_d0_1_2 h_S_) main_v14 main_c_5
  fn_part1 (F := F) main_arg4 main_v3 main_v7 main_v11 main_v15
-- ==== Pre_finite_arguments4.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S1x8192x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S1x8192x1024 .f32 := Host.absf main_arg5
  let main_cst_8 : FVec F S_ .f32 := constant S_ .f32 0x7F800000#32
  let main_v21 : FVec F S1x8192x1024 .f32 := broadcastInDim S1x8192x1024 ![] bcast_S_S1x8192x1024 main_cst_8
  let main_v22 : IVec S1x8192x1024 1 := cmpf .olt main_v20 main_v21
  let main_c_9 : IVec S_ 1 := constantI S_ 1 1#1
  let main_v23 : IVec S_ 1 := (fun x v => Host.reduce IntOp.andi x v reducesTo_S1x8192x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1x8192x1024 .f32) (main_arg1 : FVec F S1x1024 .f32) (main_arg2 : FVec F S1x1024x2816 .f32) (main_arg3 : FVec F S1x1024x2816 .f32) (main_arg4 : FVec F S1x2816x1024 .f32) (main_arg5 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg2
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S1x1024x2816 .f32 := Host.absf main_arg3
  let main_cst_4 : FVec F S_ .f32 := constant S_ .f32 0x7F800000#32
  let main_v13 : FVec F S1x1024x2816 .f32 := broadcastInDim S1x1024x2816 ![] bcast_S_S1x1024x2816 main_cst_4
  let main_v14 : IVec S1x1024x2816 1 := cmpf .olt main_v12 main_v13
  let main_c_5 : IVec S_ 1 := constantI S_ 1 1#1
  let main_v15 : IVec S_ 1 := (fun x v => Host.reduce IntOp.andi x v reducesTo_S1x1024x2816_S_d0_1_2 h_S_) main_v14 main_c_5
  fn_part1 (F := F) main_arg4 main_arg5 main_v3 main_v7 main_v11 main_v15
-- ==== Kernel.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S8192x8x64 : Shape := ⟨3, ![8192, 8, 64]⟩
abbrev S8x8192x64 : Shape := ⟨3, ![8, 8192, 64]⟩
abbrev S_ : Shape := ⟨0, ![]⟩
abbrev S8192x8 : Shape := ⟨2, ![8192, 8]⟩
abbrev S8x8192 : Shape := ⟨2, ![8, 8192]⟩
abbrev S8192x512 : Shape := ⟨2, ![8192, 512]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192x58 : Shape := ⟨3, ![8, 8192, 58]⟩
abbrev S8x8192x128 : Shape := ⟨3, ![8, 8192, 128]⟩
abbrev S8x8192x61 : Shape := ⟨3, ![8, 8192, 61]⟩
abbrev S8x16x128x512 : Shape := ⟨4, ![8, 16, 128, 512]⟩
abbrev S8x16x512 : Shape := ⟨3, ![8, 16, 512]⟩
abbrev S1x8192x128 : Shape := ⟨3, ![1, 8192, 128]⟩
abbrev S1x512x128 : Shape := ⟨3, ![1, 512, 128]⟩
abbrev S1x16x128x512 : Shape := ⟨4, ![1, 16, 128, 512]⟩
abbrev S1x16x512 : Shape := ⟨3, ![1, 16, 512]⟩
abbrev S512x1 : Shape := ⟨2, ![512, 1]⟩
abbrev S512x512 : Shape := ⟨2, ![512, 512]⟩
abbrev S512x128 : Shape := ⟨2, ![512, 128]⟩
abbrev S1x1x128x512 : Shape := ⟨4, ![1, 1, 128, 512]⟩
abbrev S128x512 : Shape := ⟨2, ![128, 512]⟩
abbrev S512 : Shape := ⟨1, ![512]⟩
abbrev S1x1x512 : Shape := ⟨3, ![1, 1, 512]⟩
abbrev S1x512 : Shape := ⟨2, ![1, 512]⟩
abbrev S8x16x64x512 : Shape := ⟨4, ![8, 16, 64, 512]⟩
abbrev S16x512x8x64 : Shape := ⟨4, ![16, 512, 8, 64]⟩
abbrev S16x512x8 : Shape := ⟨3, ![16, 512, 8]⟩

abbrev nBuf : Space → Nat
  | .hbm => 146
  | .vmem => 21
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8, .f32⟩
  | 4 => ⟨S1x8192x512, .f32⟩
  | 5 => ⟨S8192x8x64, .f32⟩
  | 6 => ⟨S8x8192x64, .f32⟩
  | 7 => ⟨S_, .f32⟩
  | 8 => ⟨S8x8192x64, .f32⟩
  | 9 => ⟨S8x8192x64, .f32⟩
  | 10 => ⟨S8192x8x64, .f32⟩
  | 11 => ⟨S8x8192x64, .f32⟩
  | 12 => ⟨S8192x8x64, .f32⟩
  | 13 => ⟨S8x8192x64, .f32⟩
  | 14 => ⟨S8192x8, .f32⟩
  | 15 => ⟨S8x8192, .f32⟩
  | 16 => ⟨S8192x512, .f32⟩
  | 17 => ⟨S8192x8x64, .f32⟩
  | 18 => ⟨S8x8192x64, .f32⟩
  | 19 => ⟨S8x8192x8192, .f32⟩
  | 20 => ⟨S8x8192x1, .f32⟩
  | 21 => ⟨S8x8192x8192, .f32⟩
  | 22 => ⟨S8x8192x8192, .f32⟩
  | 23 => ⟨S8x1x8192, .f32⟩
  | 24 => ⟨S8x8192x8192, .f32⟩
  | 25 => ⟨S8x8192x8192, .f32⟩
  | 26 => ⟨S8192, .i32⟩
  | 27 => ⟨S1x8192, .i32⟩
  | 28 => ⟨S8192, .i32⟩
  | 29 => ⟨S8192x1, .i32⟩
  | 30 => ⟨S8192x8192, .i32⟩
  | 31 => ⟨S8192x8192, .i32⟩
  | 32 => ⟨S8192x8192, .i1⟩
  | 33 => ⟨S1x8192x8192, .i1⟩
  | 34 => ⟨S_, .f32⟩
  | 35 => ⟨S_, .f32⟩
  | 36 => ⟨S8x8192x8192, .i1⟩
  | 37 => ⟨S8x8192x8192, .f32⟩
  | 38 => ⟨S8x8192x8192, .f32⟩
  | 39 => ⟨S_, .f32⟩
  | 40 => ⟨S8x8192, .f32⟩
  | 41 => ⟨S8x8192x1, .f32⟩
  | 42 => ⟨S8x8192x8192, .f32⟩
  | 43 => ⟨S8x8192x8192, .f32⟩
  | 44 => ⟨S8x8192x8192, .f32⟩
  | 45 => ⟨S_, .f32⟩
  | 46 => ⟨S8x8192, .f32⟩
  | 47 => ⟨S8x8192, .f32⟩
  | 48 => ⟨S8x8192, .f32⟩
  | 49 => ⟨S8x8192, .f32⟩
  | 50 => ⟨S8x8192, .f32⟩
  | 51 => ⟨S8x8192x64, .f32⟩
  | 52 => ⟨S8x8192x1, .f32⟩
  | 53 => ⟨S8x8192x64, .f32⟩
  | 54 => ⟨S8x8192x64, .f32⟩
  | 55 => ⟨S8x8192x64, .f32⟩
  | 56 => ⟨S_, .f32⟩
  | 57 => ⟨S8x8192, .f32⟩
  | 58 => ⟨S_, .f32⟩
  | 59 => ⟨S8x8192, .f32⟩
  | 60 => ⟨S8x8192, .f32⟩
  | 61 => ⟨S8x8192, .bf16⟩
  | 62 => ⟨S8x8192, .f32⟩
  | 63 => ⟨S8x8192, .f32⟩
  | 64 => ⟨S8x8192, .bf16⟩
  | 65 => ⟨S8x8192, .f32⟩
  | 66 => ⟨S8x8192, .f32⟩
  | 67 => ⟨S8x8192, .bf16⟩
  | 68 => ⟨S8x8192x64, .bf16⟩
  | 69 => ⟨S8x8192, .bf16⟩
  | 70 => ⟨S8x8192x1, .bf16⟩
  | 71 => ⟨S8x8192, .bf16⟩
  | 72 => ⟨S8x8192x1, .bf16⟩
  | 73 => ⟨S8x8192, .bf16⟩
  | 74 => ⟨S8x8192x1, .bf16⟩
  | 75 => ⟨S8x8192x1, .bf16⟩
  | 76 => ⟨S8x8192x1, .bf16⟩
  | 77 => ⟨S8x8192x1, .bf16⟩
  | 78 => ⟨S_, .bf16⟩
  | 79 => ⟨S8x8192x58, .bf16⟩
  | 80 => ⟨S8x8192x128, .bf16⟩
  | 81 => ⟨S8x8192, .bf16⟩
  | 82 => ⟨S8x8192, .f32⟩
  | 83 => ⟨S8x8192, .f32⟩
  | 84 => ⟨S8x8192, .bf16⟩
  | 85 => ⟨S8x8192, .f32⟩
  | 86 => ⟨S8x8192, .f32⟩
  | 87 => ⟨S8x8192, .bf16⟩
  | 88 => ⟨S8x8192x64, .bf16⟩
  | 89 => ⟨S8x8192x1, .bf16⟩
  | 90 => ⟨S8x8192x1, .bf16⟩
  | 91 => ⟨S8x8192x1, .bf16⟩
  | 92 => ⟨S8x8192, .bf16⟩
  | 93 => ⟨S8x8192x1, .bf16⟩
  | 94 => ⟨S8x8192, .bf16⟩
  | 95 => ⟨S8x8192x1, .bf16⟩
  | 96 => ⟨S8x8192, .bf16⟩
  | 97 => ⟨S8x8192x1, .bf16⟩
  | 98 => ⟨S_, .bf16⟩
  | 99 => ⟨S8x8192x58, .bf16⟩
  | 100 => ⟨S8x8192x128, .bf16⟩
  | 101 => ⟨S8x8192x64, .bf16⟩
  | 102 => ⟨S8x8192, .bf16⟩
  | 103 => ⟨S8x8192x1, .bf16⟩
  | 104 => ⟨S8x8192, .bf16⟩
  | 105 => ⟨S8x8192x1, .bf16⟩
  | 106 => ⟨S8x8192, .bf16⟩
  | 107 => ⟨S8x8192x1, .bf16⟩
  | 108 => ⟨S_, .bf16⟩
  | 109 => ⟨S8x8192x61, .bf16⟩
  | 110 => ⟨S8x8192x128, .bf16⟩
  | 111 => ⟨S8x8192, .bf16⟩
  | 112 => ⟨S8x8192, .f32⟩
  | 113 => ⟨S8x8192, .f32⟩
  | 114 => ⟨S8x8192, .bf16⟩
  | 115 => ⟨S8x8192, .f32⟩
  | 116 => ⟨S8x8192, .f32⟩
  | 117 => ⟨S8x8192, .bf16⟩
  | 118 => ⟨S8x8192, .bf16⟩
  | 119 => ⟨S8x8192, .bf16⟩
  | 120 => ⟨S8x8192, .bf16⟩
  | 121 => ⟨S8x8192x64, .bf16⟩
  | 122 => ⟨S8x8192x1, .bf16⟩
  | 123 => ⟨S8x8192x1, .bf16⟩
  | 124 => ⟨S8x8192x1, .bf16⟩
  | 125 => ⟨S_, .bf16⟩
  | 126 => ⟨S8x8192x61, .bf16⟩
  | 127 => ⟨S8x8192x128, .bf16⟩
  | _ => ⟨S1x8192x8x64, .f32⟩

abbrev hbmTy0_1 (i : Nat) : BufTy := match i % 128 with
  | 0 => ⟨S8x16x128x512, .f32⟩
  | 1 => ⟨S8x8192x128, .f32⟩
  | 2 => ⟨S8x8192x128, .f32⟩
  | 3 => ⟨S8x16x512, .f32⟩
  | 4 => ⟨S8x16x64x512, .f32⟩
  | 5 => ⟨S16x512x8x64, .f32⟩
  | 6 => ⟨S1x8192x8x64, .f32⟩
  | 7 => ⟨S_, .f32⟩
  | 8 => ⟨S1x8192x8x64, .f32⟩
  | 9 => ⟨S1x8192x8x64, .f32⟩
  | 10 => ⟨S8x8192x64, .f32⟩
  | 11 => ⟨S8192x8x64, .f32⟩
  | 12 => ⟨S1x8192x8x64, .f32⟩
  | 13 => ⟨S8x8192x64, .f32⟩
  | 14 => ⟨S8192x8x64, .f32⟩
  | 15 => ⟨S1x8192x8x64, .f32⟩
  | 16 => ⟨S16x512x8, .f32⟩
  | 17 => ⟨S1x8192x8, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x16x128x512, .f32⟩
  | .local _ .vmem, ⟨9, _⟩ => ⟨S1x16x128x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x16x512, .f32⟩
  | .local _ .vmem, ⟨15, _⟩ => ⟨S1x16x512, .f32⟩
  | .local _ .vmem, ⟨16, _⟩ => ⟨S512x1, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_6 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_7 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_8 : Ref sig .tc := ⟨.hbm, 125, rfl⟩
abbrev main_v108 : Ref sig .tc := ⟨.hbm, 126, rfl⟩
abbrev main_v109 : Ref sig .tc := ⟨.hbm, 127, rfl⟩
abbrev main_v110_0 : Ref sig .tc := ⟨.hbm, 128, rfl⟩
abbrev main_v110_1 : Ref sig .tc := ⟨.hbm, 129, rfl⟩
abbrev main_v110_2 : Ref sig .tc := ⟨.hbm, 130, rfl⟩
abbrev main_v110_3 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_9 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c15_i32 : BitVec 32 := 15#32
  let v15 : BitVec 32 := Scalar.minsi arg1 c15_i32
  let c512_i32 : BitVec 32 := 512#32
  let v16 : BitVec 32 := Scalar.muli v15 c512_i32
  v16
def k0_off1 (i : grid0.Coords) : Fin 3 → Nat :=
  let c0_16 : Index := 0#32
  let arg1 : BitVec 32 := BitVec.ofNat 32 (i 1).val
  let c15_i32 : BitVec 32 := 15#32
  let v15 : BitVec 32 := Scalar.minsi arg1 c15_i32
  let c512_i32 : BitVec 32 := 512#32
  let v16 : BitVec 32 := Scalar.muli v15 c512_i32
  let v17 : BitVec 32 := v16
  let v18 : Index := Scalar.indexCast v17
  let c0_17 : Index := 0#32
  ![0, v18.toNat, 0]
def k0_mult2 (i : grid0.Coords) : BitVec 32 :=
  let arg1 : BitVec 32 := BitVec.ofNat 32 (i 1).val
  let c1_i32 : BitVec 32 := 1#32
  let v32 : BitVec 32 := Scalar.addi arg1 c1_i32
  let c15_i32_26 : BitVec 32 := 15#32
  let v33 : BitVec 32 := Scalar.minsi v32 c15_i32_26
  let c512_i32_27 : BitVec 32 := 512#32
  let v34 : BitVec 32 := Scalar.muli v33 c512_i32_27
  v34
def k0_off2 (i : grid0.Coords) : Fin 3 → Nat :=
  let c0_28 : Index := 0#32
  let arg1 : BitVec 32 := BitVec.ofNat 32 (i 1).val
  let c1_i32 : BitVec 32 := 1#32
  let v32 : BitVec 32 := Scalar.addi arg1 c1_i32
  let c15_i32_26 : BitVec 32 := 15#32
  let v33 : BitVec 32 := Scalar.minsi v32 c15_i32_26
  let c512_i32_27 : BitVec 32 := 512#32
  let v34 : BitVec 32 := Scalar.muli v33 c512_i32_27
  let v35 : BitVec 32 := v34
  let v36 : Index := Scalar.indexCast v35
  let c0_29 : Index := 0#32
  ![0, v36.toNat, 0]
def k0_mult3 (i : grid0.Coords) : BitVec 32 :=
  let arg1 : BitVec 32 := BitVec.ofNat 32 (i 1).val
  let c15_i32_38 : BitVec 32 := 15#32
  let v50 : BitVec 32 := Scalar.minsi arg1 c15_i32_38
  let c512_i32_39 : BitVec 32 := 512#32
  let v51 : BitVec 32 := Scalar.muli v50 c512_i32_39
  v51
def k0_off3 (i : grid0.Coords) : Fin 4 → Nat :=
  let c0_63 : Index := 0#32
  let arg1 : BitVec 32 := BitVec.ofNat 32 (i 1).val
  let v84 : Index := Scalar.indexCast arg1
  let c0_64 : Index := 0#32
  let c0_65 : Index := 0#32
  ![0, v84.toNat, 0, 0]
def k0_off4 (i : grid0.Coords) : Fin 3 → Nat :=
  let c0_75 : Index := 0#32
  let arg1 : BitVec 32 := BitVec.ofNat 32 (i 1).val
  let v100 : Index := Scalar.indexCast arg1
  let c0_76 : Index := 0#32
  ![0, v100.toNat, 0]
@[reducible] def k0_t1_loop (i : grid0.Coords) : Scf.Loop 32 :=
  let c0_i32_88 : BitVec 32 := 0#32
  let c15_i32_80 : BitVec 32 := 15#32
  let arg1 : BitVec 32 := BitVec.ofNat 32 (i 1).val
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_90 : BitVec 32 := 1#32
  ⟨c0_i32_88, v132, c1_i32_90⟩
def k0_mult4 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_108 : BitVec 32 := 1#32
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  v164
def k0_off5 (i : grid0.Coords) (k0_t1 : Fin (k0_t1_loop i).trips) (c1_i32_108 : BitVec 32) : Fin 3 → Nat :=
  let c0_111 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  let v165 : BitVec 32 := v164
  let v166 : Index := Scalar.indexCast v165
  let c0_112 : Index := 0#32
  ![0, v166.toNat, 0]
def k0_mult5 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  v181
def k0_off6 (i : grid0.Coords) (k0_t1 : Fin (k0_t1_loop i).trips) : Fin 3 → Nat :=
  let c0_123 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  let v182 : BitVec 32 := v181
  let v183 : Index := Scalar.indexCast v182
  let c0_124 : Index := 0#32
  ![0, v183.toNat, 0]
def k0_off7 (i : grid0.Coords) (k0_t1 : Fin (k0_t1_loop i).trips) : Fin 4 → Nat :=
  let c0_145 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let v209 : Index := Scalar.indexCast v161
  let c0_146 : Index := 0#32
  let c0_147 : Index := 0#32
  ![0, v209.toNat, 0, 0]
def k0_off8 (i : grid0.Coords) (k0_t1 : Fin (k0_t1_loop i).trips) : Fin 3 → Nat :=
  let c0_157 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let v225 : Index := Scalar.indexCast v161
  let c0_158 : Index := 0#32
  ![0, v225.toNat, 0]
def k0_mult6 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c2_i32_162 : BitVec 32 := 2#32
  let v235 : BitVec 32 := Scalar.addi v161 c2_i32_162
  let c15_i32_163 : BitVec 32 := 15#32
  let v236 : BitVec 32 := Scalar.minsi v235 c15_i32_163
  let c512_i32_164 : BitVec 32 := 512#32
  let v237 : BitVec 32 := Scalar.muli v236 c512_i32_164
  v237
def k0_mult7 (i : grid0.Coords) (k0_t1 : Fin (k0_t1_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_175 : BitVec 32 := 1#32
  let v253 : BitVec 32 := Scalar.addi v161 c1_i32_175
  let c15_i32_176 : BitVec 32 := 15#32
  let v254 : BitVec 32 := Scalar.minsi v253 c15_i32_176
  let c512_i32_177 : BitVec 32 := 512#32
  let v255 : BitVec 32 := Scalar.muli v254 c512_i32_177
  v255
def k0_off9 (i : grid0.Coords) (k0_t1 : Fin (k0_t1_loop i).trips) : Fin 4 → Nat :=
  let c0_200 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_175 : BitVec 32 := 1#32
  let v253 : BitVec 32 := Scalar.addi v161 c1_i32_175
  let v283 : Index := Scalar.indexCast v253
  let c0_201 : Index := 0#32
  let c0_202 : Index := 0#32
  ![0, v283.toNat, 0, 0]
def k0_off10 (i : grid0.Coords) (k0_t1 : Fin (k0_t1_loop i).trips) : Fin 3 → Nat :=
  let c0_212 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c1_i32_90 : BitVec 32 := 1#32
  let arg15 : BitVec 32 := Scf.iv c0_i32_88 c1_i32_90 k0_t1
  let v160 : BitVec 32 := Scalar.muli c2_i32_107 arg15
  let v161 : BitVec 32 := Scalar.addi v159 v160
  let c1_i32_175 : BitVec 32 := 1#32
  let v253 : BitVec 32 := Scalar.addi v161 c1_i32_175
  let v299 : Index := Scalar.indexCast v253
  let c0_213 : Index := 0#32
  ![0, v299.toNat, 0]
@[reducible] def k0_t2_loop (i : grid0.Coords) : Scf.Loop 32 :=
  let c0_i32_88 : BitVec 32 := 0#32
  let c15_i32_80 : BitVec 32 := 15#32
  let arg1 : BitVec 32 := BitVec.ofNat 32 (i 1).val
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let v129 : BitVec 32 := Scalar.addi c0_i32_88 v128
  let c1_i32_91 : BitVec 32 := 1#32
  ⟨v132, v129, c1_i32_91⟩
def k0_mult8 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_108 : BitVec 32 := 1#32
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  v164
def k0_off11 (i : grid0.Coords) (k0_t2 : Fin (k0_t2_loop i).trips) (c1_i32_108 : BitVec 32) : Fin 3 → Nat :=
  let c0_111 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let v162 : BitVec 32 := Scalar.addi v161 c1_i32_108
  let c15_i32_109 : BitVec 32 := 15#32
  let v163 : BitVec 32 := Scalar.minsi v162 c15_i32_109
  let c512_i32_110 : BitVec 32 := 512#32
  let v164 : BitVec 32 := Scalar.muli v163 c512_i32_110
  let v165 : BitVec 32 := v164
  let v166 : Index := Scalar.indexCast v165
  let c0_112 : Index := 0#32
  ![0, v166.toNat, 0]
def k0_mult9 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  v181
def k0_off12 (i : grid0.Coords) (k0_t2 : Fin (k0_t2_loop i).trips) : Fin 3 → Nat :=
  let c0_123 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c15_i32_121 : BitVec 32 := 15#32
  let v180 : BitVec 32 := Scalar.minsi v161 c15_i32_121
  let c512_i32_122 : BitVec 32 := 512#32
  let v181 : BitVec 32 := Scalar.muli v180 c512_i32_122
  let v182 : BitVec 32 := v181
  let v183 : Index := Scalar.indexCast v182
  let c0_124 : Index := 0#32
  ![0, v183.toNat, 0]
def k0_off13 (i : grid0.Coords) (k0_t2 : Fin (k0_t2_loop i).trips) : Fin 4 → Nat :=
  let c0_145 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let v209 : Index := Scalar.indexCast v161
  let c0_146 : Index := 0#32
  let c0_147 : Index := 0#32
  ![0, v209.toNat, 0, 0]
def k0_off14 (i : grid0.Coords) (k0_t2 : Fin (k0_t2_loop i).trips) : Fin 3 → Nat :=
  let c0_157 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let v225 : Index := Scalar.indexCast v161
  let c0_158 : Index := 0#32
  ![0, v225.toNat, 0]
def k0_mult10 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c2_i32_162 : BitVec 32 := 2#32
  let v235 : BitVec 32 := Scalar.addi v161 c2_i32_162
  let c15_i32_163 : BitVec 32 := 15#32
  let v236 : BitVec 32 := Scalar.minsi v235 c15_i32_163
  let c512_i32_164 : BitVec 32 := 512#32
  let v237 : BitVec 32 := Scalar.muli v236 c512_i32_164
  v237
def k0_mult11 (i : grid0.Coords) (k0_t2 : Fin (k0_t2_loop i).trips) : BitVec 32 :=
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_175 : BitVec 32 := 1#32
  let v253 : BitVec 32 := Scalar.addi v161 c1_i32_175
  let c15_i32_176 : BitVec 32 := 15#32
  let v254 : BitVec 32 := Scalar.minsi v253 c15_i32_176
  let c512_i32_177 : BitVec 32 := 512#32
  let v255 : BitVec 32 := Scalar.muli v254 c512_i32_177
  v255
def k0_off15 (i : grid0.Coords) (k0_t2 : Fin (k0_t2_loop i).trips) : Fin 4 → Nat :=
  let c0_200 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_175 : BitVec 32 := 1#32
  let v253 : BitVec 32 := Scalar.addi v161 c1_i32_175
  let v283 : Index := Scalar.indexCast v253
  let c0_201 : Index := 0#32
  let c0_202 : Index := 0#32
  ![0, v283.toNat, 0, 0]
def k0_off16 (i : grid0.Coords) (k0_t2 : Fin (k0_t2_loop i).trips) : Fin 3 → Nat :=
  let c0_212 : Index := 0#32
  let arg1 : BitVec 32 := BitVec.ofNat 32 (i 1).val
  let c1_i32_106 : BitVec 32 := 1#32
  let v159 : BitVec 32 := Scalar.addi arg1 c1_i32_106
  let c2_i32_107 : BitVec 32 := 2#32
  let c0_i32_88 : BitVec 32 := 0#32
  let c15_i32_80 : BitVec 32 := 15#32
  let v110 : BitVec 32 := Scalar.subi c15_i32_80 arg1
  let c0_i32_81 : BitVec 32 := 0#32
  let v112 : BitVec 1 := Scalar.cmpi .sgt v110 c0_i32_81
  let v113 : BitVec 32 := Scalar.extui v112
  let c0_i32_82 : BitVec 32 := 0#32
  let v114 : BitVec 1 := Scalar.cmpi .slt v110 c0_i32_82
  let v115 : BitVec 32 := Scalar.extui v114
  let v116 : BitVec 32 := Scalar.subi v113 v115
  let c2_i32 : BitVec 32 := 2#32
  let c0_i32_83 : BitVec 32 := 0#32
  let v117 : BitVec 1 := Scalar.cmpi .sgt c2_i32 c0_i32_83
  let v118 : BitVec 32 := Scalar.extui v117
  let c0_i32_84 : BitVec 32 := 0#32
  let v119 : BitVec 1 := Scalar.cmpi .slt c2_i32 c0_i32_84
  let v120 : BitVec 32 := Scalar.extui v119
  let v121 : BitVec 32 := Scalar.subi v118 v120
  let v122 : BitVec 1 := Scalar.cmpi .ne v116 v121
  let v123 : BitVec 32 := Scalar.remsi v110 c2_i32
  let c0_i32_85 : BitVec 32 := 0#32
  let v124 : BitVec 1 := Scalar.cmpi .ne v123 c0_i32_85
  let v125 : BitVec 1 := Scalar.andi v122 v124
  let v111 : BitVec 32 := Scalar.divsi v110 c2_i32
  let c1_i32_86 : BitVec 32 := 1#32
  let v126 : BitVec 32 := Scalar.subi v111 c1_i32_86
  let v127 : BitVec 32 := Scalar.select v125 v126 v111
  let v128 : BitVec 32 := Scalar.subi v127 c0_i32_88
  let c1_i32_89 : BitVec 32 := 1#32
  let v130 : BitVec 32 := Scalar.divsi v128 c1_i32_89
  let v131 : BitVec 32 := Scalar.muli v130 c1_i32_89
  let v132 : BitVec 32 := Scalar.addi c0_i32_88 v131
  let c1_i32_91 : BitVec 32 := 1#32
  let arg15 : BitVec 32 := Scf.iv v132 c1_i32_91 k0_t2
  let v160 : BitVec 32 := Scalar.muli c2_i32_107 arg15
  let v161 : BitVec 32 := Scalar.addi v159 v160
  let c1_i32_175 : BitVec 32 := 1#32
  let v253 : BitVec 32 := Scalar.addi v161 c1_i32_175
  let v299 : Index := Scalar.indexCast v253
  let c0_213 : Index := 0#32
  ![0, v299.toNat, 0]
def k0_cond2 (i : grid0.Coords) : BitVec 1 :=
  let c15_i32_80 : BitVec 32 := 15#32
  let arg1 : BitVec 32 := BitVec.ofNat 32 (i 1).val
  let v110 : BitVec 32 := Scalar.subi c15_i32_80 arg1
  let c2_i32_92 : BitVec 32 := 2#32
  let c0_i32_93 : BitVec 32 := 0#32
  let v133 : BitVec 1 := Scalar.cmpi .eq c2_i32_92 c0_i32_93
  let c1_i32_94 : BitVec 32 := 1#32
  let v134 : BitVec 32 := Scalar.select v133 c1_i32_94 c2_i32_92
  let v135 : BitVec 32 := Scalar.remsi v110 v134
  let c0_i32_96 : BitVec 32 := 0#32
  let v137 : BitVec 1 := Scalar.cmpi .slt v135 c0_i32_96
  let c0_i32_97 : BitVec 32 := 0#32
  let v138 : BitVec 1 := Scalar.cmpi .slt v134 c0_i32_97
  let v139 : BitVec 1 := Scalar.xori v137 v138
  let c0_i32_95 : BitVec 32 := 0#32
  let v136 : BitVec 1 := Scalar.cmpi .ne v135 c0_i32_95
  let v140 : BitVec 1 := Scalar.andi v139 v136
  let v141 : BitVec 32 := Scalar.addi v135 v134
  let v142 : BitVec 32 := Scalar.select v140 v141 v135
  let c1_i32_98 : BitVec 32 := 1#32
  let v143 : BitVec 1 := Scalar.cmpi .eq v142 c1_i32_98
  let v144 : BitVec 32 := Scalar.extui v143
  let c0_i32_99 : BitVec 32 := 0#32
  let v145 : BitVec 1 := Scalar.cmpi .ne v144 c0_i32_99
  v145

def k0_mult12 : BitVec 32 :=
  let c15_i32_106 : BitVec 32 := 15#32
  let c15_i32_107 : BitVec 32 := 15#32
  let v159 : BitVec 32 := Scalar.minsi c15_i32_106 c15_i32_107
  let c512_i32_108 : BitVec 32 := 512#32
  let v160 : BitVec 32 := Scalar.muli v159 c512_i32_108
  v160
def k0_off17 : Fin 3 → Nat :=
  let c0_109 : Index := 0#32
  let c15_i32_106 : BitVec 32 := 15#32
  let c15_i32_107 : BitVec 32 := 15#32
  let v159 : BitVec 32 := Scalar.minsi c15_i32_106 c15_i32_107
  let c512_i32_108 : BitVec 32 := 512#32
  let v160 : BitVec 32 := Scalar.muli v159 c512_i32_108
  let v161 : BitVec 32 := v160
  let v162 : Index := Scalar.indexCast v161
  let c0_110 : Index := 0#32
  ![0, v162.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S1x8x8192x64 : Shape := ⟨4, ![1, 8, 8192, 64]⟩
abbrev S1x8x8192 : Shape := ⟨3, ![1, 8, 8192]⟩
abbrev S1x8x8192x8192 : Shape := ⟨4, ![1, 8, 8192, 8192]⟩
abbrev S_ : Shape := ⟨0, ![]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S8x8192 : Shape := ⟨2, ![8, 8192]⟩

abbrev nBuf : Space → Nat
  | .hbm => 120
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S1x8192x512, .f32⟩
  | .hbm, ⟨5, _⟩ => ⟨S1x8x8192x64, .f32⟩
  | .hbm, ⟨6, _⟩ => ⟨S1x8x8192x64, .f32⟩
  | .hbm, ⟨7, _⟩ => ⟨S1x8x8192x64, .f32⟩
  | .hbm, ⟨8, _⟩ => ⟨S1x8x8192, .f32⟩
  | .hbm, ⟨9, _⟩ => ⟨S1x8x8192x8192, .f32⟩
  | .hbm, ⟨10, _⟩ => ⟨S_, .f32⟩
  | .hbm, ⟨11, _⟩ => ⟨S1x8x8192x8192, .f32⟩
  | .hbm, ⟨12, _⟩ => ⟨S1x8x8192x8192, .f32⟩
  | .hbm, ⟨13, _⟩ => ⟨S1x8x8192x1, .f32⟩
  | .hbm, ⟨14, _⟩ => ⟨S1x8x8192x8192, .f32⟩
  | .hbm, ⟨15, _⟩ => ⟨S1x8x8192x8192, .f32⟩
  | .hbm, ⟨16, _⟩ => ⟨S1x8x1x8192, .f32⟩
  | .hbm, ⟨17, _⟩ => ⟨S1x8x8192x8192, .f32⟩
  | .hbm, ⟨18, _⟩ => ⟨S1x8x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S1x8x8192x8192, .i1⟩
  | .hbm, ⟨29, _⟩ => ⟨S1x8x8192x8192, .f32⟩
  | .hbm, ⟨30, _⟩ => ⟨S1x8x8192x8192, .f32⟩
  | .hbm, ⟨31, _⟩ => ⟨S_, .f32⟩
  | .hbm, ⟨32, _⟩ => ⟨S1x8x8192x8192, .f32⟩
  | .hbm, ⟨33, _⟩ => ⟨S_, .f32⟩
  | .hbm, ⟨34, _⟩ => ⟨S1x8x8192, .f32⟩
  | .hbm, ⟨35, _⟩ => ⟨S1x8x8192x1, .f32⟩
  | .hbm, ⟨36, _⟩ => ⟨S1x8x8192x8192, .f32⟩
  | .hbm, ⟨37, _⟩ => ⟨S1x8x8192x8192, .i1⟩
  | .hbm, ⟨38, _⟩ => ⟨S1x8x8192x8192, .f32⟩
  | .hbm, ⟨39, _⟩ => ⟨S_, .f32⟩
  | .hbm, ⟨40, _⟩ => ⟨S1x8x8192, .f32⟩
  | .hbm, ⟨41, _⟩ => ⟨S_, .f32⟩
  | .hbm, ⟨42, _⟩ => ⟨S1x8x8192, .f32⟩
  | .hbm, ⟨43, _⟩ => ⟨S1x8x8192, .f32⟩
  | .hbm, ⟨44, _⟩ => ⟨S_, .f32⟩
  | .hbm, ⟨45, _⟩ => ⟨S1x8x8192, .f32⟩
  | .hbm, ⟨46, _⟩ => ⟨S1x8x8192, .i1⟩
  | .hbm, ⟨47, _⟩ => ⟨S_, .f32⟩
  | .hbm, ⟨48, _⟩ => ⟨S1x8x8192, .f32⟩
  | .hbm, ⟨49, _⟩ => ⟨S1x8x8192, .i1⟩
  | .hbm, ⟨50, _⟩ => ⟨S_, .f32⟩
  | .hbm, ⟨51, _⟩ => ⟨S1x8x8192, .f32⟩
  | .hbm, ⟨52, _⟩ => ⟨S_, .f32⟩
  | .hbm, ⟨53, _⟩ => ⟨S1x8x8192, .f32⟩
  | .hbm, ⟨54, _⟩ => ⟨S_, .f32⟩
  | .hbm, ⟨55, _⟩ => ⟨S1x8x8192, .f32⟩
  | .hbm, ⟨56, _⟩ => ⟨S1x8x8192, .f32⟩
  | .hbm, ⟨57, _⟩ => ⟨S1x8x8192, .f32⟩
  | .hbm, ⟨58, _⟩ => ⟨S1x8x8192x1, .f32⟩
  | .hbm, ⟨59, _⟩ => ⟨S1x8x8192x8192, .f32⟩
  | .hbm, ⟨60, _⟩ => ⟨S1x8x8192x8192, .f32⟩
  | .hbm, ⟨61, _⟩ => ⟨S1x8x8192x8192, .f32⟩
  | .hbm, ⟨62, _⟩ => ⟨S_, .f32⟩
  | .hbm, ⟨63, _⟩ => ⟨S1x8x8192, .f32⟩
  | .hbm, ⟨64, _⟩ => ⟨S1x8x8192x1, .f32⟩
  | .hbm, ⟨65, _⟩ => ⟨S1x8x8192x8192, .f32⟩
  | .hbm, ⟨66, _⟩ => ⟨S1x8x8192x8192, .f32⟩
  | .hbm, ⟨67, _⟩ => ⟨S1x8x8192x1, .f32⟩
  | .hbm, ⟨68, _⟩ => ⟨S_, .f32⟩
  | .hbm, ⟨69, _⟩ => ⟨S1x8x8192x1, .f32⟩
  | .hbm, ⟨70, _⟩ => ⟨S1x8x8192x1, .f32⟩
  | .hbm, ⟨71, _⟩ => ⟨S1x8x8192x64, .f32⟩
  | .hbm, ⟨72, _⟩ => ⟨S1x8192x8x64, .f32⟩
  | .hbm, ⟨73, _⟩ => ⟨S1x8192x512, .f32⟩
  | .hbm, ⟨74, _⟩ => ⟨S1x8192x8x64, .f32⟩
  | .hbm, ⟨75, _⟩ => ⟨S1x8x8192x64, .f32⟩
  | .hbm, ⟨76, _⟩ => ⟨S1x8x64x8192, .f32⟩
  | .hbm, ⟨77, _⟩ => ⟨S1x8x8192x64, .f32⟩
  | .hbm, ⟨78, _⟩ => ⟨S1x8x8192x8192, .f32⟩
  | .hbm, ⟨79, _⟩ => ⟨S1x8x8192x8192, .f32⟩
  | .hbm, ⟨80, _⟩ => ⟨S1x8x8192x8192, .f32⟩
  | .hbm, ⟨81, _⟩ => ⟨S1x8x8192x8192, .f32⟩
  | .hbm, ⟨82, _⟩ => ⟨S_, .f32⟩
  | .hbm, ⟨83, _⟩ => ⟨S1x8x8192, .f32⟩
  | .hbm, ⟨84, _⟩ => ⟨S1x8x8192x1, .f32⟩
  | .hbm, ⟨85, _⟩ => ⟨S1x8x8192x1, .f32⟩
  | .hbm, ⟨86, _⟩ => ⟨S1x8x8192x8192, .f32⟩
  | .hbm, ⟨87, _⟩ => ⟨S1x8x8192x8192, .f32⟩
  | .hbm, ⟨88, _⟩ => ⟨S_, .f32⟩
  | .hbm, ⟨89, _⟩ => ⟨S8x8192, .f32⟩
  | .hbm, ⟨90, _⟩ => ⟨S1x8x8192, .f32⟩
  | .hbm, ⟨91, _⟩ => ⟨S1x8x8192x8192, .f32⟩
  | .hbm, ⟨92, _⟩ => ⟨S1x8x8192x8192, .f32⟩
  | .hbm, ⟨93, _⟩ => ⟨S1x8x8192x8192, .f32⟩
  | .hbm, ⟨94, _⟩ => ⟨S_, .f32⟩
  | .hbm, ⟨95, _⟩ => ⟨S1x8x8192x8192, .f32⟩
  | .hbm, ⟨96, _⟩ => ⟨S1x8x8192x8192, .f32⟩
  | .hbm, ⟨97, _⟩ => ⟨S1x8x8192x8192, .f32⟩
  | .hbm, ⟨98, _⟩ => ⟨S_, .f32⟩
  | .hbm, ⟨99, _⟩ => ⟨S1x8x8192, .f32⟩
  | .hbm, ⟨100, _⟩ => ⟨S1x8x1x8192, .f32⟩
  | .hbm, ⟨101, _⟩ => ⟨S_, .f32⟩
  | .hbm, ⟨102, _⟩ => ⟨S8x8192, .f32⟩
  | .hbm, ⟨103, _⟩ => ⟨S1x8x8192, .f32⟩
  | .hbm, ⟨104, _⟩ => ⟨S_, .f32⟩
  | .hbm, ⟨105, _⟩ => ⟨S1x8x8192, .f32⟩
  | .hbm, ⟨106, _⟩ => ⟨S1x8x8192x1, .f32⟩
  | .hbm, ⟨107, _⟩ => ⟨S_, .f32⟩
  | .hbm, ⟨108, _⟩ => ⟨S8x8192, .f32⟩
  | .hbm, ⟨109, _⟩ => ⟨S1x8x8192, .f32⟩
  | .hbm, ⟨110, _⟩ => ⟨S1x8x8192, .f32⟩
  | .hbm, ⟨111, _⟩ => ⟨S_, .f32⟩
  | .hbm, ⟨112, _⟩ => ⟨S1x8x8192x8192, .f32⟩
  | .hbm, ⟨113, _⟩ => ⟨S1x8x8192x8192, .f32⟩
  | .hbm, ⟨114, _⟩ => ⟨S1x8x8192x64, .f32⟩
  | .hbm, ⟨115, _⟩ => ⟨S1x8x8192x64, .f32⟩
  | .hbm, ⟨116, _⟩ => ⟨S1x8192x8, .f32⟩
  | .hbm, ⟨117, _⟩ => ⟨S1x8192x8x64, .f32⟩
  | .hbm, ⟨118, _⟩ => ⟨S1x8192x8x64, .f32⟩
  | .hbm, ⟨119, _⟩ => ⟨S1x8192x8x64, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩
abbrev S256x1024 : Shape := ⟨2, ![256, 1024]⟩
abbrev S256x2816 : Shape := ⟨2, ![256, 2816]⟩
abbrev S256x1408 : Shape := ⟨2, ![256, 1408]⟩
abbrev S1408x1024 : Shape := ⟨2, ![1408, 1024]⟩
abbrev S256 : Shape := ⟨1, ![256]⟩
abbrev S256x1 : Shape := ⟨2, ![256, 1]⟩

abbrev nBuf : Space → Nat
  | .hbm => 45
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x2816, .f32⟩
  | .hbm, ⟨25, _⟩ => ⟨S8192x2816, .f32⟩
  | .hbm, ⟨26, _⟩ => ⟨S8192x2816, .bf16⟩
  | .hbm, ⟨27, _⟩ => ⟨S1024x2816, .f32⟩
  | .hbm, ⟨28, _⟩ => ⟨S8192x2816, .f32⟩
  | .hbm, ⟨29, _⟩ => ⟨S8192x2816, .bf16⟩
  | .hbm, ⟨30, _⟩ => ⟨S8192x1024, .f32⟩
  | .hbm, ⟨31, _⟩ => ⟨S8192x1024, .f32⟩
  | .hbm, ⟨32, _⟩ => ⟨S1024x2816, .f32⟩
  | .hbm, ⟨33, _⟩ => ⟨S2816x1024, .f32⟩
  | .hbm, ⟨34, _⟩ => ⟨S2816x1024, .bf16⟩
  | .hbm, ⟨35, _⟩ => ⟨S1024x2816, .f32⟩
  | .hbm, ⟨36, _⟩ => ⟨S2816x1024, .f32⟩
  | .hbm, ⟨37, _⟩ => ⟨S2816x1024, .bf16⟩
  | .hbm, ⟨38, _⟩ => ⟨S2816x1024, .f32⟩
  | .hbm, ⟨39, _⟩ => ⟨S2816x1024, .bf16⟩
  | .hbm, ⟨40, _⟩ => ⟨S8192x1024, .f32⟩
  | .hbm, ⟨41, _⟩ => ⟨S8192x2816, .bf16⟩
  | .hbm, ⟨42, _⟩ => ⟨S8192x2816, .bf16⟩
  | .hbm, ⟨43, _⟩ => ⟨S8192x2816, .bf16⟩
  | .hbm, ⟨44, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 96
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S8192x2816, .f32⟩
  | .hbm, ⟨30, _⟩ => ⟨S1024x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S2816x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x2816, .bf16⟩
  | .hbm, ⟨93, _⟩ => ⟨S8192x2816, .bf16⟩
  | .hbm, ⟨94, _⟩ => ⟨S8192x2816, .bf16⟩
  | .hbm, ⟨95, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v22_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v22_1 : Ref sig .tc := ⟨.hbm, 43, rfl⟩
abbrev main_v22_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Kernel5.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩

abbrev nBuf : Space → Nat
  | .hbm => 18
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8192x2816, .bf16⟩
  | .hbm, ⟨16, _⟩ => ⟨S8192x2816, .bf16⟩
  | .hbm, ⟨17, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S8192x2816, .f32⟩
  | .hbm, ⟨25, _⟩ => ⟨S1024x2816, .f32⟩
  | .hbm, ⟨26, _⟩ => ⟨S8192x2816, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S2816x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2816, .bf16⟩
  | .hbm, ⟨45, _⟩ => ⟨S8192x2816, .bf16⟩
  | .hbm, ⟨46, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel6.lean ====
abbrev S8192x1024 : Shape := ⟨2, ![8192, 1024]⟩
abbrev S8192x2176 : Shape := ⟨2, ![8192, 2176]⟩
abbrev S1024x2176 : Shape := ⟨2, ![1024, 2176]⟩
abbrev S1024x512 : Shape := ⟨2, ![1024, 512]⟩
abbrev S512x2176 : Shape := ⟨2, ![512, 2176]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S1024x2176, .f32⟩
  | .local _ .vmem, ⟨0, _⟩ => ⟨S1024x512, .bf16⟩
  | .local _ .vmem, ⟨1, _⟩ => ⟨S1024x512, .bf16⟩
  | .local _ .vmem, ⟨2, _⟩ => ⟨S1024x2176, .bf16⟩
  | .local _ .vmem, ⟨3, _⟩ => ⟨S1024x2176, .bf16⟩
  | .local _ .vmem, ⟨4, _⟩ => ⟨S512x2176, .f32⟩
  | .local _ .vmem, ⟨5, _⟩ => ⟨S512x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2176 : Shape := ⟨2, ![8192, 2176]⟩
abbrev S2176x1024 : Shape := ⟨2, ![2176, 1024]⟩
abbrev S1024x2176 : Shape := ⟨2, ![1024, 2176]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S8192x1024, .f32⟩
  | .hbm, ⟨3, _⟩ => ⟨S8192x2176, .f32⟩
  | .hbm, ⟨4, _⟩ => ⟨S2176x1024, .f32⟩
  | .hbm, ⟨5, _⟩ => ⟨S1024x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Step.lean ====
/- One grid point of the attention's backward kernel as a pure function.

   The kernel goes down the tiles of one column of keys: it adds, of the tiles on and below the diagonal one after
   another, what each contributes to the five accumulators (the gradients of q, k and v, the row sums and the column
   sums of the logits' gradient). `Acc` is the five accumulators, `upd` one tile's update, `accN` the state after the
   diagonal tile and the next `m` ones. -/
module

public import proofs.«01_k».proof.Proof.Gen.KernelIdeal.Frame
public import proofs.«01_k».proof.Proof.Gen.KernelIdeal.Loops
public import Idealize.ShloMosaic.Lib.VecWindow
public import Idealize.ShloMosaic.Lib.LoopRemainder

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open VecWindow (window put)

/-! ## The offsets of a trip, in closed form -/

theorem off5_1 : ∀ (i : grid0.Coords) (k : Fin (k0_t1_loop i).trips), k0_off5 i k 1#32 = ![0, 512 * ((i 1).val + 2 + 2 * k.val), 0] := by decide +kernel
theorem off5_2 : ∀ (i : grid0.Coords) (k : Fin (k0_t1_loop i).trips), k0_off5 i k 2#32 = ![0, 512 * min ((i 1).val + 3 + 2 * k.val) 15, 0] := by decide +kernel
theorem off6_eq : ∀ (i : grid0.Coords) (k : Fin (k0_t1_loop i).trips), k0_off6 i k = ![0, 512 * ((i 1).val + 1 + 2 * k.val), 0] := by decide +kernel
theorem off7_eq : ∀ (i : grid0.Coords) (k : Fin (k0_t1_loop i).trips), k0_off7 i k = ![0, (i 1).val + 1 + 2 * k.val, 0, 0] := by decide +kernel
theorem off8_eq : ∀ (i : grid0.Coords) (k : Fin (k0_t1_loop i).trips), k0_off8 i k = ![0, (i 1).val + 1 + 2 * k.val, 0] := by decide +kernel
theorem off9_eq : ∀ (i : grid0.Coords) (k : Fin (k0_t1_loop i).trips), k0_off9 i k = ![0, (i 1).val + 2 + 2 * k.val, 0, 0] := by decide +kernel
theorem off10_eq : ∀ (i : grid0.Coords) (k : Fin (k0_t1_loop i).trips), k0_off10 i k = ![0, (i 1).val + 2 + 2 * k.val, 0] := by decide +kernel

instance (i : grid0.Coords) (k : Fin (k0_t1_loop i).trips) : ClosedOff (k0_off5 i k 1#32) := ⟨_, off5_1 i k⟩
instance (i : grid0.Coords) (k : Fin (k0_t1_loop i).trips) : ClosedOff (k0_off5 i k 2#32) := ⟨_, off5_2 i k⟩
instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩

/-- The loop makes one trip for each two tiles below the diagonal. -/
theorem trips_eq : ∀ i : grid0.Coords, (k0_t1_loop i).trips = (15 - (i 1).val) / 2 := by decide +kernel

/-- A last tile is left over when the number of tiles below the diagonal is odd. -/
theorem odd_iff : ∀ i : grid0.Coords, k0_cond2 i = 1#1 ↔ (15 - (i 1).val) % 2 = 1 := by decide +kernel

/-! ## The pure step -/

variable {F : FTy → Type} [FloatOps F]

/-- The number of a tile, cut off at the last one, as the kernel cuts it off. -/
def ti (n : ℕ) : Fin 16 := ⟨min n 15, by omega⟩

theorem ti_val {n : ℕ} (h : n ≤ 15) : (ti n).val = n := Nat.min_eq_left h

/-- The rows of tile `n` of the queries (or of the output's gradient). -/
def rowsOf (x : Vec F S1x8192x128 .bf16) (n : Fin 16) : Vec F S1x512x128 .bf16 :=
  window x ![0, 512 * n.val, 0] S1x512x128.size (fun a => by have := n.isLt; fin_cases a <;> simp <;> omega)

theorem dq_inb (n : Fin 16) : ∀ a, (![0, n.val, 0, 0] : Fin 4 → ℕ) a + S1x1x128x512.size a ≤ S1x16x128x512.size a := fun a => by
  have := n.isLt; fin_cases a <;> simp <;> omega

theorem dc_inb (n : Fin 16) : ∀ a, (![0, n.val, 0] : Fin 3 → ℕ) a + S1x1x512.size a ≤ S1x16x512.size a := fun a => by
  have := n.isLt; fin_cases a <;> simp <;> omega

/-- The five accumulators: the gradients of q (every tile of the head), k and v (this column's tile), of the gates'
    row sums (every tile) and column sums (this column's tile). -/
structure Acc (F : FTy → Type) [FloatOps F] where
  dq : Vec F S1x16x128x512 .f32
  dk : Vec F S1x512x128 .f32
  dv : Vec F S1x512x128 .f32
  dc : Vec F S1x16x512 .f32
  dck : Vec F S512x1 .f32

/-- One tile's update: `p` the weights, `d` the products of the output's gradient with the values, `n` the tile. -/
def upd (kv qv dov : FVec F S512x128 .bf16) (p d : FVec F S512x512 .f32) (n : Fin 16) (a : Acc F) : Acc F where
  dq := put a.dq ![0, n.val, 0, 0] S1x1x128x512.size (k0_pay20 kv p d (window a.dq ![0, n.val, 0, 0] S1x1x128x512.size (dq_inb n)))
  dk := k0_pay19 qv p d a.dk
  dv := k0_pay16 dov p a.dv
  dc := put a.dc ![0, n.val, 0] S1x1x512.size (k0_pay23 (k0_pay17 p d) (window a.dc ![0, n.val, 0] S1x1x512.size (dc_inb n)))
  dck := k0_pay22 (k0_pay21 p d a.dck)

/-- The logits' tile `n` against this column's keys, and the products of the output's gradient with the values. -/
def sT (x0 : Vec F S1x8192x128 .bf16) (x2 : Vec F S1x512x128 .bf16) (n : Fin 16) : FVec F S512x512 .f32 := k0_pay11 (k0_pay63 x2) (rowsOf x0 n)
def dT (x1 : Vec F S1x8192x128 .bf16) (x3 : Vec F S1x512x128 .bf16) (n : Fin 16) : FVec F S512x512 .f32 := k0_pay12 (k0_pay64 x3) (rowsOf x1 n)

/-- The update by a tile below the diagonal. -/
def updT (x0 x1 : Vec F S1x8192x128 .bf16) (x2 x3 : Vec F S1x512x128 .bf16) (n : Fin 16) (a : Acc F) : Acc F :=
  upd (k0_pay63 x2) (k0_pay13 (rowsOf x0 n)) (k0_pay14 (rowsOf x1 n)) (k0_pay15 (sT x0 x2 n)) (dT x1 x3 n) n a

/-- The update by the diagonal tile: the weights of the later keys are zero. -/
def updD (x0 x1 : Vec F S1x8192x128 .bf16) (x2 x3 : Vec F S1x512x128 .bf16) (n : Fin 16) (a : Acc F) : Acc F :=
  upd (k0_pay63 x2) (k0_pay13 (rowsOf x0 n)) (k0_pay14 (rowsOf x1 n)) (k0_pay71 (sT x0 x2 n)) (dT x1 x3 n) n a

theorem updT_dq (x0 x1 : Vec F S1x8192x128 .bf16) (x2 x3 : Vec F S1x512x128 .bf16) (n : Fin 16) (a : Acc F) :
    (updT x0 x1 x2 x3 n a).dq = put a.dq ![0, n.val, 0, 0] S1x1x128x512.size
      (k0_pay20 (k0_pay63 x2) (k0_pay15 (sT x0 x2 n)) (dT x1 x3 n) (window a.dq ![0, n.val, 0, 0] S1x1x128x512.size (dq_inb n))) := rfl

theorem updT_dc (x0 x1 : Vec F S1x8192x128 .bf16) (x2 x3 : Vec F S1x512x128 .bf16) (n : Fin 16) (a : Acc F) :
    (updT x0 x1 x2 x3 n a).dc = put a.dc ![0, n.val, 0] S1x1x512.size
      (k0_pay23 (k0_pay17 (k0_pay15 (sT x0 x2 n)) (dT x1 x3 n)) (window a.dc ![0, n.val, 0] S1x1x512.size (dc_inb n))) := rfl

/-- Another tile of the queries' gradient is as it was. -/
theorem window_updT_dq (x0 x1 : Vec F S1x8192x128 .bf16) (x2 x3 : Vec F S1x512x128 .bf16) (n : Fin 16) (a : Acc F) (m : Fin 16) (h : n.val ≠ m.val) :
    window (updT x0 x1 x2 x3 n a).dq ![0, m.val, 0, 0] S1x1x128x512.size (dq_inb m) = window a.dq ![0, m.val, 0, 0] S1x1x128x512.size (dq_inb m) :=
  VecWindow.window_put_of_disjoint _ _ _ _ _ _ _ (1 : Fin 4) (by show m.val + 1 ≤ n.val ∨ n.val + 1 ≤ m.val; omega)

/-- Another tile of the gates' gradient is as it was. -/
theorem window_updT_dc (x0 x1 : Vec F S1x8192x128 .bf16) (x2 x3 : Vec F S1x512x128 .bf16) (n : Fin 16) (a : Acc F) (m : Fin 16) (h : n.val ≠ m.val) :
    window (updT x0 x1 x2 x3 n a).dc ![0, m.val, 0] S1x1x512.size (dc_inb m) = window a.dc ![0, m.val, 0] S1x1x512.size (dc_inb m) :=
  VecWindow.window_put_of_disjoint _ _ _ _ _ _ _ (1 : Fin 3) (by show m.val + 1 ≤ n.val ∨ n.val + 1 ≤ m.val; omega)

/-- What a column starts from: `dq` and `dc` as the columns before left them, the others zero. -/
def acc₀ (dq : Vec F S1x16x128x512 .f32) (dc : Vec F S1x16x512 .f32) : Acc F := ⟨dq, k0_pay60, k0_pay61, dc, k0_pay62⟩

/-- The accumulators after the diagonal tile `j` and the `m` tiles below it. -/
def accN (x0 x1 : Vec F S1x8192x128 .bf16) (x2 x3 : Vec F S1x512x128 .bf16) (j : Fin 16) (dq : Vec F S1x16x128x512 .f32) (dc : Vec F S1x16x512 .f32) : ℕ → Acc F
  | 0 => updD x0 x1 x2 x3 j (acc₀ dq dc)
  | m + 1 => updT x0 x1 x2 x3 (ti (j.val + 1 + m)) (accN x0 x1 x2 x3 j dq dc m)

/-- The gates' gradient once the column is done: the column sums are taken off tile `j`. -/
def dcEnd (j : Fin 16) (a : Acc F) : Vec F S1x16x512 .f32 :=
  put a.dc ![0, j.val, 0] S1x1x512.size (k0_pay10 (window a.dc ![0, j.val, 0] S1x1x512.size (dc_inb j)) a.dck)

end Cert.KernelIdeal.Bwd

end
-- ==== Proof.Trip.lean ====
/- One trip of the kernel's loop: two tiles below the diagonal. -/
module

public import proofs.«01_k».proof.Proof.Step

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

theorem rows_read (M : Memref sig .tc .vmem S1x8192x128 .bf16) (hM : M.IsWhole) (x : Vec F S1x8192x128 .bf16) {off : Fin 3 → ℕ}
    (inb : ∀ a, off a + (![1, 512, 128] : Fin 3 → ℕ) a ≤ S1x8192x128.size a) (n : Fin 16) (h : off = ![0, 512 * n.val, 0]) :
    M.view.readAt (Elt F) (Rect.unit (s := S1x8192x128) off ![1, 512, 128] inb).toLoadRect (hM.unread x) = rowsOf x n := by
  subst h
  exact (View.readAt_unit M.view _ _ rfl _).trans (by rw [hM.read_unread]; rfl)

/-! Loads of a whole buffer, and of what was just stored into it, at the extents the run prints. -/

theorem readB {e : EltTy} (M : Memref sig .tc .vmem S512x512 e) (hM : M.IsWhole) (x : Vec F S512x512 e) (inb : ∀ a, (![0, 0] : Fin 2 → ℕ) a + (![512, 512] : Fin 2 → ℕ) a ≤ S512x512.size a) :
    M.view.readAt (Elt F) (Rect.unit (s := S512x512) ![0, 0] ![512, 512] inb).toLoadRect (hM.unread x) = x :=
  (View.readAt_full M.view _ _).trans (hM.read_unread _)

theorem covB (M : Memref sig .tc .vmem S512x512 .f32) (inb inb' : ∀ a, (![0, 0] : Fin 2 → ℕ) a + (![512, 512] : Fin 2 → ℕ) a ≤ S512x512.size a)
    (w : Vec F S512x512 .f32) (L : List (View.Piece (Elt F) S512x512 .f32)) :
    M.view.readCov (⟨Rect.unit (s := S512x512) ![0, 0] ![512, 512] inb', w⟩ :: L) (Rect.unit (s := S512x512) ![0, 0] ![512, 512] inb).toLoadRect = w :=
  View.readCov_full M.view _ _ w L

theorem readC {e : EltTy} (M : Memref sig .tc .vmem S512x1 e) (hM : M.IsWhole) (x : Vec F S512x1 e) (inb : ∀ a, (![0, 0] : Fin 2 → ℕ) a + (![512, 1] : Fin 2 → ℕ) a ≤ S512x1.size a) :
    M.view.readAt (Elt F) (Rect.unit (s := S512x1) ![0, 0] ![512, 1] inb).toLoadRect (hM.unread x) = x :=
  (View.readAt_full M.view _ _).trans (hM.read_unread _)

theorem covC (M : Memref sig .tc .vmem S512x1 .f32) (inb inb' : ∀ a, (![0, 0] : Fin 2 → ℕ) a + (![512, 1] : Fin 2 → ℕ) a ≤ S512x1.size a)
    (w : Vec F S512x1 .f32) (L : List (View.Piece (Elt F) S512x1 .f32)) :
    M.view.readCov (⟨Rect.unit (s := S512x1) ![0, 0] ![512, 1] inb', w⟩ :: L) (Rect.unit (s := S512x1) ![0, 0] ![512, 1] inb).toLoadRect = w :=
  View.readCov_full M.view _ _ w L

theorem readK {e : EltTy} (M : Memref sig .tc .vmem S1x512x128 e) (hM : M.IsWhole) (x : Vec F S1x512x128 e) (inb : ∀ a, (![0, 0, 0] : Fin 3 → ℕ) a + (![1, 512, 128] : Fin 3 → ℕ) a ≤ S1x512x128.size a) :
    M.view.readAt (Elt F) (Rect.unit (s := S1x512x128) ![0, 0, 0] ![1, 512, 128] inb).toLoadRect (hM.unread x) = x :=
  (View.readAt_full M.view _ _).trans (hM.read_unread _)

theorem covK (M : Memref sig .tc .vmem S1x512x128 .f32) (inb inb' : ∀ a, (![0, 0, 0] : Fin 3 → ℕ) a + (![1, 512, 128] : Fin 3 → ℕ) a ≤ S1x512x128.size a)
    (w : Vec F S1x512x128 .f32) (L : List (View.Piece (Elt F) S1x512x128 .f32)) :
    M.view.readCov (⟨Rect.unit (s := S1x512x128) ![0, 0, 0] ![1, 512, 128] inb', w⟩ :: L) (Rect.unit (s := S1x512x128) ![0, 0, 0] ![1, 512, 128] inb).toLoadRect = w :=
  View.readCov_full M.view _ _ w L

/-- A tile of the queries' gradient, read where it lies. -/
theorem readQ (M : Memref sig .tc .vmem S1x16x128x512 .f32) (hM : M.IsWhole) (x : Vec F S1x16x128x512 .f32) {off : Fin 4 → ℕ}
    (inb : ∀ a, off a + (![1, 1, 128, 512] : Fin 4 → ℕ) a ≤ S1x16x128x512.size a) (n : Fin 16) (h : off = ![0, n.val, 0, 0]) :
    M.view.readAt (Elt F) (Rect.unit (s := S1x16x128x512) off ![1, 1, 128, 512] inb).toLoadRect (hM.unread x)
      = window x ![0, n.val, 0, 0] S1x1x128x512.size (dq_inb n) := by
  subst h
  exact (View.readAt_unit M.view _ _ rfl _).trans (by rw [hM.read_unread])

/-- A tile of the gates' gradient, read where it lies. -/
theorem readG (M : Memref sig .tc .vmem S1x16x512 .f32) (hM : M.IsWhole) (x : Vec F S1x16x512 .f32) {off : Fin 3 → ℕ}
    (inb : ∀ a, off a + (![1, 1, 512] : Fin 3 → ℕ) a ≤ S1x16x512.size a) (n : Fin 16) (h : off = ![0, n.val, 0]) :
    M.view.readAt (Elt F) (Rect.unit (s := S1x16x512) off ![1, 1, 512] inb).toLoadRect (hM.unread x)
      = window x ![0, n.val, 0] S1x1x512.size (dc_inb n) := by
  subst h
  exact (View.readAt_unit M.view _ _ rfl _).trans (by rw [hM.read_unread])

section Args
variable (c : Dev nD) (i : grid0.Coords)
  (arg2 : Memref sig .tc .vmem S1x8192x128 .bf16) (harg2 : arg2.IsWhole) (arg3 : Memref sig .tc .vmem S1x8192x128 .bf16) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S1x16x128x512 .f32) (harg6 : arg6.IsWhole) (arg7 : Memref sig .tc .vmem S1x512x128 .f32) (harg7 : arg7.IsWhole)
  (arg8 : Memref sig .tc .vmem S1x512x128 .f32) (harg8 : arg8.IsWhole) (arg9 : Memref sig .tc .vmem S1x16x512 .f32) (harg9 : arg9.IsWhole)
  (arg10 : Memref sig .tc .vmem S512x1 .f32) (harg10 : arg10.IsWhole) (arg11 : Memref sig .tc .vmem S512x512 .f32) (harg11 : arg11.IsWhole)
  (arg12 : Memref sig .tc .vmem S512x512 .f32) (harg12 : arg12.IsWhole) (arg13 : Memref sig .tc .vmem S512x512 .f32) (harg13 : arg13.IsWhole)
  (arg14 : Memref sig .tc .vmem S512x512 .f32) (harg14 : arg14.IsWhole)
  (x0 x1 : Vec F S1x8192x128 .bf16) (x2 x3 : Vec F S1x512x128 .bf16)

/-- What a trip owns: the queries and the output's gradient, the accumulators at `a`, the second pair of product
    buffers at the products of tile `n`, the first pair at anything. -/
def tripOwns (a : Acc F) (n : Fin 16) : sProp 𝕄 :=
  iprop(owns (c : Thread nD τ) arg2 fullShare x0 ∗ owns (c : Thread nD τ) arg3 fullShare x1 ∗ owns (c : Thread nD τ) arg6 fullShare a.dq
    ∗ owns (c : Thread nD τ) arg7 fullShare a.dk ∗ owns (c : Thread nD τ) arg8 fullShare a.dv ∗ owns (c : Thread nD τ) arg9 fullShare a.dc
    ∗ owns (c : Thread nD τ) arg10 fullShare a.dck ∗ (∃ d, owns (c : Thread nD τ) arg11 fullShare d) ∗ (∃ d, owns (c : Thread nD τ) arg12 fullShare d)
    ∗ owns (c : Thread nD τ) arg13 fullShare (sT x0 x2 n) ∗ owns (c : Thread nD τ) arg14 fullShare (dT x1 x3 n))

include harg2 harg3 harg6 harg7 harg8 harg9 harg10 harg13 harg14 in
set_option maxHeartbeats 2000000 in
theorem trip (a : Acc F) (k : Fin (k0_t1_loop i).trips) (w0 w1 : BitVec 32) (E : Set ℕ) :
    tripOwns c arg2 arg3 arg6 arg7 arg8 arg9 arg10 arg11 arg12 arg13 arg14 x0 x1 x2 x3 a (ti ((i 1).val + 1 + 2 * k.val))
      ⊢ wp frame (wpE (defs₀ (F := F)) Variants.none c none) E
          (k0_t1_body i arg2 harg2 arg3 harg3 arg4 harg4 arg5 harg5 arg6 harg6 arg7 harg7 arg8 harg8 arg9 harg9 arg10 harg10 arg11 harg11 arg12 harg12 arg13 harg13 arg14 harg14
            w0 (k0_pay63 x2) (k0_pay64 x3) w1 k ())
          (fun _ => tripOwns c arg2 arg3 arg6 arg7 arg8 arg9 arg10 arg11 arg12 arg13 arg14 x0 x1 x2 x3
            (updT x0 x1 x2 x3 (ti ((i 1).val + 1 + (2 * k.val + 1))) (updT x0 x1 x2 x3 (ti ((i 1).val + 1 + 2 * k.val)) a)) (ti ((i 1).val + 1 + 2 * (k.val + 1)))) := by
  unfold k0_t1_body
  simp only [k0_part1_eq_skeleton, k0_part2_eq_skeleton, k0_part3_eq_skeleton, k0_part4_eq_skeleton]
  unfold tripOwns owns
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩⟩
  obtain rfl := harg2.eq_unread hf2; obtain rfl := harg3.eq_unread hf3; obtain rfl := harg6.eq_unread hf6; obtain rfl := harg7.eq_unread hf7
  obtain rfl := harg8.eq_unread hf8; obtain rfl := harg9.eq_unread hf9; obtain rfl := harg10.eq_unread hf10
  obtain rfl := harg13.eq_unread hf13; obtain rfl := harg14.eq_unread hf14
  have hk : (i 1).val + 2 + 2 * k.val ≤ 15 := by have := lt_of_lt_of_eq k.isLt (trips_eq i); omega
  have e5 : k0_off5 i k 1#32 = ![0, 512 * (ti ((i 1).val + 1 + (2 * k.val + 1))).val, 0] := by
    rw [off5_1, ti_val (by omega), show (i 1).val + 1 + (2 * k.val + 1) = (i 1).val + 2 + 2 * k.val by omega]
  have e5' : k0_off5 i k 2#32 = ![0, 512 * (ti ((i 1).val + 1 + 2 * (k.val + 1))).val, 0] := by
    rw [off5_2, show (i 1).val + 1 + 2 * (k.val + 1) = (i 1).val + 3 + 2 * k.val by omega]; rfl
  have e6 : k0_off6 i k = ![0, 512 * (ti ((i 1).val + 1 + 2 * k.val)).val, 0] := by rw [off6_eq, ti_val (by omega)]
  have e7 : k0_off7 i k = ![0, (ti ((i 1).val + 1 + 2 * k.val)).val, 0, 0] := by rw [off7_eq, ti_val (by omega)]
  have e8 : k0_off8 i k = ![0, (ti ((i 1).val + 1 + 2 * k.val)).val, 0] := by rw [off8_eq, ti_val (by omega)]
  have e9 : k0_off9 i k = ![0, (ti ((i 1).val + 1 + (2 * k.val + 1))).val, 0, 0] := by rw [off9_eq, ti_val (by omega), show (i 1).val + 1 + (2 * k.val + 1) = (i 1).val + 2 + 2 * k.val by omega]
  have e10 : k0_off10 i k = ![0, (ti ((i 1).val + 1 + (2 * k.val + 1))).val, 0] := by rw [off10_eq, ti_val (by omega), show (i 1).val + 1 + (2 * k.val + 1) = (i 1).val + 2 + 2 * k.val by omega]
  have hn : (ti ((i 1).val + 1 + 2 * k.val)).val ≠ (ti ((i 1).val + 1 + (2 * k.val + 1))).val := by rw [ti_val (by omega), ti_val (by omega)]; omega
  generalize ti ((i 1).val + 1 + 2 * k.val) = n0 at *
  generalize ti ((i 1).val + 1 + (2 * k.val + 1)) = n1 at *
  generalize ti ((i 1).val + 1 + 2 * (k.val + 1)) = n2 at *
  sl_exec
  sl_step
  isplitl [H2]
  · iexists _; isplitr; swap; · iexact H2
    ipureintro; exact harg2.read_unread _
  isplitl [H3]
  · iexists _; isplitr; swap; · iexact H3
    ipureintro; exact harg3.read_unread _
  isplitl [H6]
  · iexists _; isplitr; swap; · iexact H6
    ipureintro; sl_unfold_run_names
    rw [View.read_writes_cons_put _ _ _ _ _ e9, View.read_writes_cons_put _ _ _ _ _ e7, View.writes_nil, harg6.read_unread]
    simp only [covB, covC, covK, readB arg13 harg13, readB arg14 harg14, readC arg10 harg10, readK arg7 harg7, readK arg8 harg8,
      rows_read arg2 harg2 x0 _ n1 e5, rows_read arg3 harg3 x1 _ n1 e5, rows_read arg2 harg2 x0 _ n0 e6, rows_read arg3 harg3 x1 _ n0 e6,
      readQ arg6 harg6 _ _ n0 e7, readQ arg6 harg6 _ _ n1 e9, readG arg9 harg9 _ _ n0 e8, readG arg9 harg9 _ _ n1 e10]
    rw [updT_dq, window_updT_dq _ _ _ _ _ _ _ hn, updT_dq]
    rfl
  isplitl [H7]
  · iexists _; isplitr; swap; · iexact H7
    ipureintro; sl_unfold_run_names
    rw [View.read_writes_full]
    simp only [covB, covC, covK, readB arg13 harg13, readB arg14 harg14, readC arg10 harg10, readK arg7 harg7, readK arg8 harg8,
      rows_read arg2 harg2 x0 _ n1 e5, rows_read arg3 harg3 x1 _ n1 e5, rows_read arg2 harg2 x0 _ n0 e6, rows_read arg3 harg3 x1 _ n0 e6,
      readQ arg6 harg6 _ _ n0 e7, readQ arg6 harg6 _ _ n1 e9, readG arg9 harg9 _ _ n0 e8, readG arg9 harg9 _ _ n1 e10]
    rfl
  isplitl [H8]
  · iexists _; isplitr; swap; · iexact H8
    ipureintro; sl_unfold_run_names
    rw [View.read_writes_full]
    simp only [covB, covC, covK, readB arg13 harg13, readB arg14 harg14, readC arg10 harg10, readK arg7 harg7, readK arg8 harg8,
      rows_read arg2 harg2 x0 _ n1 e5, rows_read arg3 harg3 x1 _ n1 e5, rows_read arg2 harg2 x0 _ n0 e6, rows_read arg3 harg3 x1 _ n0 e6,
      readQ arg6 harg6 _ _ n0 e7, readQ arg6 harg6 _ _ n1 e9, readG arg9 harg9 _ _ n0 e8, readG arg9 harg9 _ _ n1 e10]
    rfl
  isplitl [H9]
  · iexists _; isplitr; swap; · iexact H9
    ipureintro; sl_unfold_run_names
    rw [View.read_writes_cons_put _ _ _ _ _ e10, View.read_writes_cons_put _ _ _ _ _ e8, View.writes_nil, harg9.read_unread]
    simp only [covB, covC, covK, readB arg13 harg13, readB arg14 harg14, readC arg10 harg10, readK arg7 harg7, readK arg8 harg8,
      rows_read arg2 harg2 x0 _ n1 e5, rows_read arg3 harg3 x1 _ n1 e5, rows_read arg2 harg2 x0 _ n0 e6, rows_read arg3 harg3 x1 _ n0 e6,
      readQ arg6 harg6 _ _ n0 e7, readQ arg6 harg6 _ _ n1 e9, readG arg9 harg9 _ _ n0 e8, readG arg9 harg9 _ _ n1 e10]
    rw [updT_dc, window_updT_dc _ _ _ _ _ _ _ hn, updT_dc]
    rfl
  isplitl [H10]
  · iexists _; isplitr; swap; · iexact H10
    ipureintro; sl_unfold_run_names
    erw [View.read_writes_full]
    simp only [covB, covC, covK, readB arg13 harg13, readB arg14 harg14, readC arg10 harg10, readK arg7 harg7, readK arg8 harg8,
      rows_read arg2 harg2 x0 _ n1 e5, rows_read arg3 harg3 x1 _ n1 e5, rows_read arg2 harg2 x0 _ n0 e6, rows_read arg3 harg3 x1 _ n0 e6,
      readQ arg6 harg6 _ _ n0 e7, readQ arg6 harg6 _ _ n1 e9, readG arg9 harg9 _ _ n0 e8, readG arg9 harg9 _ _ n1 e10]
    rfl
  isplitl [H11]
  · iexists _, _; isplitr; swap; · iexact H11
    ipureintro; rfl
  isplitl [H12]
  · iexists _, _; isplitr; swap; · iexact H12
    ipureintro; rfl
  isplitl [H13]
  · iexists _; isplitr; swap; · iexact H13
    ipureintro; rw [View.read_writes_full]; exact congrArg (k0_pay24 _) (rows_read arg2 harg2 x0 _ n2 e5')
  iexists _; isplitr; swap; · iexact H14
  ipureintro; rw [View.read_writes_full]; exact congrArg (k0_pay25 _) (rows_read arg3 harg3 x1 _ n2 e5')

end Args

end Cert.KernelIdeal.Bwd

end
-- ==== Proof.Body.lean ====
/- The kernel's loop and its whole body at one grid point. -/
module

public import proofs.«01_k».proof.Proof.Trip
public import Idealize.ShloMosaic.Lib.LaneScatter.Fold

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-! The offsets of the diagonal tile and of the tile after it. -/

theorem o1 : ∀ i : grid0.Coords, k0_off1 i = ![0, 512 * (i 1).val, 0] := by decide +kernel
theorem o2 : ∀ i : grid0.Coords, k0_off2 i = ![0, 512 * min ((i 1).val + 1) 15, 0] := by decide +kernel
theorem o3 : ∀ i : grid0.Coords, k0_off3 i = ![0, (i 1).val, 0, 0] := by decide +kernel
theorem o4 : ∀ i : grid0.Coords, k0_off4 i = ![0, (i 1).val, 0] := by decide +kernel

/-- A tile of the gates' gradient, read after the last tile was stored. -/
theorem readG_other (M : Memref sig .tc .vmem S1x16x512 .f32) (hM : M.IsWhole) (x : Vec F S1x16x512 .f32) {off : Fin 3 → ℕ}
    (inb : ∀ a, off a + (![1, 1, 512] : Fin 3 → ℕ) a ≤ S1x16x512.size a) (n : Fin 16) (h : off = ![0, n.val, 0])
    (inb' : ∀ a, (![0, 15, 0] : Fin 3 → ℕ) a + (![1, 1, 512] : Fin 3 → ℕ) a ≤ S1x16x512.size a) (w : Vec F S1x1x512 .f32) (hne : (15 : Fin 16).val ≠ n.val) :
    M.view.readAt (Elt F) (Rect.unit (s := S1x16x512) off ![1, 1, 512] inb).toLoadRect
        (M.view.writes (Elt F) (hM.unread x) [⟨Rect.unit (s := S1x16x512) ![0, 15, 0] ![1, 1, 512] inb', w⟩])
      = window x ![0, n.val, 0] S1x1x512.size (dc_inb n) := by
  subst h
  refine (View.readAt_unit M.view _ _ rfl _).trans ?_
  rw [View.read_writes_cons_put _ _ _ _ _ (show _ = ![0, (15 : Fin 16).val, 0] from rfl), View.writes_nil, hM.read_unread]
  exact VecWindow.window_put_of_disjoint _ _ _ _ _ _ _ (1 : Fin 3) (by have := n.isLt; show n.val + 1 ≤ 15 ∨ 15 + 1 ≤ n.val; have : 15 ≠ n.val := hne; omega)

section Args
variable (c : Dev nD) (i : grid0.Coords)
  (arg2 : Memref sig .tc .vmem S1x8192x128 .bf16) (harg2 : arg2.IsWhole) (arg3 : Memref sig .tc .vmem S1x8192x128 .bf16) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S1x16x128x512 .f32) (harg6 : arg6.IsWhole) (arg7 : Memref sig .tc .vmem S1x512x128 .f32) (harg7 : arg7.IsWhole)
  (arg8 : Memref sig .tc .vmem S1x512x128 .f32) (harg8 : arg8.IsWhole) (arg9 : Memref sig .tc .vmem S1x16x512 .f32) (harg9 : arg9.IsWhole)
  (arg10 : Memref sig .tc .vmem S512x1 .f32) (harg10 : arg10.IsWhole) (arg11 : Memref sig .tc .vmem S512x512 .f32) (harg11 : arg11.IsWhole)
  (arg12 : Memref sig .tc .vmem S512x512 .f32) (harg12 : arg12.IsWhole) (arg13 : Memref sig .tc .vmem S512x512 .f32) (harg13 : arg13.IsWhole)
  (arg14 : Memref sig .tc .vmem S512x512 .f32) (harg14 : arg14.IsWhole)
  (x0 x1 : Vec F S1x8192x128 .bf16) (x2 x3 : Vec F S1x512x128 .bf16)

include harg2 harg3 harg6 harg7 harg8 harg9 harg10 harg13 harg14 in
/-- The whole loop: two tiles a trip, from the diagonal tile on. -/
theorem loop (dq : Vec F S1x16x128x512 .f32) (dc : Vec F S1x16x512 .f32) (w0 w1 : BitVec 32) (E : Set ℕ)
    (kv vv : FVec F S512x128 .bf16) (hkv : kv = k0_pay63 x2) (hvv : vv = k0_pay64 x3) :
    tripOwns c arg2 arg3 arg6 arg7 arg8 arg9 arg10 arg11 arg12 arg13 arg14 x0 x1 x2 x3 (accN x0 x1 x2 x3 (i 1) dq dc 0) (ti ((i 1).val + 1))
      ⊢ wp frame (wpE (defs₀ (F := F)) Variants.none c none) E
          (Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 w0 kv vv w1))
          (fun _ => tripOwns c arg2 arg3 arg6 arg7 arg8 arg9 arg10 arg11 arg12 arg13 arg14 x0 x1 x2 x3 (accN x0 x1 x2 x3 (i 1) dq dc (2 * (k0_t1_loop i).trips))
            (ti ((i 1).val + 1 + 2 * (k0_t1_loop i).trips))) := by
  subst hkv hvv
  have hstep := fun (k : Fin (k0_t1_loop i).trips) (acc : PUnit) =>
    trip c i arg2 harg2 arg3 harg3 arg4 harg4 arg5 harg5 arg6 harg6 arg7 harg7 arg8 harg8 arg9 harg9 arg10 harg10 arg11 harg11 arg12 harg12 arg13 harg13 arg14 harg14 x0 x1 x2 x3 (accN x0 x1 x2 x3 (i 1) dq dc (2 * k.val)) k w0 w1 E
  generalize k0_t1_body i arg2 harg2 arg3 harg3 arg4 harg4 arg5 harg5 arg6 harg6 arg7 harg7 arg8 harg8 arg9 harg9 arg10 harg10 arg11 harg11 arg12 harg12 arg13 harg13 arg14 harg14 w0 (k0_pay63 x2) (k0_pay64 x3) w1 = B at hstep ⊢
  iintro H
  iapply (Scf.wp_for _ _ _ _ _ _ _ _ B
    (fun k _ => tripOwns c arg2 arg3 arg6 arg7 arg8 arg9 arg10 arg11 arg12 arg13 arg14 x0 x1 x2 x3 (accN x0 x1 x2 x3 (i 1) dq dc (2 * k)) (ti ((i 1).val + 1 + 2 * k))) hstep)
  isplitl [H]
  · iexact H
  iintro %_ H
  iexact H

/-- The first column of a head is the one that zeroes the gradients carried over the head. -/
abbrev first (i : grid0.Coords) : Prop := (Scalar.cmpi .ne (Scalar.extui (Scalar.cmpi .eq (BitVec.ofNat 32 (i 1).val) 0#32)) 0#32) = 1#1

/-- The accumulators at the end of a column. -/
def colEnd (j : Fin 16) (dq : Vec F S1x16x128x512 .f32) (dc : Vec F S1x16x512 .f32) : Acc F := accN x0 x1 x2 x3 j dq dc (15 - j.val)

set_option maxHeartbeats 2000000 in
/-- A later column of a head: the gradients carried over the head come in at `dq` and `dc`. -/
theorem body_later (hc : ¬ first i) (dq : Vec F S1x16x128x512 .f32) (dc : Vec F S1x16x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare dq ∗ (∃ d, owns (c : Thread nD τ) arg7 fullShare d) ∗ (∃ d, owns (c : Thread nD τ) arg8 fullShare d) ∗ owns (c : Thread nD τ) arg9 fullShare dc
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (colEnd x0 x1 x2 x3 (i 1) dq dc).dq ∗ owns (c : Thread nD τ) arg7 fullShare (colEnd x0 x1 x2 x3 (i 1) dq dc).dk
        ∗ owns (c : Thread nD τ) arg8 fullShare (colEnd x0 x1 x2 x3 (i 1) dq dc).dv ∗ owns (c : Thread nD τ) arg9 fullShare (dcEnd (i 1) (colEnd x0 x1 x2 x3 (i 1) dq dc))
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part10_eq_skeleton, k0_part11_eq_skeleton, k0_part12_eq_skeleton, k0_part13_eq_skeleton, k0_part9_eq_skeleton]
  have hl := fun w0 w1 kv vv hkv hvv => loop c i arg2 harg2 arg3 harg3 arg4 harg4 arg5 harg5 arg6 harg6 arg7 harg7 arg8 harg8 arg9 harg9 arg10 harg10 arg11 harg11 arg12 harg12 arg13 harg13 arg14 harg14 x0 x1 x2 x3 dq dc w0 w1 E kv vv hkv hvv
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5
  obtain rfl := harg6.eq_unread hf6; obtain rfl := harg9.eq_unread hf9
  generalize hB : @k0_t1_body = B at hl ⊢
  sl_exec (disch := sl_exact hc)
  have he1 : body_later.sl.r c arg4 harg4 x2 = k0_pay63 x2 := by sl_unfold_run_names; rw [View.readAt_full, harg4.read_unread]
  have he2 : body_later.sl.r_1 c arg5 harg5 x3 = k0_pay64 x3 := by sl_unfold_run_names; rw [View.readAt_full, harg5.read_unread]
  have hbd := fun {Q : Unit → Prog (TpuEff nD τ sig (Elt F) Λ₀ .tc) PUnit} => LaneScatter.bind_of_run frame (wpE (defs₀ (F := F)) Variants.none c none) E (hl (BitVec.ofNat 32 (i 1).val) 0#32 _ _ he1 he2) Q K
  have e1 := o1 i; have e2 : k0_off2 i = ![0, 512 * (ti ((i 1).val + 1)).val, 0] := o2 i; have e3 := o3 i; have e4 := o4 i
  have hj := (i 1).isLt
  iapply hbd
  isplitl [H2 H3 H6 H7 H8 H9 H10 H11 H12 H13 H14]
  · unfold tripOwns owns
    isplitl [H2]
    · iexists _; isplitr; swap; · iexact H2
      ipureintro; exact harg2.read_unread _
    isplitl [H3]
    · iexists _; isplitr; swap; · iexact H3
      ipureintro; exact harg3.read_unread _
    isplitl [H6]
    · iexists _; isplitr; swap; · iexact H6
      ipureintro; sl_unfold_run_names
      rw [View.read_writes_cons_put _ _ _ _ _ e3, View.writes_nil, harg6.read_unread]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
      rfl
    isplitl [H7]
    · iexists _; isplitr; swap; · iexact H7
      ipureintro; sl_unfold_run_names
      rw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
      rfl
    isplitl [H8]
    · iexists _; isplitr; swap; · iexact H8
      ipureintro; sl_unfold_run_names
      rw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
      rfl
    isplitl [H9]
    · iexists _; isplitr; swap; · iexact H9
      ipureintro; sl_unfold_run_names
      rw [View.read_writes_cons_put _ _ _ _ _ e4, View.writes_nil, harg9.read_unread]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
      rfl
    isplitl [H10]
    · iexists _; isplitr; swap; · iexact H10
      ipureintro; sl_unfold_run_names
      erw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
      rfl
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro; sl_unfold_run_names; rw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
      rfl
    iexists _; isplitr; swap; · iexact H14
    ipureintro; sl_unfold_run_names; rw [View.read_writes_full]
    simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        readQ arg6 harg6 _ _ (i 1) e3, readG arg9 harg9 _ _ (i 1) e4]
    rfl
  unfold tripOwns owns
  iintro ⟨⟨%g2, %hg2, H2⟩, ⟨%g3, %hg3, H3⟩, ⟨%g6, %hg6, H6⟩, ⟨%g7, %hg7, H7⟩, ⟨%g8, %hg8, H8⟩, ⟨%g9, %hg9, H9⟩, ⟨%g10, %hg10, H10⟩, ⟨%e11, %g11, -, H11⟩, ⟨%e12, %g12, -, H12⟩, ⟨%g13, %hg13, H13⟩, ⟨%g14, %hg14, H14⟩⟩
  obtain rfl := harg2.eq_unread hg2; obtain rfl := harg3.eq_unread hg3; obtain rfl := harg6.eq_unread hg6; obtain rfl := harg7.eq_unread hg7
  obtain rfl := harg8.eq_unread hg8; obtain rfl := harg9.eq_unread hg9; obtain rfl := harg10.eq_unread hg10
  obtain rfl := harg13.eq_unread hg13; obtain rfl := harg14.eq_unread hg14
  clear hl hbd he1 he2
  by_cases hc2 : k0_cond2 i = 1#1
  · have hodd := (odd_iff i).mp hc2
    have e17 : k0_off17 = ![0, 512 * (15 : Fin 16).val, 0] := rfl
    have ht : ti ((i 1).val + 1 + 2 * (k0_t1_loop i).trips) = (15 : Fin 16) := Fin.ext (by rw [trips_eq, ti_val (by omega)]; show _ = 15; omega)
    have hend : colEnd x0 x1 x2 x3 (i 1) dq dc = updT x0 x1 x2 x3 15 (accN x0 x1 x2 x3 (i 1) dq dc (2 * (k0_t1_loop i).trips)) := by
      unfold colEnd
      rw [show 15 - (i 1).val = 2 * (k0_t1_loop i).trips + 1 by rw [trips_eq]; omega]
      exact congrArg (fun n => updT x0 x1 x2 x3 n _) ht
    have hne : (15 : Fin 16).val ≠ (i 1).val := by show 15 ≠ (i 1).val; omega
    rw [ht, hend]
    generalize accN x0 x1 x2 x3 (i 1) dq dc (2 * (k0_t1_loop i).trips) = a at *
    sl_exec (disch := sl_exact hc2)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; sl_unfold_run_names
      rw [View.read_writes_cons_put _ _ _ _ _ (show _ = ![0, (15 : Fin 16).val, 0, 0] from rfl), View.writes_nil, harg6.read_unread]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      rfl
    isplitl [H7]
    · iexists _; isplitr; swap; · iexact H7
      ipureintro; sl_unfold_run_names
      rw [View.read_writes_full]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      rfl
    isplitl [H8]
    · iexists _; isplitr; swap; · iexact H8
      ipureintro; sl_unfold_run_names
      rw [View.read_writes_full]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      rfl
    isplitl [H9]
    · iexists _; isplitr; swap; · iexact H9
      ipureintro; sl_unfold_run_names
      rw [View.read_writes_cons_put _ _ _ _ _ e4, View.read_writes_cons_put _ _ _ _ _ (show _ = ![0, (15 : Fin 16).val, 0] from rfl), View.writes_nil, harg9.read_unread]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      unfold dcEnd
      rw [window_updT_dc _ _ _ _ _ _ _ hne, updT_dc]
      rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl
  · have hodd : ¬ (15 - (i 1).val) % 2 = 1 := fun h => hc2 ((odd_iff i).mpr h)
    have hend : colEnd x0 x1 x2 x3 (i 1) dq dc = accN x0 x1 x2 x3 (i 1) dq dc (2 * (k0_t1_loop i).trips) := by
      unfold colEnd
      rw [show 15 - (i 1).val = 2 * (k0_t1_loop i).trips by rw [trips_eq]; omega]
    rw [hend]
    generalize accN x0 x1 x2 x3 (i 1) dq dc (2 * (k0_t1_loop i).trips) = a at *
    sl_exec (disch := sl_exact hc2)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; sl_unfold_run_names
      rw [View.read_writes_cons_put _ _ _ _ _ e4, View.writes_nil, harg9.read_unread]
      simp only [readC arg10 harg10, readG arg9 harg9 _ _ (i 1) e4]
      rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Args

end Cert.KernelIdeal.Bwd

end
-- ==== Proof.BodyFirst.lean ====
/- The kernel's body at the first column of a head: the gradients carried over the head start from zero. -/
module

public import proofs.«01_k».proof.Proof.Body

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-- A tile of the queries' gradient, read after all of it was stored. -/
theorem covQ (M : Memref sig .tc .vmem S1x16x128x512 .f32) {f : BufTy.Contents (Elt F) M.view.ty} (w : Vec F S1x16x128x512 .f32) {off : Fin 4 → ℕ}
    (inb : ∀ a, off a + (![1, 1, 128, 512] : Fin 4 → ℕ) a ≤ S1x16x128x512.size a) (n : Fin 16) (h : off = ![0, n.val, 0, 0])
    (inb' : ∀ a, (![0, 0, 0, 0] : Fin 4 → ℕ) a + (![1, 16, 128, 512] : Fin 4 → ℕ) a ≤ S1x16x128x512.size a) :
    M.view.readAt (Elt F) (Rect.unit (s := S1x16x128x512) off ![1, 1, 128, 512] inb).toLoadRect
        (M.view.writes (Elt F) f [⟨Rect.unit (s := S1x16x128x512) ![0, 0, 0, 0] ![1, 16, 128, 512] inb', w⟩])
      = window w ![0, n.val, 0, 0] S1x1x128x512.size (dq_inb n) := by
  subst h
  exact (View.readAt_unit M.view _ _ rfl _).trans (by erw [View.read_writes_full])

/-- A tile of the gates' gradient, read after all of it was stored. -/
theorem covG (M : Memref sig .tc .vmem S1x16x512 .f32) {f : BufTy.Contents (Elt F) M.view.ty} (w : Vec F S1x16x512 .f32) {off : Fin 3 → ℕ}
    (inb : ∀ a, off a + (![1, 1, 512] : Fin 3 → ℕ) a ≤ S1x16x512.size a) (n : Fin 16) (h : off = ![0, n.val, 0])
    (inb' : ∀ a, (![0, 0, 0] : Fin 3 → ℕ) a + (![1, 16, 512] : Fin 3 → ℕ) a ≤ S1x16x512.size a) :
    M.view.readAt (Elt F) (Rect.unit (s := S1x16x512) off ![1, 1, 512] inb).toLoadRect
        (M.view.writes (Elt F) f [⟨Rect.unit (s := S1x16x512) ![0, 0, 0] ![1, 16, 512] inb', w⟩])
      = window w ![0, n.val, 0] S1x1x512.size (dc_inb n) := by
  subst h
  exact (View.readAt_unit M.view _ _ rfl _).trans (by erw [View.read_writes_full])

section Args
variable (c : Dev nD) (i : grid0.Coords)
  (arg2 : Memref sig .tc .vmem S1x8192x128 .bf16) (harg2 : arg2.IsWhole) (arg3 : Memref sig .tc .vmem S1x8192x128 .bf16) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S1x16x128x512 .f32) (harg6 : arg6.IsWhole) (arg7 : Memref sig .tc .vmem S1x512x128 .f32) (harg7 : arg7.IsWhole)
  (arg8 : Memref sig .tc .vmem S1x512x128 .f32) (harg8 : arg8.IsWhole) (arg9 : Memref sig .tc .vmem S1x16x512 .f32) (harg9 : arg9.IsWhole)
  (arg10 : Memref sig .tc .vmem S512x1 .f32) (harg10 : arg10.IsWhole) (arg11 : Memref sig .tc .vmem S512x512 .f32) (harg11 : arg11.IsWhole)
  (arg12 : Memref sig .tc .vmem S512x512 .f32) (harg12 : arg12.IsWhole) (arg13 : Memref sig .tc .vmem S512x512 .f32) (harg13 : arg13.IsWhole)
  (arg14 : Memref sig .tc .vmem S512x512 .f32) (harg14 : arg14.IsWhole)
  (x0 x1 : Vec F S1x8192x128 .bf16) (x2 x3 : Vec F S1x512x128 .bf16)

set_option maxHeartbeats 2000000 in
/-- The first column of a head. -/
theorem body_first (hc : first i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
      ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare (colEnd x0 x1 x2 x3 (i 1) k0_pay58 k0_pay59).dq ∗ owns (c : Thread nD τ) arg7 fullShare (colEnd x0 x1 x2 x3 (i 1) k0_pay58 k0_pay59).dk
        ∗ owns (c : Thread nD τ) arg8 fullShare (colEnd x0 x1 x2 x3 (i 1) k0_pay58 k0_pay59).dv ∗ owns (c : Thread nD τ) arg9 fullShare (dcEnd (i 1) (colEnd x0 x1 x2 x3 (i 1) k0_pay58 k0_pay59))
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part10_eq_skeleton, k0_part11_eq_skeleton, k0_part12_eq_skeleton, k0_part13_eq_skeleton, k0_part9_eq_skeleton]
  have hl := fun w0 w1 kv vv hkv hvv => loop c i arg2 harg2 arg3 harg3 arg4 harg4 arg5 harg5 arg6 harg6 arg7 harg7 arg8 harg8 arg9 harg9 arg10 harg10 arg11 harg11 arg12 harg12 arg13 harg13 arg14 harg14 x0 x1 x2 x3 k0_pay58 k0_pay59 w0 w1 E kv vv hkv hvv
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5
  generalize hB : @k0_t1_body = B at hl ⊢
  sl_exec (disch := sl_exact hc)
  have he1 : body_first.sl.r c arg4 harg4 x2 = k0_pay63 x2 := by sl_unfold_run_names; rw [View.readAt_full, harg4.read_unread]
  have he2 : body_first.sl.r_1 c arg5 harg5 x3 = k0_pay64 x3 := by sl_unfold_run_names; rw [View.readAt_full, harg5.read_unread]
  have hbd := fun {Q : Unit → Prog (TpuEff nD τ sig (Elt F) Λ₀ .tc) PUnit} => LaneScatter.bind_of_run frame (wpE (defs₀ (F := F)) Variants.none c none) E (hl (BitVec.ofNat 32 (i 1).val) 0#32 _ _ he1 he2) Q K
  have e1 := o1 i; have e2 : k0_off2 i = ![0, 512 * (ti ((i 1).val + 1)).val, 0] := o2 i; have e3 := o3 i; have e4 := o4 i
  have hj := (i 1).isLt
  iapply hbd
  isplitl [H2 H3 H6 H7 H8 H9 H10 H11 H12 H13 H14]
  · unfold tripOwns owns
    isplitl [H2]
    · iexists _; isplitr; swap; · iexact H2
      ipureintro; exact harg2.read_unread _
    isplitl [H3]
    · iexists _; isplitr; swap; · iexact H3
      ipureintro; exact harg3.read_unread _
    isplitl [H6]
    · iexists _; isplitr; swap; · iexact H6
      ipureintro; sl_unfold_run_names
      rw [View.read_writes_cons_put _ _ _ _ _ e3, View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
      rfl
    isplitl [H7]
    · iexists _; isplitr; swap; · iexact H7
      ipureintro; sl_unfold_run_names
      rw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
      rfl
    isplitl [H8]
    · iexists _; isplitr; swap; · iexact H8
      ipureintro; sl_unfold_run_names
      rw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
      rfl
    isplitl [H9]
    · iexists _; isplitr; swap; · iexact H9
      ipureintro; sl_unfold_run_names
      rw [View.read_writes_cons_put _ _ _ _ _ e4, View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
      rfl
    isplitl [H10]
    · iexists _; isplitr; swap; · iexact H10
      ipureintro; sl_unfold_run_names
      erw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
      rfl
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro; sl_unfold_run_names; rw [View.read_writes_full]
      simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
      rfl
    iexists _; isplitr; swap; · iexact H14
    ipureintro; sl_unfold_run_names; rw [View.read_writes_full]
    simp only [covB, covC, covK, readB arg13 harg13, readB arg14 harg14, readC arg10 harg10, readK arg4 harg4, readK arg5 harg5,
        rows_read arg2 harg2 x0 _ (i 1) e1, rows_read arg3 harg3 x1 _ (i 1) e1, rows_read arg2 harg2 x0 _ _ e2, rows_read arg3 harg3 x1 _ _ e2,
        covQ arg6 _ _ (i 1) e3, covG arg9 _ _ (i 1) e4]
    rfl
  unfold tripOwns owns
  iintro ⟨⟨%g2, %hg2, H2⟩, ⟨%g3, %hg3, H3⟩, ⟨%g6, %hg6, H6⟩, ⟨%g7, %hg7, H7⟩, ⟨%g8, %hg8, H8⟩, ⟨%g9, %hg9, H9⟩, ⟨%g10, %hg10, H10⟩, ⟨%e11, %g11, -, H11⟩, ⟨%e12, %g12, -, H12⟩, ⟨%g13, %hg13, H13⟩, ⟨%g14, %hg14, H14⟩⟩
  obtain rfl := harg2.eq_unread hg2; obtain rfl := harg3.eq_unread hg3; obtain rfl := harg6.eq_unread hg6; obtain rfl := harg7.eq_unread hg7
  obtain rfl := harg8.eq_unread hg8; obtain rfl := harg9.eq_unread hg9; obtain rfl := harg10.eq_unread hg10
  obtain rfl := harg13.eq_unread hg13; obtain rfl := harg14.eq_unread hg14
  clear hl hbd he1 he2
  by_cases hc2 : k0_cond2 i = 1#1
  · have hodd := (odd_iff i).mp hc2
    have e17 : k0_off17 = ![0, 512 * (15 : Fin 16).val, 0] := rfl
    have ht : ti ((i 1).val + 1 + 2 * (k0_t1_loop i).trips) = (15 : Fin 16) := Fin.ext (by rw [trips_eq, ti_val (by omega)]; show _ = 15; omega)
    have hend : colEnd x0 x1 x2 x3 (i 1) k0_pay58 k0_pay59 = updT x0 x1 x2 x3 15 (accN x0 x1 x2 x3 (i 1) k0_pay58 k0_pay59 (2 * (k0_t1_loop i).trips)) := by
      unfold colEnd
      rw [show 15 - (i 1).val = 2 * (k0_t1_loop i).trips + 1 by rw [trips_eq]; omega]
      exact congrArg (fun n => updT x0 x1 x2 x3 n _) ht
    have hne : (15 : Fin 16).val ≠ (i 1).val := by show 15 ≠ (i 1).val; omega
    rw [ht, hend]
    generalize accN x0 x1 x2 x3 (i 1) k0_pay58 k0_pay59 (2 * (k0_t1_loop i).trips) = a at *
    sl_exec (disch := sl_exact hc2)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; sl_unfold_run_names
      rw [View.read_writes_cons_put _ _ _ _ _ (show _ = ![0, (15 : Fin 16).val, 0, 0] from rfl), View.writes_nil, harg6.read_unread]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      rfl
    isplitl [H7]
    · iexists _; isplitr; swap; · iexact H7
      ipureintro; sl_unfold_run_names
      rw [View.read_writes_full]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      rfl
    isplitl [H8]
    · iexists _; isplitr; swap; · iexact H8
      ipureintro; sl_unfold_run_names
      rw [View.read_writes_full]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      rfl
    isplitl [H9]
    · iexists _; isplitr; swap; · iexact H9
      ipureintro; sl_unfold_run_names
      rw [View.read_writes_cons_put _ _ _ _ _ e4, View.read_writes_cons_put _ _ _ _ _ (show _ = ![0, (15 : Fin 16).val, 0] from rfl), View.writes_nil, harg9.read_unread]
      simp only [covB, covC, covK, readB arg13 harg13, readB arg14 harg14, readC arg10 harg10, readK arg4 harg4, readK arg5 harg5, readK arg7 harg7, readK arg8 harg8,
        rows_read arg2 harg2 x0 _ 15 e17, rows_read arg3 harg3 x1 _ 15 e17,
        readQ arg6 harg6 _ (off := ![0, 15, 0, 0]) _ 15 rfl, readG arg9 harg9 _ (off := ![0, 15, 0]) _ 15 rfl, readG_other arg9 harg9 _ _ (i 1) e4 _ _ hne]
      unfold dcEnd
      rw [window_updT_dc _ _ _ _ _ _ _ hne, updT_dc]
      rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl
  · have hodd : ¬ (15 - (i 1).val) % 2 = 1 := fun h => hc2 ((odd_iff i).mpr h)
    have hend : colEnd x0 x1 x2 x3 (i 1) k0_pay58 k0_pay59 = accN x0 x1 x2 x3 (i 1) k0_pay58 k0_pay59 (2 * (k0_t1_loop i).trips) := by
      unfold colEnd
      rw [show 15 - (i 1).val = 2 * (k0_t1_loop i).trips by rw [trips_eq]; omega]
    rw [hend]
    generalize accN x0 x1 x2 x3 (i 1) k0_pay58 k0_pay59 (2 * (k0_t1_loop i).trips) = a at *
    sl_exec (disch := sl_exact hc2)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; sl_unfold_run_names
      rw [View.read_writes_cons_put _ _ _ _ _ e4, View.writes_nil, harg9.read_unread]
      simp only [readC arg10 harg10, readG arg9 harg9 _ _ (i 1) e4]
      rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Args

end Cert.KernelIdeal.Bwd

end
-- ==== Proof.Run.lean ====
/- The kernel's run: what every grid point leaves in its buffers, and the launch. -/
module

public import proofs.«01_k».proof.Proof.Body
public import proofs.«01_k».proof.Proof.BodyFirst
public import proofs.«01_k».proof.Proof.Gen.KernelIdeal.Points
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- Grid point number `n`. -/
def pt (n : ℕ) : Fin cfg0.N := ⟨min n 127, by rw [show cfg0.N = 128 from N_0]; omega⟩

theorem pt_val (t : Fin cfg0.N) : pt t.val = t := Fin.ext (by have := lt_of_lt_of_eq t.isLt (show cfg0.N = 128 from N_0); show min t.val 127 = t.val; omega)

/-- The accumulators at the end of point `t`, from the head's gradients `s` as it finds them. -/
def col (c : Dev nD) (t : Fin cfg0.N) (s : Vec F S1x16x128x512 .f32 × Vec F S1x16x512 .f32) : Acc F :=
  colEnd (iblk m c 0 t) (iblk m c 1 t) (iblk m c 2 t) (iblk m c 3 t) (grid0.coords t 1) s.1 s.2

/-- What point `t` hands on: the head's gradients of q and of the gates. -/
def next (c : Dev nD) (t : Fin cfg0.N) (s : Vec F S1x16x128x512 .f32 × Vec F S1x16x512 .f32) : Vec F S1x16x128x512 .f32 × Vec F S1x16x512 .f32 :=
  ((col m c t s).dq, dcEnd (grid0.coords t 1) (col m c t s))

/-- The head's gradients as point `n` finds them: zero at the first column of each head. -/
def ins (c : Dev nD) : ℕ → Vec F S1x16x128x512 .f32 × Vec F S1x16x512 .f32
  | 0 => (k0_pay58, k0_pay59)
  | n + 1 => if (n + 1) % 16 = 0 then (k0_pay58, k0_pay59) else next m c (pt n) (ins c n)

theorem ins_first (c : Dev nD) (n : ℕ) (h : n % 16 = 0) : ins m c n = (k0_pay58, k0_pay59) := by
  cases n with
  | zero => rfl
  | succ n => exact if_pos h

theorem ins_later (c : Dev nD) (n : ℕ) (h : (n + 1) % 16 ≠ 0) : ins m c (n + 1) = next m c (pt n) (ins m c n) := if_neg h

theorem first_iff : ∀ t : Fin cfg0.N, first (grid0.coords t) ↔ t.val % 16 = 0 :=
  (by decide +kernel : ∀ t : Fin grid0.N, first (grid0.coords t) ↔ t.val % 16 = 0)

/-! ## The memrefs a point is given -/

abbrev ms0_0 (t : Fin cfg0.N) : Memref sig .tc .vmem S1x8192x128 .bf16 := win0_0.stage (cfg0.slots t 0)
abbrev ms0_1 (t : Fin cfg0.N) : Memref sig .tc .vmem S1x8192x128 .bf16 := win0_1.stage (cfg0.slots t 1)
abbrev ms0_2 (t : Fin cfg0.N) : Memref sig .tc .vmem S1x512x128 .bf16 := win0_2.stage (cfg0.slots t 2)
abbrev ms0_3 (t : Fin cfg0.N) : Memref sig .tc .vmem S1x512x128 .bf16 := win0_3.stage (cfg0.slots t 3)
abbrev ms0_4 (t : Fin cfg0.N) : Memref sig .tc .vmem S1x16x128x512 .f32 := win0_4.stage (cfg0.slots t 4)
abbrev ms0_5 (t : Fin cfg0.N) : Memref sig .tc .vmem S1x512x128 .f32 := win0_5.stage (cfg0.slots t 5)
abbrev ms0_6 (t : Fin cfg0.N) : Memref sig .tc .vmem S1x512x128 .f32 := win0_6.stage (cfg0.slots t 6)
abbrev ms0_7 (t : Fin cfg0.N) : Memref sig .tc .vmem S1x16x512 .f32 := win0_7.stage (cfg0.slots t 7)
abbrev scM0_0 : Memref sig .tc .vmem S512x1 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S512x512 .f32 := Memref.whole cc0_scratch3
abbrev scM0_4 : Memref sig .tc .vmem S512x512 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- The arrays as the region finds them; the inputs' buffers at their blocks; the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (next m c t (ins m c t.val)).1
    | ⟨5, _⟩ => (col m c t (ins m c t.val)).dk
    | ⟨6, _⟩ => (col m c t (ins m c t.val)).dv
    | ⟨7, _⟩ => (next m c t (ins m c t.val)).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (next m c t (ins m c t.val)).1 := by dsimp only [dats]
theorem after0_5 (c : Dev nD) (t : Fin cfg0.N) : (dats m 0 c).after 5 t = (col m c t (ins m c t.val)).dk := by dsimp only [dats]
theorem after0_6 (c : Dev nD) (t : Fin cfg0.N) : (dats m 0 c).after 6 t = (col m c t (ins m c t.val)).dv := by dsimp only [dats]
theorem after0_7 (c : Dev nD) (t : Fin cfg0.N) : (dats m 0 c).after 7 t = (next m c t (ins m c t.val)).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A point that is no head's first finds the gradients as the point before left them. -/
theorem ins_pos (c : Dev nD) (t : Fin cfg0.N) (h : t.val % 16 ≠ 0) :
    ins m c t.val = next m c ⟨t.val - 1, Nat.lt_of_le_of_lt (Nat.sub_le _ _) t.isLt⟩ (ins m c (t.val - 1)) := by
  obtain ⟨n, hn⟩ := t
  cases n with
  | zero => exact absurd rfl h
  | succ n =>
    refine (ins_later m c n h).trans ?_
    rw [show pt n = (⟨n, by omega⟩ : Fin cfg0.N) from pt_val ⟨n, by omega⟩]
    rfl

theorem before0_4 (c : Dev nD) (t : Fin cfg0.N) (h : t.val % 16 ≠ 0) (d) : (dats m 0 c).before 4 t d = (ins m c t.val).1 := by
  rw [(dats m 0 c).before_out_kept 4 rfl t (fun h0 => h (by rw [h0])) (by
    rw [Bool.eq_false_iff]; intro hf; have h15 : (t.val - 1) % 16 = 15 := (flush0_4 _).mp hf; omega) (fun _ => rfl) (fun _ _ => rfl) d, after0_4, ins_pos m c t h]

theorem before0_7 (c : Dev nD) (t : Fin cfg0.N) (h : t.val % 16 ≠ 0) (d) : (dats m 0 c).before 7 t d = (ins m c t.val).2 := by
  rw [(dats m 0 c).before_out_kept 7 rfl t (fun h0 => h (by rw [h0])) (by
    rw [Bool.eq_false_iff]; intro hf; have h15 : (t.val - 1) % 16 = 15 := (flush0_7 _).mp hf; omega) (fun _ => rfl) (fun _ _ => rfl) d, after0_7, ins_pos m c t h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  by_cases h0 : t.val % 16 = 0
  · rw [ins_first m c _ h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ _ _ _ _ _ _ _ _ (iblk m c 0 t) (iblk m c 1 t) (iblk m c 2 t) (iblk m c 3 t) ((first_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_4 m c t h0, before0_7 m c t h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ _ _ _ _ _ _ _ _ (iblk m c 0 t) (iblk m c 1 t) (iblk m c 2 t) (iblk m c 3 t) (fun h => h0 ((first_iff t).mp h)) (ins m c t.val).1 (ins m c t.val).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with the arrays as the points leave them, everything else as the host lines leave it, and every
    semaphore at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as they were, and every semaphore is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Bwd

end
-- ==== Proof.Same.lean ====
/- The kernel as printed and the kernel at the extended reals are one program: the definitions of the two agree one by
   one, so that the run proved for the second is the run of the first. -/
module

public import proofs.«01_k».proof.Defs
public import proofs.«01_k».proof.Proof.Gen.Kernel
public import proofs.«01_k».proof.Proof.Run

@[expose] public section

set_option maxRecDepth 16384
set_option maxHeartbeats 1000000

noncomputable section

namespace Cert.Same

open Idealize.ShloMosaic Idealize.SL.Sem

variable {F : FTy → Type} [FloatOps F]

/-- The host operations before the call, first part. -/
theorem part0 : Cert.Kernel.main_part0 (F := F) = Cert.KernelIdeal.main_part0 (F := F) := by
  delta Cert.Kernel.main_part0 Cert.KernelIdeal.main_part0
  rfl

/-- The host operations before the call, second part. -/
theorem part1 : Cert.Kernel.main_part1 (F := F) = Cert.KernelIdeal.main_part1 (F := F) := by
  delta Cert.Kernel.main_part1 Cert.KernelIdeal.main_part1
  rfl

/-- The call and the host operations after it. -/
theorem part2 : Cert.Kernel.main_part2 (F := F) = Cert.KernelIdeal.main_part2 (F := F) := by
  delta Cert.Kernel.main_part2 Cert.KernelIdeal.main_part2
  rfl

/-- The whole host program. -/
theorem main_eq : Cert.Kernel.main (F := F) = Cert.KernelIdeal.main (F := F) := by
  delta Cert.Kernel.main Cert.KernelIdeal.main
  rw [part0, part1, part2]
  rfl

/-- The kernel's body. -/
theorem body : @Cert.Kernel.cc0_attn_bwd F _ _ = @Cert.KernelIdeal.cc0_attn_bwd F _ _ := by
  delta Cert.Kernel.cc0_attn_bwd Cert.KernelIdeal.cc0_attn_bwd
  rfl

/-- The label of the call. -/
theorem defs₀_eq : Cert.Kernel.defs₀ (F := F) = Cert.KernelIdeal.defs₀ (F := F) := by
  delta Cert.Kernel.defs₀ Cert.KernelIdeal.defs₀
  refine congrArg Defs.onTc ?_
  funext l a
  match l, a with
  | 0, (t, s) => rw [body]; rfl
  | ⟨_ + 1, h⟩, _ => exact absurd h (Nat.not_lt.2 (Nat.le_add_left _ _))

/-- All labels. -/
theorem defs_eq : Cert.Kernel.defs (F := F) = Cert.KernelIdeal.defs (F := F) := by
  delta Cert.Kernel.defs Cert.KernelIdeal.defs
  rw [defs₀_eq]
  rfl

/-- The kernel as printed runs, leaves its arguments and ends with its counters at zero: the run of the kernel at any
    float values. -/
theorem frame : Cert.quiescent_Kernel := fun m ρ _ => by
  rw [defs_eq, main_eq]
  exact Cert.KernelIdeal.Bwd.frame_all (F := Bits) m ρ

end Cert.Same

end
-- ==== Proof.HostIn.lean ====
/- The host lines around the kernel, stage by stage: what they hand to it, and what they return of what it left. -/
module

public import proofs.«01_k».proof.Proof.Run
public import Idealize.ShloMosaic.Lib.Pipeline.ValueKit
public import Idealize.ShloMosaic.Lib.StableHlo.RunRead
public import Idealize.ShloMosaic.Lib.WordCmp
public import Idealize.ShloMosaic.Lib.IdealHost

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.StableHlo

/-- The queries, by heads, scaled. -/
def kq (a : FVec Ideal S1x8192x8x64 .f32) : FVec Ideal S8x8192x64 .f32 :=
  mulf (transpose S8x8192x64 [1, 0, 2] (shapeCast S8192x8x64 a shapeCasts_S1x8192x8x64_S8192x8x64) transposes_S8192x8x64_S8x8192x64_1_0_2) (broadcastInDim S8x8192x64 ![] bcast_S_S8x8192x64 ((constant S_ .f32 0x3E000000#32)))

/-- The keys, by heads. -/
def kk (a : FVec Ideal S1x8192x8x64 .f32) : FVec Ideal S8x8192x64 .f32 :=
  transpose S8x8192x64 [1, 0, 2] (shapeCast S8192x8x64 a shapeCasts_S1x8192x8x64_S8192x8x64) transposes_S8192x8x64_S8x8192x64_1_0_2

/-- The values, by heads. -/
def kv (a : FVec Ideal S1x8192x8x64 .f32) : FVec Ideal S8x8192x64 .f32 :=
  transpose S8x8192x64 [1, 0, 2] (shapeCast S8192x8x64 a shapeCasts_S1x8192x8x64_S8192x8x64) transposes_S8192x8x64_S8x8192x64_1_0_2

/-- The cumulative gates, by heads. -/
def kc (a : FVec Ideal S1x8192x8 .f32) : FVec Ideal S8x8192 .f32 :=
  transpose S8x8192 [1, 0] (shapeCast S8192x8 a shapeCasts_S1x8192x8_S8192x8) transposes_S8192x8_S8x8192_1_0

/-- The output's gradient, by heads. -/
def kg (a : FVec Ideal S1x8192x512 .f32) : FVec Ideal S8x8192x64 .f32 :=
  transpose S8x8192x64 [1, 0, 2] (shapeCast S8192x8x64 (shapeCast S8192x512 a shapeCasts_S1x8192x512_S8192x512) shapeCasts_S8192x512_S8192x8x64) transposes_S8192x8x64_S8x8192x64_1_0_2

/-- The logits, masked. -/
def kL (q : FVec Ideal S8x8192x64 .f32) (k : FVec Ideal S8x8192x64 .f32) (c : FVec Ideal S8x8192 .f32) : FVec Ideal S8x8192x8192 .f32 :=
  select (broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 ((iotaInDim S8192 32 0)))) (broadcastInDim S8192x8192 ![0, 1] bcast_S8192x1_S8192x8192_0_1 (broadcastInDim S8192x1 ![0] bcast_S8192_S8192x1_0 ((iotaInDim S8192 32 0))))))) (subf (addf (Host.dotGeneral dot_S8x8192x64_S8x8192x64_S8x8192x8192_2_2_1_1_0_0 none q k) (broadcastInDim S8x8192x8192 ![0, 1, 2] bcast_S8x8192x1_S8x8192x8192_0_1_2 (broadcastInDim S8x8192x1 ![0, 1] bcast_S8x8192_S8x8192x1_0_1 c))) (broadcastInDim S8x8192x8192 ![0, 1, 2] bcast_S8x1x8192_S8x8192x8192_0_1_2 (broadcastInDim S8x1x8192 ![0, 2] bcast_S8x8192_S8x1x8192_0_2 c))) (broadcastInDim S8x8192x8192 ![] bcast_S_S8x8192x8192 ((constant S_ .f32 0xFF800000#32)))

/-- Each row's maximum. -/
def kM (x : FVec Ideal S8x8192x8192 .f32) : FVec Ideal S8x8192 .f32 :=
  Host.reduce FloatOps.maximumf x ((constant S_ .f32 0xFF800000#32)) reducesTo_S8x8192x8192_S8x8192_d2 h_S_

/-- The exponentials under the maximum. -/
def kE (x : FVec Ideal S8x8192x8192 .f32) (y : FVec Ideal S8x8192 .f32) : FVec Ideal S8x8192x8192 .f32 :=
  Host.exp (subf x (broadcastInDim S8x8192x8192 ![0, 1, 2] bcast_S8x8192x1_S8x8192x8192_0_1_2 (broadcastInDim S8x8192x1 ![0, 1] bcast_S8x8192_S8x8192x1_0_1 y)))

/-- Each row's sum. -/
def kT (e : FVec Ideal S8x8192x8192 .f32) : FVec Ideal S8x8192 .f32 :=
  Host.reduceAdd e ((constant S_ .f32 0x00000000#32)) reducesTo_S8x8192x8192_S8x8192_d2 h_S_

/-- The gate less the logarithm of the sum of exponentials. -/
def kLse (y : FVec Ideal S8x8192 .f32) (t : FVec Ideal S8x8192 .f32) (c : FVec Ideal S8x8192 .f32) : FVec Ideal S8x8192 .f32 :=
  addf (Host.negf (addf y (Host.log t))) c

/-- Each output with its gradient. -/
def kDel (e : FVec Ideal S8x8192x8192 .f32) (v : FVec Ideal S8x8192x64 .f32) (t : FVec Ideal S8x8192 .f32) (g : FVec Ideal S8x8192x64 .f32) : FVec Ideal S8x8192 .f32 :=
  Host.reduceAdd (mulf (Host.divf (Host.dotGeneral dot_S8x8192x8192_S8x8192x64_S8x8192x64_2_1_1_2_0_0 none e v) (broadcastInDim S8x8192x64 ![0, 1, 2] bcast_S8x8192x1_S8x8192x64_0_1_2 (broadcastInDim S8x8192x1 ![0, 1] bcast_S8x8192_S8x8192x1_0_1 t))) g) ((constant S_ .f32 0x00000000#32)) reducesTo_S8x8192x64_S8x8192_d2 h_S_

/-- The queries' operand: the queries, three lanes of minus one, the gate less the log-sum in three pieces. -/
def kQaug (q : FVec Ideal S8x8192x64 .f32) (x : FVec Ideal S8x8192 .f32) : FVec Ideal S8x8192x128 .bf16 :=
  concatenate S8x8192x128 2 [⟨S8x8192x64, (truncf .bf16 q bitsLt_bf16_f32)⟩, ⟨S8x8192x1, (broadcastInDim S8x8192x1 ![0, 1] bcast_S8x8192_S8x8192x1_0_1 (truncf .bf16 (Host.negf (broadcastInDim S8x8192 ![] bcast_S_S8x8192 ((constant S_ .f32 0x3F800000#32)))) bitsLt_bf16_f32))⟩, ⟨S8x8192x1, (broadcastInDim S8x8192x1 ![0, 1] bcast_S8x8192_S8x8192x1_0_1 (truncf .bf16 (Host.negf (broadcastInDim S8x8192 ![] bcast_S_S8x8192 ((constant S_ .f32 0x3F800000#32)))) bitsLt_bf16_f32))⟩, ⟨S8x8192x1, (broadcastInDim S8x8192x1 ![0, 1] bcast_S8x8192_S8x8192x1_0_1 (truncf .bf16 (Host.negf (broadcastInDim S8x8192 ![] bcast_S_S8x8192 ((constant S_ .f32 0x3F800000#32)))) bitsLt_bf16_f32))⟩, ⟨S8x8192x1, (broadcastInDim S8x8192x1 ![0, 1] bcast_S8x8192_S8x8192x1_0_1 (truncf .bf16 x bitsLt_bf16_f32))⟩, ⟨S8x8192x1, (broadcastInDim S8x8192x1 ![0, 1] bcast_S8x8192_S8x8192x1_0_1 (truncf .bf16 (subf x (extf .f32 (truncf .bf16 x bitsLt_bf16_f32) bitsLt_bf16_f32)) bitsLt_bf16_f32))⟩, ⟨S8x8192x1, (broadcastInDim S8x8192x1 ![0, 1] bcast_S8x8192_S8x8192x1_0_1 (truncf .bf16 (subf (subf x (extf .f32 (truncf .bf16 x bitsLt_bf16_f32) bitsLt_bf16_f32)) (extf .f32 (truncf .bf16 (subf x (extf .f32 (truncf .bf16 x bitsLt_bf16_f32) bitsLt_bf16_f32)) bitsLt_bf16_f32) bitsLt_bf16_f32)) bitsLt_bf16_f32))⟩, ⟨S8x8192x58, (broadcastInDim S8x8192x58 ![] bcast_S_S8x8192x58 ((constant S_ .bf16 0x0000#16)))⟩] concatenates_S8x8192x64_S8x8192x1_S8x8192x1_S8x8192x1_S8x8192x1_S8x8192x1_S8x8192x1_S8x8192x58_S8x8192x128_d2

/-- The keys' operand: the keys, the gates in three pieces, three lanes of one. -/
def kKaug (k : FVec Ideal S8x8192x64 .f32) (c : FVec Ideal S8x8192 .f32) : FVec Ideal S8x8192x128 .bf16 :=
  concatenate S8x8192x128 2 [⟨S8x8192x64, (truncf .bf16 k bitsLt_bf16_f32)⟩, ⟨S8x8192x1, (broadcastInDim S8x8192x1 ![0, 1] bcast_S8x8192_S8x8192x1_0_1 (truncf .bf16 c bitsLt_bf16_f32))⟩, ⟨S8x8192x1, (broadcastInDim S8x8192x1 ![0, 1] bcast_S8x8192_S8x8192x1_0_1 (truncf .bf16 (subf c (extf .f32 (truncf .bf16 c bitsLt_bf16_f32) bitsLt_bf16_f32)) bitsLt_bf16_f32))⟩, ⟨S8x8192x1, (broadcastInDim S8x8192x1 ![0, 1] bcast_S8x8192_S8x8192x1_0_1 (truncf .bf16 (subf (subf c (extf .f32 (truncf .bf16 c bitsLt_bf16_f32) bitsLt_bf16_f32)) (extf .f32 (truncf .bf16 (subf c (extf .f32 (truncf .bf16 c bitsLt_bf16_f32) bitsLt_bf16_f32)) bitsLt_bf16_f32) bitsLt_bf16_f32)) bitsLt_bf16_f32))⟩, ⟨S8x8192x1, (broadcastInDim S8x8192x1 ![0, 1] bcast_S8x8192_S8x8192x1_0_1 (truncf .bf16 (broadcastInDim S8x8192 ![] bcast_S_S8x8192 ((constant S_ .f32 0x3F800000#32))) bitsLt_bf16_f32))⟩, ⟨S8x8192x1, (broadcastInDim S8x8192x1 ![0, 1] bcast_S8x8192_S8x8192x1_0_1 (truncf .bf16 (broadcastInDim S8x8192 ![] bcast_S_S8x8192 ((constant S_ .f32 0x3F800000#32))) bitsLt_bf16_f32))⟩, ⟨S8x8192x1, (broadcastInDim S8x8192x1 ![0, 1] bcast_S8x8192_S8x8192x1_0_1 (truncf .bf16 (broadcastInDim S8x8192 ![] bcast_S_S8x8192 ((constant S_ .f32 0x3F800000#32))) bitsLt_bf16_f32))⟩, ⟨S8x8192x58, (broadcastInDim S8x8192x58 ![] bcast_S_S8x8192x58 ((constant S_ .bf16 0x0000#16)))⟩] concatenates_S8x8192x64_S8x8192x1_S8x8192x1_S8x8192x1_S8x8192x1_S8x8192x1_S8x8192x1_S8x8192x58_S8x8192x128_d2

/-- The values' operand: the values and three lanes of one. -/
def kVaug (v : FVec Ideal S8x8192x64 .f32) : FVec Ideal S8x8192x128 .bf16 :=
  concatenate S8x8192x128 2 [⟨S8x8192x64, (truncf .bf16 v bitsLt_bf16_f32)⟩, ⟨S8x8192x1, (broadcastInDim S8x8192x1 ![0, 1] bcast_S8x8192_S8x8192x1_0_1 (truncf .bf16 (broadcastInDim S8x8192 ![] bcast_S_S8x8192 ((constant S_ .f32 0x3F800000#32))) bitsLt_bf16_f32))⟩, ⟨S8x8192x1, (broadcastInDim S8x8192x1 ![0, 1] bcast_S8x8192_S8x8192x1_0_1 (truncf .bf16 (broadcastInDim S8x8192 ![] bcast_S_S8x8192 ((constant S_ .f32 0x3F800000#32))) bitsLt_bf16_f32))⟩, ⟨S8x8192x1, (broadcastInDim S8x8192x1 ![0, 1] bcast_S8x8192_S8x8192x1_0_1 (truncf .bf16 (broadcastInDim S8x8192 ![] bcast_S_S8x8192 ((constant S_ .f32 0x3F800000#32))) bitsLt_bf16_f32))⟩, ⟨S8x8192x61, (broadcastInDim S8x8192x61 ![] bcast_S_S8x8192x61 ((constant S_ .bf16 0x0000#16)))⟩] concatenates_S8x8192x64_S8x8192x1_S8x8192x1_S8x8192x1_S8x8192x61_S8x8192x128_d2

/-- The gradient's operand: the gradient and minus the deltas in three pieces. -/
def kGaug (g : FVec Ideal S8x8192x64 .f32) (x : FVec Ideal S8x8192 .f32) : FVec Ideal S8x8192x128 .bf16 :=
  concatenate S8x8192x128 2 [⟨S8x8192x64, (truncf .bf16 g bitsLt_bf16_f32)⟩, ⟨S8x8192x1, (broadcastInDim S8x8192x1 ![0, 1] bcast_S8x8192_S8x8192x1_0_1 (Host.negf (truncf .bf16 x bitsLt_bf16_f32)))⟩, ⟨S8x8192x1, (broadcastInDim S8x8192x1 ![0, 1] bcast_S8x8192_S8x8192x1_0_1 (Host.negf (truncf .bf16 (subf x (extf .f32 (truncf .bf16 x bitsLt_bf16_f32) bitsLt_bf16_f32)) bitsLt_bf16_f32)))⟩, ⟨S8x8192x1, (broadcastInDim S8x8192x1 ![0, 1] bcast_S8x8192_S8x8192x1_0_1 (Host.negf (truncf .bf16 (subf (subf x (extf .f32 (truncf .bf16 x bitsLt_bf16_f32) bitsLt_bf16_f32)) (extf .f32 (truncf .bf16 (subf x (extf .f32 (truncf .bf16 x bitsLt_bf16_f32) bitsLt_bf16_f32)) bitsLt_bf16_f32) bitsLt_bf16_f32)) bitsLt_bf16_f32)))⟩, ⟨S8x8192x61, (broadcastInDim S8x8192x61 ![] bcast_S_S8x8192x61 ((constant S_ .bf16 0x0000#16)))⟩] concatenates_S8x8192x64_S8x8192x1_S8x8192x1_S8x8192x1_S8x8192x61_S8x8192x128_d2

/-- The queries' gradient as returned. -/
def kDq (x : FVec Ideal S8x16x128x512 .f32) : FVec Ideal S1x8192x8x64 .f32 :=
  mulf (shapeCast S1x8192x8x64 (transpose S16x512x8x64 [1, 3, 0, 2] (extractStridedSlice S8x16x64x512 ![0, 0, 0, 0] x slices_S8x16x128x512_S8x16x64x512_0_0_0_0) transposes_S8x16x64x512_S16x512x8x64_1_3_0_2) shapeCasts_S16x512x8x64_S1x8192x8x64) (broadcastInDim S1x8192x8x64 ![] bcast_S_S1x8192x8x64 ((constant S_ .f32 0x3E000000#32)))

/-- The keys' (and the values') gradient as returned. -/
def kDk (x : FVec Ideal S8x8192x128 .f32) : FVec Ideal S1x8192x8x64 .f32 :=
  shapeCast S1x8192x8x64 (transpose S8192x8x64 [1, 0, 2] (extractStridedSlice S8x8192x64 ![0, 0, 0] x slices_S8x8192x128_S8x8192x64_0_0_0) transposes_S8x8192x64_S8192x8x64_1_0_2) shapeCasts_S8192x8x64_S1x8192x8x64

/-- The gates' gradient as returned. -/
def kDc (x : FVec Ideal S8x16x512 .f32) : FVec Ideal S1x8192x8 .f32 :=
  shapeCast S1x8192x8 (transpose S16x512x8 [1, 2, 0] x transposes_S8x16x512_S16x512x8_1_2_0) shapeCasts_S16x512x8_S1x8192x8

/-! ## What the kernel is handed -/

variable (m : (ℓ : Loc nD τ sig) → Buf (Elt Ideal) ℓ)

abbrev aq (c : Dev nD) : FVec Ideal S1x8192x8x64 .f32 := m ((c : Thread nD τ).loc main_arg0)
abbrev ak (c : Dev nD) : FVec Ideal S1x8192x8x64 .f32 := m ((c : Thread nD τ).loc main_arg1)
abbrev av (c : Dev nD) : FVec Ideal S1x8192x8x64 .f32 := m ((c : Thread nD τ).loc main_arg2)
abbrev ac (c : Dev nD) : FVec Ideal S1x8192x8 .f32 := m ((c : Thread nD τ).loc main_arg3)
abbrev ag (c : Dev nD) : FVec Ideal S1x8192x512 .f32 := m ((c : Thread nD τ).loc main_arg4)

/-- The masked logits of device `c`. -/
def lg (c : Dev nD) : FVec Ideal S8x8192x8192 .f32 := kL (kq (aq m c)) (kk (ak m c)) (kc (ac m c))
/-- The exponentials of device `c`. -/
def ex (c : Dev nD) : FVec Ideal S8x8192x8192 .f32 := kE (lg m c) (kM (lg m c))

theorem cat8 {a0 b0 : FVec Ideal S8x8192x64 .bf16} {a1 b1 : FVec Ideal S8x8192x1 .bf16} {a2 b2 : FVec Ideal S8x8192x1 .bf16} {a3 b3 : FVec Ideal S8x8192x1 .bf16} {a4 b4 : FVec Ideal S8x8192x1 .bf16} {a5 b5 : FVec Ideal S8x8192x1 .bf16} {a6 b6 : FVec Ideal S8x8192x1 .bf16} {a7 b7 : FVec Ideal S8x8192x58 .bf16}
    (e0 : a0 = b0) (e1 : a1 = b1) (e2 : a2 = b2) (e3 : a3 = b3) (e4 : a4 = b4) (e5 : a5 = b5) (e6 : a6 = b6) (e7 : a7 = b7) :
    concatenate S8x8192x128 2 [⟨S8x8192x64, a0⟩, ⟨S8x8192x1, a1⟩, ⟨S8x8192x1, a2⟩, ⟨S8x8192x1, a3⟩, ⟨S8x8192x1, a4⟩, ⟨S8x8192x1, a5⟩, ⟨S8x8192x1, a6⟩, ⟨S8x8192x58, a7⟩] concatenates_S8x8192x64_S8x8192x1_S8x8192x1_S8x8192x1_S8x8192x1_S8x8192x1_S8x8192x1_S8x8192x58_S8x8192x128_d2 =
      concatenate S8x8192x128 2 [⟨S8x8192x64, b0⟩, ⟨S8x8192x1, b1⟩, ⟨S8x8192x1, b2⟩, ⟨S8x8192x1, b3⟩, ⟨S8x8192x1, b4⟩, ⟨S8x8192x1, b5⟩, ⟨S8x8192x1, b6⟩, ⟨S8x8192x58, b7⟩] concatenates_S8x8192x64_S8x8192x1_S8x8192x1_S8x8192x1_S8x8192x1_S8x8192x1_S8x8192x1_S8x8192x58_S8x8192x128_d2 := by
  rw [e0, e1, e2, e3, e4, e5, e6, e7]

theorem cat5 {a0 b0 : FVec Ideal S8x8192x64 .bf16} {a1 b1 : FVec Ideal S8x8192x1 .bf16} {a2 b2 : FVec Ideal S8x8192x1 .bf16} {a3 b3 : FVec Ideal S8x8192x1 .bf16} {a4 b4 : FVec Ideal S8x8192x61 .bf16}
    (e0 : a0 = b0) (e1 : a1 = b1) (e2 : a2 = b2) (e3 : a3 = b3) (e4 : a4 = b4) :
    concatenate S8x8192x128 2 [⟨S8x8192x64, a0⟩, ⟨S8x8192x1, a1⟩, ⟨S8x8192x1, a2⟩, ⟨S8x8192x1, a3⟩, ⟨S8x8192x61, a4⟩] concatenates_S8x8192x64_S8x8192x1_S8x8192x1_S8x8192x1_S8x8192x61_S8x8192x128_d2 =
      concatenate S8x8192x128 2 [⟨S8x8192x64, b0⟩, ⟨S8x8192x1, b1⟩, ⟨S8x8192x1, b2⟩, ⟨S8x8192x1, b3⟩, ⟨S8x8192x61, b4⟩] concatenates_S8x8192x64_S8x8192x1_S8x8192x1_S8x8192x1_S8x8192x61_S8x8192x128_d2 := by
  rw [e0, e1, e2, e3, e4]

theorem V_v65 (c : Dev nD) : V m c main_v65 = kQaug (kq (aq m c)) (kLse (kM (lg m c)) (kT (ex m c)) (kc (ac m c))) := by
  unfold V V0
  after_reads_simp
  refine cat8 ?_ ?_ ?_ ?_ ?_ ?_ ?_ ?_
  · change upto _ _ _ (Proc.devRef .tc main_v54) = _
    after_reads_simp <;> rfl
  · change upto _ _ _ (Proc.devRef .tc main_v56) = _
    after_reads_simp <;> rfl
  · change upto _ _ _ (Proc.devRef .tc main_v58) = _
    after_reads_simp <;> rfl
  · change upto _ _ _ (Proc.devRef .tc main_v60) = _
    after_reads_simp <;> rfl
  · change upto _ _ _ (Proc.devRef .tc main_v61) = _
    after_reads_simp <;> rfl
  · change upto _ _ _ (Proc.devRef .tc main_v62) = _
    after_reads_simp <;> rfl
  · change upto _ _ _ (Proc.devRef .tc main_v63) = _
    after_reads_simp <;> rfl
  · change upto _ _ _ (Proc.devRef .tc main_v64) = _
    after_reads_simp <;> rfl
theorem V_v84 (c : Dev nD) : V m c main_v84 = kKaug (kk (ak m c)) (kc (ac m c)) := by
  unfold V V0
  after_reads_simp
  rfl
theorem V_v93 (c : Dev nD) : V m c main_v93 = kVaug (kv (av m c)) := by
  unfold V V0
  after_reads_simp
  rfl
theorem V_v109 (c : Dev nD) : V m c main_v109 = kGaug (kg (ag m c)) (kDel (ex m c) (kv (av m c)) (kT (ex m c)) (kg (ag m c))) := by
  unfold V V0
  after_reads_simp
  refine cat5 ?_ ?_ ?_ ?_ ?_
  · change upto _ _ _ (Proc.devRef .tc main_v104) = _
    after_reads_simp <;> rfl
  · change upto _ _ _ (Proc.devRef .tc main_v105) = _
    after_reads_simp <;> rfl
  · change upto _ _ _ (Proc.devRef .tc main_v106) = _
    after_reads_simp <;> rfl
  · change upto _ _ _ (Proc.devRef .tc main_v107) = _
    after_reads_simp <;> rfl
  · change upto _ _ _ (Proc.devRef .tc main_v108) = _
    after_reads_simp <;> rfl

/-! ## Index by index -/

theorem kq_at (a : FVec Ideal S1x8192x8x64 .f32) (h : Fin 8) (i : Fin 8192) (d : Fin 64) : kq a (ix3 h i d) = a (ix4 0 i h d) * Ideal.ofBits .f32 0x3E000000#32 := by
  pointwise [kq]
theorem kk_at (a : FVec Ideal S1x8192x8x64 .f32) (h : Fin 8) (i : Fin 8192) (d : Fin 64) : kk a (ix3 h i d) = a (ix4 0 i h d) := by
  pointwise [kk]
theorem kv_at (a : FVec Ideal S1x8192x8x64 .f32) (h : Fin 8) (i : Fin 8192) (d : Fin 64) : kv a (ix3 h i d) = a (ix4 0 i h d) := by
  pointwise [kv]
theorem kc_at (a : FVec Ideal S1x8192x8 .f32) (h : Fin 8) (i : Fin 8192) : kc a (ix2 h i) = a (ix3 0 i h) := by
  pointwise [kc]
theorem kg_at (a : FVec Ideal S1x8192x512 .f32) (h : Fin 8) (i : Fin 8192) (d : Fin 64) : kg a (ix3 h i d) = a (ix3 0 i ⟨h.val * 64 + d.val, by omega⟩) := by
  pointwise [kg]
theorem ofBits_bot : Ideal.ofBits .f32 0xFF800000#32 = ⊥ := by
  simp [Ideal.ofBits, Ideal.ieee]
theorem ofBits_eighth : Ideal.ofBits .f32 0x3E000000#32 = (((1 / 8 : ℝ)) : EReal) := by
  simp [Ideal.ofBits, Ideal.ieee, -EReal.coe_mul]; norm_num
theorem kL_at (q k : FVec Ideal S8x8192x64 .f32) (c : FVec Ideal S8x8192 .f32) (h : Fin 8) (i j : Fin 8192) :
    kL q k c (ix3 h i j) = if j.val ≤ i.val then (∑ d : Fin 64, q (ix3 h i d) * k (ix3 h j d)) + c (ix2 h i) - c (ix2 h j) else ⊥ := by
  rw [← ofBits_bot]
  pointwise [kL]
  rw [WordCmp.cmpi_sle_ofNat (by have := j.isLt; omega) (by have := i.isLt; omega), WordCmp.select_decide]
theorem kM_at (x : FVec Ideal S8x8192x8192 .f32) (h : Fin 8) (i : Fin 8192) :
    kM x (ix2 h i) = Finset.univ.fold max ⊥ (fun j => x (ix3 h i j)) := by
  rw [← ofBits_bot]
  pointwise [kM]
theorem kE_at (x : FVec Ideal S8x8192x8192 .f32) (y : FVec Ideal S8x8192 .f32) (h : Fin 8) (i j : Fin 8192) :
    kE x y (ix3 h i j) = Ideal.exp (x (ix3 h i j) - y (ix2 h i)) := by
  pointwise [kE]
theorem kT_at (e : FVec Ideal S8x8192x8192 .f32) (h : Fin 8) (i : Fin 8192) : kT e (ix2 h i) = ∑ j : Fin 8192, e (ix3 h i j) := by
  pointwise [kT]
theorem kLse_at (y t c : FVec Ideal S8x8192 .f32) (h : Fin 8) (i : Fin 8192) : kLse y t c (ix2 h i) = -(y (ix2 h i) + Ideal.log (t (ix2 h i))) + c (ix2 h i) := by
  pointwise [kLse]
theorem kDel_at (e : FVec Ideal S8x8192x8192 .f32) (v : FVec Ideal S8x8192x64 .f32) (t : FVec Ideal S8x8192 .f32) (g : FVec Ideal S8x8192x64 .f32) (h : Fin 8) (i : Fin 8192) :
    kDel e v t g (ix2 h i) = ∑ d : Fin 64, Ideal.div (∑ j : Fin 8192, e (ix3 h i j) * v (ix3 h j d)) (t (ix2 h i)) * g (ix3 h i d) := by
  pointwise [kDel]

/-! The operands, lane by lane: 64 lanes, single ones, the rest zero. -/

theorem kQaug_lo (q : FVec Ideal S8x8192x64 .f32) (x : FVec Ideal S8x8192 .f32) (h : Fin 8) (i : Fin 8192) (d : Fin 64) :
    kQaug q x (ix3 h i ⟨d.val, by omega⟩) = q (ix3 h i d) := by
  pointwise [kQaug]
theorem kQaug_64 (q : FVec Ideal S8x8192x64 .f32) (x : FVec Ideal S8x8192 .f32) (h : Fin 8) (i : Fin 8192) :
    kQaug q x (ix3 h i 64) = -1 := by
  pointwise [kQaug]
theorem kQaug_65 (q : FVec Ideal S8x8192x64 .f32) (x : FVec Ideal S8x8192 .f32) (h : Fin 8) (i : Fin 8192) :
    kQaug q x (ix3 h i 65) = -1 := by
  pointwise [kQaug]
theorem kQaug_66 (q : FVec Ideal S8x8192x64 .f32) (x : FVec Ideal S8x8192 .f32) (h : Fin 8) (i : Fin 8192) :
    kQaug q x (ix3 h i 66) = -1 := by
  pointwise [kQaug]
theorem kQaug_67 (q : FVec Ideal S8x8192x64 .f32) (x : FVec Ideal S8x8192 .f32) (h : Fin 8) (i : Fin 8192) :
    kQaug q x (ix3 h i 67) = x (ix2 h i) := by
  pointwise [kQaug]
theorem kQaug_68 (q : FVec Ideal S8x8192x64 .f32) (x : FVec Ideal S8x8192 .f32) (h : Fin 8) (i : Fin 8192) :
    kQaug q x (ix3 h i 68) = (x (ix2 h i) - x (ix2 h i)) := by
  pointwise [kQaug]
theorem kQaug_69 (q : FVec Ideal S8x8192x64 .f32) (x : FVec Ideal S8x8192 .f32) (h : Fin 8) (i : Fin 8192) :
    kQaug q x (ix3 h i 69) = (x (ix2 h i) - x (ix2 h i) - (x (ix2 h i) - x (ix2 h i))) := by
  pointwise [kQaug]
theorem kQaug_hi (q : FVec Ideal S8x8192x64 .f32) (x : FVec Ideal S8x8192 .f32) (h : Fin 8) (i : Fin 8192) (d : Fin 58) :
    kQaug q x (ix3 h i ⟨70 + d.val, by omega⟩) = 0 := by
  pointwise [kQaug]
  repeat rw [dif_neg (by omega)]
  try rfl

theorem kKaug_lo (q : FVec Ideal S8x8192x64 .f32) (x : FVec Ideal S8x8192 .f32) (h : Fin 8) (i : Fin 8192) (d : Fin 64) :
    kKaug q x (ix3 h i ⟨d.val, by omega⟩) = q (ix3 h i d) := by
  pointwise [kKaug]
theorem kKaug_64 (q : FVec Ideal S8x8192x64 .f32) (x : FVec Ideal S8x8192 .f32) (h : Fin 8) (i : Fin 8192) :
    kKaug q x (ix3 h i 64) = x (ix2 h i) := by
  pointwise [kKaug]
theorem kKaug_65 (q : FVec Ideal S8x8192x64 .f32) (x : FVec Ideal S8x8192 .f32) (h : Fin 8) (i : Fin 8192) :
    kKaug q x (ix3 h i 65) = (x (ix2 h i) - x (ix2 h i)) := by
  pointwise [kKaug]
theorem kKaug_66 (q : FVec Ideal S8x8192x64 .f32) (x : FVec Ideal S8x8192 .f32) (h : Fin 8) (i : Fin 8192) :
    kKaug q x (ix3 h i 66) = (x (ix2 h i) - x (ix2 h i) - (x (ix2 h i) - x (ix2 h i))) := by
  pointwise [kKaug]
theorem kKaug_67 (q : FVec Ideal S8x8192x64 .f32) (x : FVec Ideal S8x8192 .f32) (h : Fin 8) (i : Fin 8192) :
    kKaug q x (ix3 h i 67) = 1 := by
  pointwise [kKaug]
theorem kKaug_68 (q : FVec Ideal S8x8192x64 .f32) (x : FVec Ideal S8x8192 .f32) (h : Fin 8) (i : Fin 8192) :
    kKaug q x (ix3 h i 68) = 1 := by
  pointwise [kKaug]
theorem kKaug_69 (q : FVec Ideal S8x8192x64 .f32) (x : FVec Ideal S8x8192 .f32) (h : Fin 8) (i : Fin 8192) :
    kKaug q x (ix3 h i 69) = 1 := by
  pointwise [kKaug]
theorem kKaug_hi (q : FVec Ideal S8x8192x64 .f32) (x : FVec Ideal S8x8192 .f32) (h : Fin 8) (i : Fin 8192) (d : Fin 58) :
    kKaug q x (ix3 h i ⟨70 + d.val, by omega⟩) = 0 := by
  pointwise [kKaug]
  repeat rw [dif_neg (by omega)]
  try rfl

theorem kVaug_lo (q : FVec Ideal S8x8192x64 .f32) (h : Fin 8) (i : Fin 8192) (d : Fin 64) :
    kVaug q (ix3 h i ⟨d.val, by omega⟩) = q (ix3 h i d) := by
  pointwise [kVaug]
theorem kVaug_64 (q : FVec Ideal S8x8192x64 .f32) (h : Fin 8) (i : Fin 8192) :
    kVaug q (ix3 h i 64) = 1 := by
  pointwise [kVaug]
theorem kVaug_65 (q : FVec Ideal S8x8192x64 .f32) (h : Fin 8) (i : Fin 8192) :
    kVaug q (ix3 h i 65) = 1 := by
  pointwise [kVaug]
theorem kVaug_66 (q : FVec Ideal S8x8192x64 .f32) (h : Fin 8) (i : Fin 8192) :
    kVaug q (ix3 h i 66) = 1 := by
  pointwise [kVaug]
theorem kVaug_hi (q : FVec Ideal S8x8192x64 .f32) (h : Fin 8) (i : Fin 8192) (d : Fin 61) :
    kVaug q (ix3 h i ⟨67 + d.val, by omega⟩) = 0 := by
  pointwise [kVaug]
  repeat rw [dif_neg (by omega)]
  try rfl

theorem kGaug_lo (q : FVec Ideal S8x8192x64 .f32) (x : FVec Ideal S8x8192 .f32) (h : Fin 8) (i : Fin 8192) (d : Fin 64) :
    kGaug q x (ix3 h i ⟨d.val, by omega⟩) = q (ix3 h i d) := by
  pointwise [kGaug]
theorem kGaug_64 (q : FVec Ideal S8x8192x64 .f32) (x : FVec Ideal S8x8192 .f32) (h : Fin 8) (i : Fin 8192) :
    kGaug q x (ix3 h i 64) = -x (ix2 h i) := by
  pointwise [kGaug]
theorem kGaug_65 (q : FVec Ideal S8x8192x64 .f32) (x : FVec Ideal S8x8192 .f32) (h : Fin 8) (i : Fin 8192) :
    kGaug q x (ix3 h i 65) = -(x (ix2 h i) - x (ix2 h i)) := by
  pointwise [kGaug]
theorem kGaug_66 (q : FVec Ideal S8x8192x64 .f32) (x : FVec Ideal S8x8192 .f32) (h : Fin 8) (i : Fin 8192) :
    kGaug q x (ix3 h i 66) = -(x (ix2 h i) - x (ix2 h i) - (x (ix2 h i) - x (ix2 h i))) := by
  pointwise [kGaug]
theorem kGaug_hi (q : FVec Ideal S8x8192x64 .f32) (x : FVec Ideal S8x8192 .f32) (h : Fin 8) (i : Fin 8192) (d : Fin 61) :
    kGaug q x (ix3 h i ⟨67 + d.val, by omega⟩) = 0 := by
  pointwise [kGaug]
  repeat rw [dif_neg (by omega)]
  try rfl

theorem kDq_at (x : FVec Ideal S8x16x128x512 .f32) (n : Fin 16) (s : Fin 512) (h : Fin 8) (d : Fin 64) :
    kDq x (ix4 0 ⟨512 * n.val + s.val, by omega⟩ h d) = x (ix4 h n ⟨d.val, by omega⟩ s) * Ideal.ofBits .f32 0x3E000000#32 := by
  pointwise [kDq]
theorem kDk_at (x : FVec Ideal S8x8192x128 .f32) (i : Fin 8192) (h : Fin 8) (d : Fin 64) :
    kDk x (ix4 0 i h d) = x (ix3 h i ⟨d.val, by omega⟩) := by
  pointwise [kDk]
theorem kDc_at (x : FVec Ideal S8x16x512 .f32) (n : Fin 16) (s : Fin 512) (h : Fin 8) :
    kDc x (ix3 0 ⟨512 * n.val + s.val, by omega⟩ h) = x (ix3 h n s) := by
  pointwise [kDc]

end Cert.KernelIdeal.Bwd

end
-- ==== Proof.Tile.lean ====
/- One tile's update at the extended reals, read at an index: what each payload adds to its accumulator. -/
module

public import proofs.«01_k».proof.Proof.Step
public import Idealize.ShloMosaic.Lib.Pipeline.ValueKit
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open VecWindow (window put)

/-- Row `512 n + s` of the 8192. -/
def row (n : Fin 16) (s : Fin 512) : Fin 8192 := ⟨512 * n.val + s.val, by omega⟩

theorem rowsOf_at (x : Vec Ideal S1x8192x128 .bf16) (n : Fin 16) (s : Fin 512) (l : Fin 128) :
    rowsOf x n (ix3 0 s l) = x (ix3 0 (row n s) l) := by
  unfold rowsOf window
  refine congrArg x (funext fun a => Fin.ext ?_)
  fin_cases a <;> simp [row]

theorem pay63_at (x : Vec Ideal S1x512x128 .bf16) (r : Fin 512) (l : Fin 128) : k0_pay63 x (ix2 r l) = x (ix3 0 r l) := by
  pointwise [k0_pay63]

theorem pay64_at (x : Vec Ideal S1x512x128 .bf16) (r : Fin 512) (l : Fin 128) : k0_pay64 x (ix2 r l) = x (ix3 0 r l) := by
  pointwise [k0_pay64]

theorem pay11_at (k : FVec Ideal S512x128 .bf16) (x : Vec Ideal S1x512x128 .bf16) (r s : Fin 512) :
    k0_pay11 k x (ix2 r s) = ∑ l : Fin 128, k (ix2 r l) * x (ix3 0 s l) := by
  pointwise [k0_pay11]

theorem pay12_at (k : FVec Ideal S512x128 .bf16) (x : Vec Ideal S1x512x128 .bf16) (r s : Fin 512) :
    k0_pay12 k x (ix2 r s) = ∑ l : Fin 128, k (ix2 r l) * x (ix3 0 s l) := by
  pointwise [k0_pay12]

theorem pay13_at (x : Vec Ideal S1x512x128 .bf16) (r : Fin 512) (l : Fin 128) : k0_pay13 x (ix2 r l) = x (ix3 0 r l) := by
  pointwise [k0_pay13]

theorem pay14_at (x : Vec Ideal S1x512x128 .bf16) (r : Fin 512) (l : Fin 128) : k0_pay14 x (ix2 r l) = x (ix3 0 r l) := by
  pointwise [k0_pay14]

theorem pay15_at (x : Vec Ideal S512x512 .f32) (r s : Fin 512) : k0_pay15 x (ix2 r s) = Ideal.exp (x (ix2 r s)) := by
  pointwise [k0_pay15]

theorem pay71_at (x : Vec Ideal S512x512 .f32) (r s : Fin 512) :
    k0_pay71 x (ix2 r s) = if r.val ≤ s.val then Ideal.exp (x (ix2 r s)) else 0 := by
  pointwise [k0_pay71]
  rw [WordCmp.cmpi_sle_ofNat (by have := r.isLt; omega) (by have := s.isLt; omega), WordCmp.select_decide]

theorem pay16_at (dov : FVec Ideal S512x128 .bf16) (p : FVec Ideal S512x512 .f32) (a : Vec Ideal S1x512x128 .f32) (r : Fin 512) (l : Fin 128) :
    k0_pay16 dov p a (ix3 0 r l) = a (ix3 0 r l) + ∑ s : Fin 512, p (ix2 r s) * dov (ix2 s l) := by
  pointwise [k0_pay16]

theorem pay19_at (qv : FVec Ideal S512x128 .bf16) (p d : FVec Ideal S512x512 .f32) (a : Vec Ideal S1x512x128 .f32) (r : Fin 512) (l : Fin 128) :
    k0_pay19 qv p d a (ix3 0 r l) = a (ix3 0 r l) + ∑ s : Fin 512, p (ix2 r s) * d (ix2 r s) * qv (ix2 s l) := by
  pointwise [k0_pay19, k0_pay18, k0_pay17]

theorem pay20_at (kv : FVec Ideal S512x128 .bf16) (p d : FVec Ideal S512x512 .f32) (a : Vec Ideal S1x1x128x512 .f32) (l : Fin 128) (s : Fin 512) :
    k0_pay20 kv p d a (ix4 0 0 l s) = a (ix4 0 0 l s) + ∑ r : Fin 512, kv (ix2 r l) * (p (ix2 r s) * d (ix2 r s)) := by
  pointwise [k0_pay20, k0_pay18, k0_pay17]

theorem pay17_at (p d : FVec Ideal S512x512 .f32) (r s : Fin 512) : k0_pay17 p d (ix2 r s) = p (ix2 r s) * d (ix2 r s) := by
  pointwise [k0_pay17]

theorem pay22_at (p d : FVec Ideal S512x512 .f32) (a : Vec Ideal S512x1 .f32) (r : Fin 512) :
    k0_pay22 (k0_pay21 p d a) (ix2 r 0) = a (ix2 r 0) + ∑ s : Fin 512, p (ix2 r s) * d (ix2 r s) := by
  pointwise [k0_pay22, k0_pay21, k0_pay17]

theorem pay23_at (x : FVec Ideal S512x512 .f32) (a : Vec Ideal S1x1x512 .f32) (s : Fin 512) :
    k0_pay23 x a (ix3 0 0 s) = a (ix3 0 0 s) + ∑ r : Fin 512, x (ix2 r s) := by
  pointwise [k0_pay23]

theorem pay10_at (a : Vec Ideal S1x1x512 .f32) (x : Vec Ideal S512x1 .f32) (s : Fin 512) :
    k0_pay10 a x (ix3 0 0 s) = a (ix3 0 0 s) - x (ix2 s 0) := by
  pointwise [k0_pay10]

theorem pay58_at (y) : k0_pay58 (F := Ideal) y = 0 := by pointwise [k0_pay58]
theorem pay59_at (y) : k0_pay59 (F := Ideal) y = 0 := by pointwise [k0_pay59]
theorem pay60_at (y) : k0_pay60 (F := Ideal) y = 0 := by pointwise [k0_pay60]
theorem pay61_at (y) : k0_pay61 (F := Ideal) y = 0 := by pointwise [k0_pay61]
theorem pay62_at (y) : k0_pay62 (F := Ideal) y = 0 := by pointwise [k0_pay62]

/-! ## A tile put, a tile read -/

theorem window_dq_at (x : Vec Ideal S1x16x128x512 .f32) (n : Fin 16) (l : Fin 128) (s : Fin 512) :
    window x ![0, n.val, 0, 0] S1x1x128x512.size (dq_inb n) (ix4 0 0 l s) = x (ix4 0 n l s) := by
  unfold window
  refine congrArg x (funext fun a => Fin.ext ?_)
  fin_cases a <;> simp

theorem window_dc_at (x : Vec Ideal S1x16x512 .f32) (n : Fin 16) (s : Fin 512) :
    window x ![0, n.val, 0] S1x1x512.size (dc_inb n) (ix3 0 0 s) = x (ix3 0 n s) := by
  unfold window
  refine congrArg x (funext fun a => Fin.ext ?_)
  fin_cases a <;> simp

theorem put_dq_at (x : Vec Ideal S1x16x128x512 .f32) (n k : Fin 16) (w : Vec Ideal S1x1x128x512 .f32) (l : Fin 128) (s : Fin 512) :
    put x ![0, n.val, 0, 0] S1x1x128x512.size w (ix4 0 k l s) = if k = n then w (ix4 0 0 l s) else x (ix4 0 k l s) := by
  by_cases h : k = n
  · subst h
    rw [if_pos rfl, ← window_dq_at (put x _ _ w) k l s, VecWindow.window_put_same]
  · rw [if_neg h, ← window_dq_at (put x _ _ w) k l s, ← window_dq_at x k l s,
      VecWindow.window_put_of_disjoint _ _ _ _ _ _ _ (1 : Fin 4) (by have : k.val ≠ n.val := fun e => h (Fin.ext e); show k.val + 1 ≤ n.val ∨ n.val + 1 ≤ k.val; omega)]

theorem put_dc_at (x : Vec Ideal S1x16x512 .f32) (n k : Fin 16) (w : Vec Ideal S1x1x512 .f32) (s : Fin 512) :
    put x ![0, n.val, 0] S1x1x512.size w (ix3 0 k s) = if k = n then w (ix3 0 0 s) else x (ix3 0 k s) := by
  by_cases h : k = n
  · subst h
    rw [if_pos rfl, ← window_dc_at (put x _ _ w) k s, VecWindow.window_put_same]
  · rw [if_neg h, ← window_dc_at (put x _ _ w) k s, ← window_dc_at x k s,
      VecWindow.window_put_of_disjoint _ _ _ _ _ _ _ (1 : Fin 3) (by have : k.val ≠ n.val := fun e => h (Fin.ext e); show k.val + 1 ≤ n.val ∨ n.val + 1 ≤ k.val; omega)]

end Cert.KernelIdeal.Bwd

end
-- ==== Proof.Column.lean ====
/- One grid point at the extended reals: what a column of keys adds to the five accumulators, each as one sum over the
   tiles on and below the diagonal. -/
module

public import proofs.«01_k».proof.Proof.Tile
public import proofs.«01_k».proof.Proof.Body

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open VecWindow (window put)

/-! ## The sum over the tiles `j, …, j + m` -/

/-- What the tiles `j`, …, `j + m` contribute together. -/
def part (j : Fin 16) (T : Fin 16 → EReal) (m : ℕ) : EReal := ∑ n : Fin 16, if j.val ≤ n.val ∧ n.val ≤ j.val + m then T n else 0

theorem part_zero (j : Fin 16) (T : Fin 16 → EReal) : part j T 0 = T j := by
  unfold part
  rw [Finset.sum_eq_single j]
  · rw [if_pos ⟨le_rfl, le_rfl⟩]
  · intro n _ hn
    rw [if_neg fun h => hn (Fin.ext (by omega))]
  · intro h; exact absurd (Finset.mem_univ j) h

theorem part_succ (j : Fin 16) (T : Fin 16 → EReal) (m : ℕ) (h : j.val + 1 + m ≤ 15) : part j T (m + 1) = part j T m + T (ti (j.val + 1 + m)) := by
  have e : ∀ n : Fin 16, (if j.val ≤ n.val ∧ n.val ≤ j.val + (m + 1) then T n else 0)
      = (if j.val ≤ n.val ∧ n.val ≤ j.val + m then T n else 0) + (if n = ti (j.val + 1 + m) then T n else 0) := fun n => by
    have hv := ti_val h
    by_cases h1 : n = ti (j.val + 1 + m)
    · have h2 : n.val = j.val + 1 + m := by rw [h1, hv]
      rw [if_pos h1, if_pos (by omega), if_neg (by omega), zero_add]
    · have h2 : n.val ≠ j.val + 1 + m := fun he => h1 (Fin.ext (by rw [hv, he]))
      rw [if_neg h1, add_zero]
      by_cases h3 : j.val ≤ n.val ∧ n.val ≤ j.val + m
      · rw [if_pos h3, if_pos (by omega)]
      · rw [if_neg h3, if_neg (by omega)]
  unfold part
  rw [Finset.sum_congr rfl fun n _ => e n, Finset.sum_add_distrib, Finset.sum_ite_eq' Finset.univ, if_pos (Finset.mem_univ _)]

/-- All tiles from `j` on: of the ones before nothing is there to add. -/
theorem part_all (j : Fin 16) (T : Fin 16 → EReal) (h0 : ∀ n : Fin 16, n.val < j.val → T n = 0) : part j T (15 - j.val) = ∑ n : Fin 16, T n := by
  unfold part
  refine Finset.sum_congr rfl fun n _ => ?_
  by_cases h : j.val ≤ n.val
  · rw [if_pos ⟨h, by omega⟩]
  · rw [if_neg (by omega), h0 n (by omega)]

/-! ## One tile -/

variable (x0 x1 : Vec Ideal S1x8192x128 .bf16) (x2 x3 : Vec Ideal S1x512x128 .bf16) (j : Fin 16)

/-- The logit of key `r` of the column and query `s` of tile `n`. -/
def lgT (n : Fin 16) (r s : Fin 512) : EReal := ∑ l : Fin 128, x2 (ix3 0 r l) * x0 (ix3 0 (row n s) l)

/-- The weight: zero where the key comes after the query. -/
def pwT (n : Fin 16) (r s : Fin 512) : EReal := if (row j r).val ≤ (row n s).val then Ideal.exp (lgT x0 x2 n r s) else 0

/-- The logit's gradient. -/
def dsT (n : Fin 16) (r s : Fin 512) : EReal := pwT x0 x2 j n r s * ∑ l : Fin 128, x3 (ix3 0 r l) * x1 (ix3 0 (row n s) l)

theorem pwT_early (n : Fin 16) (h : n.val < j.val) (r s : Fin 512) : pwT x0 x2 j n r s = 0 :=
  if_neg (by show ¬ 512 * j.val + r.val ≤ 512 * n.val + s.val; omega)

theorem dsT_early (n : Fin 16) (h : n.val < j.val) (r s : Fin 512) : dsT x0 x1 x2 x3 j n r s = 0 := by
  unfold dsT; rw [pwT_early x0 x2 j n h, zero_mul]

theorem sT_at (n : Fin 16) (r s : Fin 512) : sT x0 x2 n (ix2 r s) = lgT x0 x2 n r s := by
  unfold sT lgT
  rw [pay11_at]
  exact Finset.sum_congr rfl fun l _ => by rw [pay63_at, rowsOf_at]

theorem dT_at (n : Fin 16) (r s : Fin 512) : dT x1 x3 n (ix2 r s) = ∑ l : Fin 128, x3 (ix3 0 r l) * x1 (ix3 0 (row n s) l) := by
  unfold dT
  rw [pay12_at]
  exact Finset.sum_congr rfl fun l _ => by rw [pay64_at, rowsOf_at]

/-- Below the diagonal every key comes before every query. -/
theorem pT_at (n : Fin 16) (h : j.val < n.val) (r s : Fin 512) : k0_pay15 (sT x0 x2 n) (ix2 r s) = pwT x0 x2 j n r s := by
  rw [pay15_at, sT_at]
  exact (if_pos (by show 512 * j.val + r.val ≤ 512 * n.val + s.val; omega)).symm

theorem pD_at (r s : Fin 512) : k0_pay71 (sT x0 x2 j) (ix2 r s) = pwT x0 x2 j j r s := by
  rw [pay71_at, sT_at]
  unfold pwT
  by_cases h : r.val ≤ s.val
  · rw [if_pos h, if_pos (by show 512 * j.val + r.val ≤ 512 * j.val + s.val; omega)]
  · rw [if_neg h, if_neg (by show ¬ 512 * j.val + r.val ≤ 512 * j.val + s.val; omega)]

/-- The update by tile `n` when its weights are `pwT`, at an index of each accumulator. -/
theorem upd_at (n : Fin 16) (p : FVec Ideal S512x512 .f32) (hp : ∀ r s, p (ix2 r s) = pwT x0 x2 j n r s) (a : Acc Ideal) :
    let b := upd (k0_pay63 x2) (k0_pay13 (rowsOf x0 n)) (k0_pay14 (rowsOf x1 n)) p (dT x1 x3 n) n a
    (∀ k l s, b.dq (ix4 0 k l s) = if k = n then a.dq (ix4 0 k l s) + ∑ r : Fin 512, x2 (ix3 0 r l) * dsT x0 x1 x2 x3 j n r s else a.dq (ix4 0 k l s))
    ∧ (∀ r l, b.dk (ix3 0 r l) = a.dk (ix3 0 r l) + ∑ s : Fin 512, dsT x0 x1 x2 x3 j n r s * x0 (ix3 0 (row n s) l))
    ∧ (∀ r l, b.dv (ix3 0 r l) = a.dv (ix3 0 r l) + ∑ s : Fin 512, pwT x0 x2 j n r s * x1 (ix3 0 (row n s) l))
    ∧ (∀ k s, b.dc (ix3 0 k s) = if k = n then a.dc (ix3 0 k s) + ∑ r : Fin 512, dsT x0 x1 x2 x3 j n r s else a.dc (ix3 0 k s))
    ∧ (∀ r, b.dck (ix2 r 0) = a.dck (ix2 r 0) + ∑ s : Fin 512, dsT x0 x1 x2 x3 j n r s) := by
  have hd : ∀ r s, p (ix2 r s) * dT x1 x3 n (ix2 r s) = dsT x0 x1 x2 x3 j n r s := fun r s => by rw [hp, dT_at]; rfl
  refine ⟨fun k l s => ?_, fun r l => ?_, fun r l => ?_, fun k s => ?_, fun r => ?_⟩
  · refine (put_dq_at _ _ _ _ _ _).trans ?_
    by_cases h : k = n
    · subst h
      rw [if_pos rfl, if_pos rfl, pay20_at, window_dq_at]
      exact congrArg _ (Finset.sum_congr rfl fun r _ => by rw [pay63_at, hd])
    · rw [if_neg h, if_neg h]
  · refine (pay19_at _ _ _ _ _ _).trans (congrArg _ (Finset.sum_congr rfl fun s _ => ?_))
    rw [hd, pay13_at, rowsOf_at]
  · refine (pay16_at _ _ _ _ _).trans (congrArg _ (Finset.sum_congr rfl fun s _ => ?_))
    rw [hp, pay14_at, rowsOf_at]
  · refine (put_dc_at _ _ _ _ _).trans ?_
    by_cases h : k = n
    · subst h
      rw [if_pos rfl, if_pos rfl, pay23_at, window_dc_at]
      exact congrArg _ (Finset.sum_congr rfl fun r _ => by rw [pay17_at, hd])
    · rw [if_neg h, if_neg h]
  · exact (pay22_at _ _ _ _).trans (congrArg _ (Finset.sum_congr rfl fun s _ => hd r s))

/-! ## The column -/

variable (dq : Vec Ideal S1x16x128x512 .f32) (dc : Vec Ideal S1x16x512 .f32)

/-- The accumulators after the diagonal tile and `m` more. -/
theorem accN_at (m : ℕ) (hm : j.val + m ≤ 15) :
    (∀ k l s, (accN x0 x1 x2 x3 j dq dc m).dq (ix4 0 k l s) = dq (ix4 0 k l s) + if j.val ≤ k.val ∧ k.val ≤ j.val + m then ∑ r : Fin 512, x2 (ix3 0 r l) * dsT x0 x1 x2 x3 j k r s else 0)
    ∧ (∀ r l, (accN x0 x1 x2 x3 j dq dc m).dk (ix3 0 r l) = part j (fun n => ∑ s : Fin 512, dsT x0 x1 x2 x3 j n r s * x0 (ix3 0 (row n s) l)) m)
    ∧ (∀ r l, (accN x0 x1 x2 x3 j dq dc m).dv (ix3 0 r l) = part j (fun n => ∑ s : Fin 512, pwT x0 x2 j n r s * x1 (ix3 0 (row n s) l)) m)
    ∧ (∀ k s, (accN x0 x1 x2 x3 j dq dc m).dc (ix3 0 k s) = dc (ix3 0 k s) + if j.val ≤ k.val ∧ k.val ≤ j.val + m then ∑ r : Fin 512, dsT x0 x1 x2 x3 j k r s else 0)
    ∧ (∀ r, (accN x0 x1 x2 x3 j dq dc m).dck (ix2 r 0) = part j (fun n => ∑ s : Fin 512, dsT x0 x1 x2 x3 j n r s) m) := by
  induction m with
  | zero =>
    obtain ⟨h4, h5, h6, h7, h8⟩ := upd_at x0 x1 x2 x3 j j _ (pD_at x0 x2 j) (acc₀ dq dc)
    refine ⟨fun k l s => (h4 k l s).trans ?_, fun r l => (h5 r l).trans ?_, fun r l => (h6 r l).trans ?_, fun k s => (h7 k s).trans ?_, fun r => (h8 r).trans ?_⟩
    · show (if k = j then dq (ix4 0 k l s) + _ else dq (ix4 0 k l s)) = _
      by_cases h : k = j
      · subst h; rw [if_pos rfl, if_pos ⟨le_rfl, le_rfl⟩]
      · rw [if_neg h, if_neg fun h' => h (Fin.ext (by omega)), add_zero]
    · rw [part_zero]; show k0_pay60 (F := Ideal) (ix3 0 r l) + _ = _; rw [pay60_at, zero_add]
    · rw [part_zero]; show k0_pay61 (F := Ideal) (ix3 0 r l) + _ = _; rw [pay61_at, zero_add]
    · show (if k = j then dc (ix3 0 k s) + _ else dc (ix3 0 k s)) = _
      by_cases h : k = j
      · subst h; rw [if_pos rfl, if_pos ⟨le_rfl, le_rfl⟩]
      · rw [if_neg h, if_neg fun h' => h (Fin.ext (by omega)), add_zero]
    · rw [part_zero]; show k0_pay62 (F := Ideal) (ix2 r 0) + _ = _; rw [pay62_at, zero_add]
  | succ m ih =>
    obtain ⟨i4, i5, i6, i7, i8⟩ := ih (by omega)
    have hv : (ti (j.val + 1 + m)).val = j.val + 1 + m := ti_val (by omega)
    obtain ⟨h4, h5, h6, h7, h8⟩ := upd_at x0 x1 x2 x3 j (ti (j.val + 1 + m)) _ (pT_at x0 x2 j _ (by omega)) (accN x0 x1 x2 x3 j dq dc m)
    refine ⟨fun k l s => (h4 k l s).trans ?_, fun r l => (h5 r l).trans ?_, fun r l => (h6 r l).trans ?_, fun k s => (h7 k s).trans ?_, fun r => (h8 r).trans ?_⟩
    · rw [i4]
      by_cases h : k = ti (j.val + 1 + m)
      · have h2 : k.val = j.val + 1 + m := by rw [h, hv]
        rw [if_pos h, if_neg (by omega), add_zero, if_pos (by omega), h]
      · have h2 : k.val ≠ j.val + 1 + m := fun he => h (Fin.ext (by rw [hv, he]))
        rw [if_neg h]
        by_cases h3 : j.val ≤ k.val ∧ k.val ≤ j.val + m
        · rw [if_pos h3, if_pos (by omega)]
        · rw [if_neg h3, if_neg (by omega)]
    · rw [i5, part_succ _ _ _ (by omega)]
    · rw [i6, part_succ _ _ _ (by omega)]
    · rw [i7]
      by_cases h : k = ti (j.val + 1 + m)
      · have h2 : k.val = j.val + 1 + m := by rw [h, hv]
        rw [if_pos h, if_neg (by omega), add_zero, if_pos (by omega), h]
      · have h2 : k.val ≠ j.val + 1 + m := fun he => h (Fin.ext (by rw [hv, he]))
        rw [if_neg h]
        by_cases h3 : j.val ≤ k.val ∧ k.val ≤ j.val + m
        · rw [if_pos h3, if_pos (by omega)]
        · rw [if_neg h3, if_neg (by omega)]
    · rw [i8, part_succ _ _ _ (by omega)]

/-- The column's end: the queries' gradient has grown by this column's part. -/
theorem colEnd_dq_at (k : Fin 16) (l : Fin 128) (s : Fin 512) :
    (colEnd x0 x1 x2 x3 j dq dc).dq (ix4 0 k l s) = dq (ix4 0 k l s) + ∑ r : Fin 512, x2 (ix3 0 r l) * dsT x0 x1 x2 x3 j k r s := by
  refine ((accN_at x0 x1 x2 x3 j dq dc (15 - j.val) (by omega)).1 k l s).trans (congrArg _ ?_)
  by_cases h : j.val ≤ k.val
  · rw [if_pos ⟨h, by omega⟩]
  · rw [if_neg (by omega)]
    exact (Finset.sum_eq_zero fun r _ => by rw [dsT_early x0 x1 x2 x3 j k (by omega), mul_zero]).symm

/-- The keys' gradient: over all queries. -/
theorem colEnd_dk_at (r : Fin 512) (l : Fin 128) :
    (colEnd x0 x1 x2 x3 j dq dc).dk (ix3 0 r l) = ∑ n : Fin 16, ∑ s : Fin 512, dsT x0 x1 x2 x3 j n r s * x0 (ix3 0 (row n s) l) := by
  refine ((accN_at x0 x1 x2 x3 j dq dc (15 - j.val) (by omega)).2.1 r l).trans (part_all _ _ fun n h => ?_)
  exact Finset.sum_eq_zero fun s _ => by rw [dsT_early x0 x1 x2 x3 j n h, zero_mul]

/-- The values' gradient: over all queries. -/
theorem colEnd_dv_at (r : Fin 512) (l : Fin 128) :
    (colEnd x0 x1 x2 x3 j dq dc).dv (ix3 0 r l) = ∑ n : Fin 16, ∑ s : Fin 512, pwT x0 x2 j n r s * x1 (ix3 0 (row n s) l) := by
  refine ((accN_at x0 x1 x2 x3 j dq dc (15 - j.val) (by omega)).2.2.1 r l).trans (part_all _ _ fun n h => ?_)
  exact Finset.sum_eq_zero fun s _ => by rw [pwT_early x0 x2 j n h, zero_mul]

/-- The gates' gradient: this column's row sums are added to every tile, and its column sums taken off its own. -/
theorem dcEnd_at (k : Fin 16) (s : Fin 512) :
    dcEnd j (colEnd x0 x1 x2 x3 j dq dc) (ix3 0 k s)
      = if k = j then dc (ix3 0 k s) + (∑ r : Fin 512, dsT x0 x1 x2 x3 j k r s) - ∑ n : Fin 16, ∑ i : Fin 512, dsT x0 x1 x2 x3 j n s i
        else dc (ix3 0 k s) + ∑ r : Fin 512, dsT x0 x1 x2 x3 j k r s := by
  have h7 : ∀ k : Fin 16, (colEnd x0 x1 x2 x3 j dq dc).dc (ix3 0 k s) = dc (ix3 0 k s) + ∑ r : Fin 512, dsT x0 x1 x2 x3 j k r s := fun k => by
    refine ((accN_at x0 x1 x2 x3 j dq dc (15 - j.val) (by omega)).2.2.2.1 k s).trans (congrArg _ ?_)
    by_cases h : j.val ≤ k.val
    · rw [if_pos ⟨h, by omega⟩]
    · rw [if_neg (by omega)]
      exact (Finset.sum_eq_zero fun r _ => dsT_early x0 x1 x2 x3 j k (by omega) r s).symm
  have h8 : (colEnd x0 x1 x2 x3 j dq dc).dck (ix2 s 0) = ∑ n : Fin 16, ∑ i : Fin 512, dsT x0 x1 x2 x3 j n s i :=
    ((accN_at x0 x1 x2 x3 j dq dc (15 - j.val) (by omega)).2.2.2.2 s).trans (part_all _ _ fun n h =>
      Finset.sum_eq_zero fun i _ => dsT_early x0 x1 x2 x3 j n h s i)
  unfold dcEnd
  rw [put_dc_at]
  by_cases h : k = j
  · rw [if_pos h, if_pos h, pay10_at, window_dc_at, h8, h7, h]
  · rw [if_neg h, if_neg h, h7]

end Cert.KernelIdeal.Bwd

end
-- ==== Proof.Final.lean ====
/- The four arrays after the run, index by index, in the arrays the kernel is handed. -/
module

public import proofs.«01_k».proof.Proof.Column
public import proofs.«01_k».proof.Proof.Run
public import Idealize.ShloMosaic.Lib.Pipeline.ValueKit

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.Pipeline

/-- The tiles of 512 rows make up the 8192 rows. -/
theorem sum_row (f : Fin 8192 → EReal) : ∑ n : Fin 16, ∑ s : Fin 512, f (row n s) = ∑ i : Fin 8192, f i := by
  rw [← Fin.sum_mul_add_fin 16 512 f]
  refine Finset.sum_congr rfl fun n _ => Finset.sum_congr rfl fun s _ => congrArg f (Fin.ext ?_)
  show 512 * n.val + s.val = n.val * 512 + s.val
  omega

/-! ## The closed forms -/

section closed
variable (X0 X1 X2 X3 : FVec Ideal S8x8192x128 .bf16) (h : Fin 8)

/-- Head `h`'s logit of query `i` on key `j`. -/
def sc (i j : Fin 8192) : EReal := ∑ l : Fin 128, X2 (ix3 h j l) * X0 (ix3 h i l)
/-- Its weight. -/
def pw (i j : Fin 8192) : EReal := if j.val ≤ i.val then Ideal.exp (sc X0 X2 h i j) else 0
/-- The gradient of its logit. -/
def dst (i j : Fin 8192) : EReal := pw X0 X2 h i j * ∑ l : Fin 128, X3 (ix3 h j l) * X1 (ix3 h i l)

/-- What column `j` adds to the queries' gradient. -/
def addQ (j k : Fin 16) (l : Fin 128) (s : Fin 512) : EReal :=
  ∑ r : Fin 512, X2 (ix3 h (row j r) l) * dst X0 X1 X2 X3 h (row k s) (row j r)
/-- What column `j` adds to the gates' gradient. -/
def addC (j k : Fin 16) (s : Fin 512) : EReal :=
  (∑ r : Fin 512, dst X0 X1 X2 X3 h (row k s) (row j r)) + if k = j then -(∑ i : Fin 8192, dst X0 X1 X2 X3 h i (row j s)) else 0

def outQ : FVec Ideal S8x16x128x512 .f32 := fun y => ∑ j : Fin 8192, X2 (ix3 (y 0) j (y 2)) * dst X0 X1 X2 X3 (y 0) (row (y 1) (y 3)) j
def outK : FVec Ideal S8x8192x128 .f32 := fun y => ∑ i : Fin 8192, dst X0 X1 X2 X3 (y 0) i (y 1) * X0 (ix3 (y 0) i (y 2))
def outV : FVec Ideal S8x8192x128 .f32 := fun y => ∑ i : Fin 8192, pw X0 X2 (y 0) i (y 1) * X1 (ix3 (y 0) i (y 2))
def outC : FVec Ideal S8x16x512 .f32 := fun y =>
  (∑ j : Fin 8192, dst X0 X1 X2 X3 (y 0) (row (y 1) (y 2)) j) + -(∑ i : Fin 8192, dst X0 X1 X2 X3 (y 0) i (row (y 1) (y 2)))

end closed

/-! ## The blocks -/

theorem idx0 : ∀ t : Fin cfg0.N, win0_0.index t = ![t.val / 16, 0, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, t.val % 16, 0] := (by decide +kernel : ∀ t : Fin grid0.N, _)
theorem idx3 : ∀ t : Fin cfg0.N, win0_3.index t = ![t.val / 16, t.val % 16, 0] := (by decide +kernel : ∀ t : Fin grid0.N, _)
theorem idx4 : ∀ t : Fin cfg0.N, win0_4.index t = ![t.val / 16, 0, 0, 0] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, 0, 0] := (by decide +kernel : ∀ t : Fin grid0.N, _)

theorem coords1 : ∀ t : Fin cfg0.N, (grid0.coords t 1).val = t.val % 16 := (by decide +kernel : ∀ t : Fin grid0.N, _)

/-- Point `t`'s head. -/
def hd (t : Fin cfg0.N) : Fin 8 := ⟨t.val / 16, by have := lt_of_lt_of_eq t.isLt (show cfg0.N = 128 from N_0); omega⟩
/-- Point `t`'s column of keys. -/
def cl (t : Fin cfg0.N) : Fin 16 := ⟨t.val % 16, by omega⟩
theorem coords_cl (t : Fin cfg0.N) : grid0.coords t 1 = cl t := Fin.ext (coords1 t)

variable (m : (ℓ : Loc nD τ sig) → Buf (Elt Ideal) ℓ) (c : Dev nD)

abbrev X0 : FVec Ideal S8x8192x128 .bf16 := V m c main_v65
abbrev X1 : FVec Ideal S8x8192x128 .bf16 := V m c main_v109
abbrev X2 : FVec Ideal S8x8192x128 .bf16 := V m c main_v84
abbrev X3 : FVec Ideal S8x8192x128 .bf16 := V m c main_v93

theorem iblk0_at (t : Fin cfg0.N) (i : Fin 8192) (l : Fin 128) : iblk m c 0 t (ix3 0 i l) = X0 m c (ix3 (hd t) i l) := by
  blk_simp [iblk]
  refine congrArg (V m c main_v65) ?_
  blk_ext [idx0 t, hd]
theorem iblk1_at (t : Fin cfg0.N) (i : Fin 8192) (l : Fin 128) : iblk m c 1 t (ix3 0 i l) = X1 m c (ix3 (hd t) i l) := by
  blk_simp [iblk]
  refine congrArg (V m c main_v109) ?_
  blk_ext [idx1 t, hd]
theorem iblk2_at (t : Fin cfg0.N) (r : Fin 512) (l : Fin 128) : iblk m c 2 t (ix3 0 r l) = X2 m c (ix3 (hd t) (row (cl t) r) l) := by
  blk_simp [iblk]
  refine congrArg (V m c main_v84) ?_
  blk_ext [idx2 t, hd, cl, row]
theorem iblk3_at (t : Fin cfg0.N) (r : Fin 512) (l : Fin 128) : iblk m c 3 t (ix3 0 r l) = X3 m c (ix3 (hd t) (row (cl t) r) l) := by
  blk_simp [iblk]
  refine congrArg (V m c main_v93) ?_
  blk_ext [idx3 t, hd, cl, row]

/-! ## One point -/

theorem pw_pt (t : Fin cfg0.N) (n : Fin 16) (r s : Fin 512) :
    pwT (iblk m c 0 t) (iblk m c 2 t) (cl t) n r s = pw (X0 m c) (X2 m c) (hd t) (row n s) (row (cl t) r) := by
  unfold pwT pw lgT sc
  simp only [iblk0_at, iblk2_at]
theorem dst_pt (t : Fin cfg0.N) (n : Fin 16) (r s : Fin 512) :
    dsT (iblk m c 0 t) (iblk m c 1 t) (iblk m c 2 t) (iblk m c 3 t) (cl t) n r s
      = dst (X0 m c) (X1 m c) (X2 m c) (X3 m c) (hd t) (row n s) (row (cl t) r) := by
  unfold dsT dst
  rw [pw_pt]
  simp only [iblk1_at, iblk3_at]

theorem col_eq (t : Fin cfg0.N) (s) : col m c t s = colEnd (iblk m c 0 t) (iblk m c 1 t) (iblk m c 2 t) (iblk m c 3 t) (cl t) s.1 s.2 := by
  unfold col
  rw [coords_cl]

theorem next_dq_at (t : Fin cfg0.N) (s) (k : Fin 16) (l : Fin 128) (i : Fin 512) :
    (next m c t s).1 (ix4 0 k l i) = s.1 (ix4 0 k l i) + addQ (X0 m c) (X1 m c) (X2 m c) (X3 m c) (hd t) (cl t) k l i := by
  unfold next
  rw [col_eq]
  dsimp only
  rw [colEnd_dq_at]
  unfold addQ
  simp only [iblk2_at, dst_pt]

theorem col_dk_at (t : Fin cfg0.N) (s) (r : Fin 512) (l : Fin 128) :
    (col m c t s).dk (ix3 0 r l) = outK (X0 m c) (X1 m c) (X2 m c) (X3 m c) (ix3 (hd t) (row (cl t) r) l) := by
  rw [col_eq, colEnd_dk_at]
  simp only [iblk0_at, dst_pt]
  exact sum_row fun i => dst (X0 m c) (X1 m c) (X2 m c) (X3 m c) (hd t) i (row (cl t) r) * X0 m c (ix3 (hd t) i l)

theorem col_dv_at (t : Fin cfg0.N) (s) (r : Fin 512) (l : Fin 128) :
    (col m c t s).dv (ix3 0 r l) = outV (X0 m c) (X1 m c) (X2 m c) (ix3 (hd t) (row (cl t) r) l) := by
  rw [col_eq, colEnd_dv_at]
  simp only [iblk1_at, pw_pt]
  exact sum_row fun i => pw (X0 m c) (X2 m c) (hd t) i (row (cl t) r) * X1 m c (ix3 (hd t) i l)

theorem next_dc_at (t : Fin cfg0.N) (s) (k : Fin 16) (i : Fin 512) :
    (next m c t s).2 (ix3 0 k i) = s.2 (ix3 0 k i) + addC (X0 m c) (X1 m c) (X2 m c) (X3 m c) (hd t) (cl t) k i := by
  unfold next
  rw [coords_cl, col_eq]
  dsimp only
  rw [dcEnd_at]
  unfold addC
  simp only [dst_pt]
  split
  · rw [sum_row fun x => dst (X0 m c) (X1 m c) (X2 m c) (X3 m c) (hd t) x (row (cl t) i), sub_eq_add_neg, add_assoc]
  · rw [add_zero]

/-! ## A head's points -/

/-- Column `n` of the sixteen. -/
def colj (n : ℕ) : Fin 16 := ⟨n % 16, by omega⟩

theorem pt_hd (h : Fin 8) (j : ℕ) (hj : j < 16) : hd (pt (16 * h.val + j)) = h := Fin.ext (by
  show min (16 * h.val + j) 127 / 16 = h.val; omega)
theorem pt_cl (h : Fin 8) (j : ℕ) (hj : j < 16) : cl (pt (16 * h.val + j)) = colj j := Fin.ext (by
  show min (16 * h.val + j) 127 % 16 = j % 16; omega)

theorem ins_dq (h : Fin 8) (k : Fin 16) (l : Fin 128) (i : Fin 512) : ∀ j : ℕ, j < 16 →
    (ins m c (16 * h.val + j)).1 (ix4 0 k l i) = ∑ n ∈ Finset.range j, addQ (X0 m c) (X1 m c) (X2 m c) (X3 m c) h (colj n) k l i
  | 0, _ => by
    rw [ins_first m c _ (by omega), Finset.sum_range_zero]
    exact pay58_at (ix4 0 k l i)
  | j + 1, hj => by
    rw [← Nat.add_assoc, ins_later m c _ (by omega), next_dq_at, ins_dq h k l i j (by omega), pt_hd h j (by omega), pt_cl h j (by omega), Finset.sum_range_succ]

theorem ins_dc (h : Fin 8) (k : Fin 16) (i : Fin 512) : ∀ j : ℕ, j < 16 →
    (ins m c (16 * h.val + j)).2 (ix3 0 k i) = ∑ n ∈ Finset.range j, addC (X0 m c) (X1 m c) (X2 m c) (X3 m c) h (colj n) k i
  | 0, _ => by
    rw [ins_first m c _ (by omega), Finset.sum_range_zero]
    exact pay59_at (ix3 0 k i)
  | j + 1, hj => by
    rw [← Nat.add_assoc, ins_later m c _ (by omega), next_dc_at, ins_dc h k i j (by omega), pt_hd h j (by omega), pt_cl h j (by omega), Finset.sum_range_succ]

theorem sum_colj (f : Fin 16 → EReal) : ∑ n ∈ Finset.range 16, f (colj n) = ∑ n : Fin 16, f n := by
  rw [← Fin.sum_univ_eq_sum_range (fun n => f (colj n)) 16]
  exact Finset.sum_congr rfl fun n _ => congrArg f (Fin.ext (Nat.mod_eq_of_lt n.isLt))

theorem last_pt (t : Fin cfg0.N) (h : t.val % 16 = 15) : t = pt (16 * (hd t).val + 15) := by
  have h1 : 16 * (hd t).val + 15 = t.val := by show 16 * (t.val / 16) + 15 = t.val; omega
  rw [h1, pt_val]

theorem last_dq (t : Fin cfg0.N) (h : t.val % 16 = 15) (k : Fin 16) (l : Fin 128) (i : Fin 512) :
    (next m c t (ins m c t.val)).1 (ix4 0 k l i) = outQ (X0 m c) (X1 m c) (X2 m c) (X3 m c) (ix4 (hd t) k l i) := by
  have h1 : t.val = 16 * (hd t).val + 15 := by show t.val = 16 * (t.val / 16) + 15; omega
  have h2 : cl t = colj 15 := Fin.ext h
  rw [next_dq_at, h2, h1, ins_dq m c (hd t) k l i 15 (by omega)]
  rw [← Finset.sum_range_succ (fun n => addQ (X0 m c) (X1 m c) (X2 m c) (X3 m c) (hd t) (colj n) k l i) 15,
    sum_colj fun n => addQ (X0 m c) (X1 m c) (X2 m c) (X3 m c) (hd t) n k l i]
  unfold addQ
  exact sum_row fun j => X2 m c (ix3 (hd t) j l) * dst (X0 m c) (X1 m c) (X2 m c) (X3 m c) (hd t) (row k i) j

theorem last_dc (t : Fin cfg0.N) (h : t.val % 16 = 15) (k : Fin 16) (i : Fin 512) :
    (next m c t (ins m c t.val)).2 (ix3 0 k i) = outC (X0 m c) (X1 m c) (X2 m c) (X3 m c) (ix3 (hd t) k i) := by
  have h1 : t.val = 16 * (hd t).val + 15 := by show t.val = 16 * (t.val / 16) + 15; omega
  have h2 : cl t = colj 15 := Fin.ext h
  rw [next_dc_at, h2, h1, ins_dc m c (hd t) k i 15 (by omega)]
  rw [← Finset.sum_range_succ (fun n => addC (X0 m c) (X1 m c) (X2 m c) (X3 m c) (hd t) (colj n) k i) 15,
    sum_colj fun n => addC (X0 m c) (X1 m c) (X2 m c) (X3 m c) (hd t) n k i]
  unfold addC
  rw [Finset.sum_add_distrib, sum_row fun j => dst (X0 m c) (X1 m c) (X2 m c) (X3 m c) (hd t) (row k i) j,
    Finset.sum_ite_eq Finset.univ k (fun j => -(∑ x : Fin 8192, dst (X0 m c) (X1 m c) (X2 m c) (X3 m c) (hd t) x (row j i)))]
  rw [if_pos (Finset.mem_univ _)]
  rfl

/-! ## The arrays -/

theorem final_dq : (dats m 0 c).arrAt 4 cfg0.N = outQ (X0 m c) (X1 m c) (X2 m c) (X3 m c) := by
  refine (dats m 0 c).arrAt_eq_of_covers 4 _ (by decide +kernel) fun t hf y => ?_
  have h15 : t.val % 16 = 15 := (flush0_4 t).mp hf
  blk_simp
  rw [after0_4]
  have hy : (y : S1x16x128x512.Idx) = ix4 0 (y 1) (y 2) (y 3) := by
    refine (eq_ix4 (n0 := 1) (n1 := 16) (n2 := 128) (n3 := 512) y).trans ?_
    congr 1
    exact Subsingleton.elim (α := Fin 1) _ _
  refine (congrArg (next m c t (ins m c t.val)).1 hy).trans ((last_dq m c t h15 (y 1) (y 2) (y 3)).trans (congrArg _ ?_))
  blk_ext [idx4 t, hd]
theorem final_dk : (dats m 0 c).arrAt 5 cfg0.N = outK (X0 m c) (X1 m c) (X2 m c) (X3 m c) := by
  refine (dats m 0 c).arrAt_eq_of_covers 5 _ (by decide +kernel) fun t hf y => ?_
  blk_simp
  rw [after0_5]
  have hy : (y : S1x512x128.Idx) = ix3 0 (y 1) (y 2) := by
    refine (eq_ix3 (n0 := 1) (n1 := 512) (n2 := 128) y).trans ?_
    congr 1
    exact Subsingleton.elim (α := Fin 1) _ _
  refine (congrArg (col m c t (ins m c t.val)).dk hy).trans ((col_dk_at m c t _ (y 1) (y 2)).trans (congrArg _ ?_))
  blk_ext [idx5 t, hd, cl, row]
theorem final_dv : (dats m 0 c).arrAt 6 cfg0.N = outV (X0 m c) (X1 m c) (X2 m c) := by
  refine (dats m 0 c).arrAt_eq_of_covers 6 _ (by decide +kernel) fun t hf y => ?_
  blk_simp
  rw [after0_6]
  have hy : (y : S1x512x128.Idx) = ix3 0 (y 1) (y 2) := by
    refine (eq_ix3 (n0 := 1) (n1 := 512) (n2 := 128) y).trans ?_
    congr 1
    exact Subsingleton.elim (α := Fin 1) _ _
  refine (congrArg (col m c t (ins m c t.val)).dv hy).trans ((col_dv_at m c t _ (y 1) (y 2)).trans (congrArg _ ?_))
  blk_ext [idx6 t, hd, cl, row]
theorem final_dc : (dats m 0 c).arrAt 7 cfg0.N = outC (X0 m c) (X1 m c) (X2 m c) (X3 m c) := by
  refine (dats m 0 c).arrAt_eq_of_covers 7 _ (by decide +kernel) fun t hf y => ?_
  have h15 : t.val % 16 = 15 := (flush0_7 t).mp hf
  blk_simp
  rw [after0_7]
  have hy : (y : S1x16x512.Idx) = ix3 0 (y 1) (y 2) := by
    refine (eq_ix3 (n0 := 1) (n1 := 16) (n2 := 512) y).trans ?_
    congr 1
    exact Subsingleton.elim (α := Fin 1) _ _
  refine (congrArg (next m c t (ins m c t.val)).2 hy).trans ((last_dc m c t h15 (y 1) (y 2)).trans (congrArg _ ?_))
  blk_ext [idx7 t, hd]

end Cert.KernelIdeal.Bwd

end
-- ==== Proof.Reals.lean ====
/- One head of the attention over the real numbers, and sums of reals read in the extended reals. -/
module

public import Idealize.ShloMosaic.Lib.IdealHost
public import Idealize.ShloMosaic.Lib.Pointwise

@[expose] public section

set_option maxRecDepth 16384

noncomputable section

namespace Cert.Att

open Idealize.ShloMosaic

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row's maximum over the extended reals is a real when one entry is and none is plus infinity. -/
theorem fold_max_coe (f : Fin 8192 → EReal) (i : Fin 8192) (hi : ⊥ < f i) (hf : ∀ j, f j < ⊤) :
    (((Finset.univ.fold max ⊥ f).toReal : ℝ) : EReal) = Finset.univ.fold max ⊥ f := by
  refine EReal.coe_toReal ((Finset.fold_max_lt _).2 ⟨bot_lt_top, fun j _ => hf j⟩).ne ?_
  exact ((Finset.lt_fold_max _).2 (Or.inr ⟨i, Finset.mem_univ _, hi⟩)).ne'

section head
variable (Q K V G : Fin 8192 → Fin 64 → ℝ) (C : Fin 8192 → ℝ)

/-- The logit of query `i` on key `j`. -/
def lgt (i j : Fin 8192) : ℝ := (∑ d, Q i d * K j d) * (1 / 8) + C i - C j
/-- The masked logit. -/
def lgm (i j : Fin 8192) : EReal := if j.val ≤ i.val then (lgt Q K C i j : EReal) else ⊥
/-- A row's maximum. -/
def mx (i : Fin 8192) : ℝ := (Finset.univ.fold max ⊥ (lgm Q K C i)).toReal
/-- The exponential under the maximum. -/
def ee (i j : Fin 8192) : ℝ := if j.val ≤ i.val then Real.exp (lgt Q K C i j - mx Q K C i) else 0
/-- A row's sum. -/
def st (i : Fin 8192) : ℝ := ∑ j, ee Q K C i j
/-- The weight. -/
def wt (i j : Fin 8192) : ℝ := ee Q K C i j / st Q K C i
/-- The gradient of the weight. -/
def gp (i j : Fin 8192) : ℝ := ∑ d, G i d * V j d
/-- The output with its gradient. -/
def del (i : Fin 8192) : ℝ := ∑ j, wt Q K C i j * gp V G i j
/-- The gradient of the logit. -/
def ds (i j : Fin 8192) : ℝ := wt Q K C i j * (gp V G i j - del Q K V G C i)

theorem mx_coe (i : Fin 8192) : Finset.univ.fold max ⊥ (lgm Q K C i) = ((mx Q K C i : ℝ) : EReal) := by
  refine (fold_max_coe _ i ?_ fun j => ?_).symm
  · unfold lgm; rw [if_pos le_rfl]; exact EReal.bot_lt_coe _
  · unfold lgm; split
    · exact EReal.coe_lt_top _
    · exact bot_lt_top

theorem ee_coe (i j : Fin 8192) : Ideal.exp (lgm Q K C i j - ((mx Q K C i : ℝ) : EReal)) = ((ee Q K C i j : ℝ) : EReal) := by
  unfold lgm ee
  split
  · rw [← EReal.coe_sub, Ideal.exp_coe]
  · rw [EReal.bot_sub, Ideal.exp_bot, EReal.coe_zero]

theorem ee_nonneg (i j : Fin 8192) : 0 ≤ ee Q K C i j := by
  unfold ee; split
  · exact (Real.exp_pos _).le
  · exact le_rfl

theorem st_pos (i : Fin 8192) : 0 < st Q K C i := by
  refine Finset.sum_pos' (fun j _ => ee_nonneg Q K C i j) ⟨i, Finset.mem_univ _, ?_⟩
  unfold ee; rw [if_pos le_rfl]; exact Real.exp_pos _

theorem st_ne (i : Fin 8192) : st Q K C i ≠ 0 := (st_pos Q K C i).ne'

/-- The weight as the exponential of the logit less the log-sum. -/
theorem wt_exp (i j : Fin 8192) (h : j.val ≤ i.val) : Real.exp (lgt Q K C i j - mx Q K C i - Real.log (st Q K C i)) = wt Q K C i j := by
  unfold wt ee
  rw [if_pos h, Real.exp_sub, Real.exp_log (st_pos Q K C i)]

theorem wt_late (i j : Fin 8192) (h : ¬ j.val ≤ i.val) : wt Q K C i j = 0 := by
  unfold wt ee
  rw [if_neg h, zero_div]

theorem ds_late (i j : Fin 8192) (h : ¬ j.val ≤ i.val) : ds Q K V G C i j = 0 := by
  unfold ds
  rw [wt_late Q K C i j h, zero_mul]

/-- The delta by outputs: each output coordinate with its gradient. -/
theorem del_out (i : Fin 8192) : ∑ d : Fin 64, (∑ j, ee Q K C i j * V j d) * (1 / st Q K C i) * G i d = del Q K V G C i := by
  unfold del wt gp
  simp only [Finset.mul_sum, Finset.sum_mul]
  rw [Finset.sum_comm]
  refine Finset.sum_congr rfl fun j _ => Finset.sum_congr rfl fun d _ => ?_
  ring

/-- The delta by weights, as the reference sums it. -/
theorem del_sum (i : Fin 8192) : ∑ j, gp V G i j * (1 / (st Q K C i * st Q K C i)) * ee Q K C i j = del Q K V G C i / st Q K C i := by
  unfold del wt
  rw [Finset.sum_div]
  refine Finset.sum_congr rfl fun j _ => ?_
  have := st_ne Q K C i
  field_simp

end head

/-! ## 128 lanes -/

theorem sum_lanes6 (f : Fin 128 → EReal) :
    ∑ l, f l = (∑ d : Fin 64, f ⟨d.val, by omega⟩) + (f 64 + f 65 + f 66 + f 67 + f 68 + f 69 + ∑ d : Fin 58, f ⟨70 + d.val, by omega⟩) := by
  rw [show ∑ l, f l = ∑ l : Fin (64 + (6 + 58)), f l from rfl, Fin.sum_univ_add, Fin.sum_univ_add, Fin.sum_univ_six]
  congr 2

theorem sum_lanes3 (f : Fin 128 → EReal) :
    ∑ l, f l = (∑ d : Fin 64, f ⟨d.val, by omega⟩) + (f 64 + f 65 + f 66 + ∑ d : Fin 61, f ⟨67 + d.val, by omega⟩) := by
  rw [show ∑ l, f l = ∑ l : Fin (64 + (3 + 61)), f l from rfl, Fin.sum_univ_add, Fin.sum_univ_add, Fin.sum_univ_three]
  congr 2

end Cert.Att

end
-- ==== Proof.KerVal.lean ====
/- The kernel's four gradients of real arguments, as real numbers. -/
module

public import proofs.«01_k».proof.Proof.HostIn
public import proofs.«01_k».proof.Proof.Final
public import proofs.«01_k».proof.Proof.Reals

@[expose] public section

set_option maxRecDepth 16384

noncomputable section

namespace Cert.KernelIdeal.Bwd

open Cert.KernelIdeal Cert.KernelIdeal.Gen
open Idealize.ShloMosaic Cert.Att

/-- Head `h` of an array by positions and heads. -/
def hd4 (a : FVec Ideal S1x8192x8x64 .f32) (h : Fin 8) (i : Fin 8192) (d : Fin 64) : ℝ := (a (ix4 0 i h d)).toReal
def hd3 (a : FVec Ideal S1x8192x8 .f32) (h : Fin 8) (i : Fin 8192) : ℝ := (a (ix3 0 i h)).toReal
def hd5 (a : FVec Ideal S1x8192x512 .f32) (h : Fin 8) (i : Fin 8192) (d : Fin 64) : ℝ := (a (ix3 0 i ⟨h.val * 64 + d.val, by omega⟩)).toReal

variable (q k v : FVec Ideal S1x8192x8x64 .f32) (c : FVec Ideal S1x8192x8 .f32) (g : FVec Ideal S1x8192x512 .f32)

/-- The masked logits, the exponentials, the two rows and the four operands, of the arguments. -/
abbrev kl : FVec Ideal S8x8192x8192 .f32 := kL (kq q) (kk k) (kc c)
abbrev ke : FVec Ideal S8x8192x8192 .f32 := kE (kl q k c) (kM (kl q k c))
abbrev kz : FVec Ideal S8x8192 .f32 := kLse (kM (kl q k c)) (kT (ke q k c)) (kc c)
abbrev kd : FVec Ideal S8x8192 .f32 := kDel (ke q k c) (kv v) (kT (ke q k c)) (kg g)
abbrev xq : FVec Ideal S8x8192x128 .bf16 := kQaug (kq q) (kz q k c)
abbrev xg : FVec Ideal S8x8192x128 .bf16 := kGaug (kg g) (kd q k v c g)
abbrev xk : FVec Ideal S8x8192x128 .bf16 := kKaug (kk k) (kc c)
abbrev xv : FVec Ideal S8x8192x128 .bf16 := kVaug (kv v)

variable (rq' : ∀ y, ((q y).toReal : EReal) = q y) (rk' : ∀ y, ((k y).toReal : EReal) = k y) (rv' : ∀ y, ((v y).toReal : EReal) = v y)
  (rc' : ∀ y, ((c y).toReal : EReal) = c y) (rg' : ∀ y, ((g y).toReal : EReal) = g y)

include rq' in
theorem q_coe (h : Fin 8) (i : Fin 8192) (d : Fin 64) : kq q (ix3 h i d) = ((hd4 q h i d * (1 / 8) : ℝ) : EReal) := by
  rw [kq_at, ofBits_eighth, EReal.coe_mul]; exact congrArg (· * _) (rq' _).symm
include rk' in
theorem k_coe (h : Fin 8) (i : Fin 8192) (d : Fin 64) : kk k (ix3 h i d) = ((hd4 k h i d : ℝ) : EReal) := by
  rw [kk_at]; exact (rk' _).symm
include rv' in
theorem v_coe (h : Fin 8) (i : Fin 8192) (d : Fin 64) : kv v (ix3 h i d) = ((hd4 v h i d : ℝ) : EReal) := by
  rw [kv_at]; exact (rv' _).symm
include rc' in
theorem c_coe (h : Fin 8) (i : Fin 8192) : kc c (ix2 h i) = ((hd3 c h i : ℝ) : EReal) := by
  rw [kc_at]; exact (rc' _).symm
include rg' in
theorem g_coe (h : Fin 8) (i : Fin 8192) (d : Fin 64) : kg g (ix3 h i d) = ((hd5 g h i d : ℝ) : EReal) := by
  rw [kg_at]; exact (rg' _).symm

/-- The scale goes into the product. -/
theorem lgt_scaled (Q K : Fin 8192 → Fin 64 → ℝ) (C : Fin 8192 → ℝ) (i j : Fin 8192) :
    (∑ d, Q i d * (1 / 8) * K j d) + C i - C j = lgt Q K C i j := by
  unfold lgt
  rw [Finset.sum_mul]
  congr 2
  exact Finset.sum_congr rfl fun d _ => by ring

include rq' rk' rc' in
theorem L_coe (h : Fin 8) (i j : Fin 8192) : kl q k c (ix3 h i j) = lgm (hd4 q h) (hd4 k h) (hd3 c h) i j := by
  refine (kL_at _ _ _ h i j).trans ?_
  unfold lgm
  simp only [q_coe q rq', k_coe k rk', c_coe c rc', ← EReal.coe_mul, coe_sum, ← EReal.coe_add, ← EReal.coe_sub, lgt_scaled]

include rq' rk' rc' in
theorem M_coe (h : Fin 8) (i : Fin 8192) : kM (kl q k c) (ix2 h i) = ((mx (hd4 q h) (hd4 k h) (hd3 c h) i : ℝ) : EReal) := by
  refine (kM_at _ h i).trans ?_
  rw [← mx_coe]
  congr 1
  funext l
  exact L_coe q k c rq' rk' rc' h i l

include rq' rk' rc' in
theorem E_coe (h : Fin 8) (i j : Fin 8192) : ke q k c (ix3 h i j) = ((ee (hd4 q h) (hd4 k h) (hd3 c h) i j : ℝ) : EReal) := by
  refine (kE_at _ _ h i j).trans ?_
  rw [L_coe q k c rq' rk' rc', M_coe q k c rq' rk' rc', ee_coe]

include rq' rk' rc' in
theorem T_coe (h : Fin 8) (i : Fin 8192) : kT (ke q k c) (ix2 h i) = ((st (hd4 q h) (hd4 k h) (hd3 c h) i : ℝ) : EReal) := by
  refine (kT_at _ h i).trans ?_
  simp only [E_coe q k c rq' rk' rc', coe_sum]
  rfl

/-- The gate less the log-sum, a real. -/
def lse (Q K : Fin 8192 → Fin 64 → ℝ) (C : Fin 8192 → ℝ) (i : Fin 8192) : ℝ := -(mx Q K C i + Real.log (st Q K C i)) + C i

include rq' rk' rc' in
theorem z_coe (h : Fin 8) (i : Fin 8192) : kz q k c (ix2 h i) = ((lse (hd4 q h) (hd4 k h) (hd3 c h) i : ℝ) : EReal) := by
  refine (kLse_at _ _ _ h i).trans ?_
  rw [M_coe q k c rq' rk' rc', T_coe q k c rq' rk' rc', c_coe c rc', Ideal.log_coe, if_neg (not_le.2 (st_pos _ _ _ _)),
    ← EReal.coe_add, ← EReal.coe_neg, ← EReal.coe_add]
  rfl

include rq' rk' rv' rc' rg' in
theorem d_coe (h : Fin 8) (i : Fin 8192) : kd q k v c g (ix2 h i) = ((del (hd4 q h) (hd4 k h) (hd4 v h) (hd5 g h) (hd3 c h) i : ℝ) : EReal) := by
  refine (kDel_at _ _ _ _ h i).trans ?_
  simp only [E_coe q k c rq' rk' rc', T_coe q k c rq' rk' rc', v_coe v rv', g_coe g rg', Ideal.div_coe (st_ne _ _ _ _), ← EReal.coe_mul, coe_sum, del_out]

include rq' rk' rc' in
theorem sc_coe (h : Fin 8) (i j : Fin 8192) :
    sc (xq q k c) (xk k c) h i j
      = ((lgt (hd4 q h) (hd4 k h) (hd3 c h) i j - mx (hd4 q h) (hd4 k h) (hd3 c h) i - Real.log (st (hd4 q h) (hd4 k h) (hd3 c h) i) : ℝ) : EReal) := by
  unfold sc
  rw [sum_lanes6]
  simp only [kQaug_lo, kQaug_64, kQaug_65, kQaug_66, kQaug_67, kQaug_68, kQaug_69, kQaug_hi, kKaug_lo, kKaug_64, kKaug_65, kKaug_66, kKaug_67, kKaug_68,
    kKaug_69, kKaug_hi, q_coe q rq', k_coe k rk', c_coe c rc', z_coe q k c rq' rk' rc', mul_zero, Finset.sum_const_zero, add_zero, one_mul, mul_neg, mul_one,
    ← EReal.coe_mul, coe_sum, ← EReal.coe_sub, ← EReal.coe_neg, ← EReal.coe_add]
  rw [← lgt_scaled]
  congr 1
  unfold lse
  rw [show ∑ d, hd4 k h j d * (hd4 q h i d * (1 / 8)) = ∑ d, hd4 q h i d * (1 / 8) * hd4 k h j d from Finset.sum_congr rfl fun d _ => mul_comm _ _]
  ring

include rq' rk' rc' in
theorem pw_coe (h : Fin 8) (i j : Fin 8192) : pw (xq q k c) (xk k c) h i j = ((wt (hd4 q h) (hd4 k h) (hd3 c h) i j : ℝ) : EReal) := by
  unfold pw
  split
  · rename_i hj
    rw [sc_coe q k c rq' rk' rc', Ideal.exp_coe, wt_exp _ _ _ _ _ hj]
  · rename_i hj
    rw [wt_late _ _ _ _ _ hj, EReal.coe_zero]

include rq' rk' rv' rc' rg' in
theorem dd_coe (h : Fin 8) (i j : Fin 8192) :
    ∑ l : Fin 128, xv v (ix3 h j l) * xg q k v c g (ix3 h i l)
      = ((gp (hd4 v h) (hd5 g h) i j - del (hd4 q h) (hd4 k h) (hd4 v h) (hd5 g h) (hd3 c h) i : ℝ) : EReal) := by
  rw [sum_lanes3]
  simp only [kVaug_lo, kVaug_64, kVaug_65, kVaug_66, kVaug_hi, kGaug_lo, kGaug_64, kGaug_65, kGaug_66, kGaug_hi, v_coe v rv', g_coe g rg',
    d_coe q k v c g rq' rk' rv' rc' rg', mul_zero, Finset.sum_const_zero, add_zero, one_mul,
    ← EReal.coe_mul, coe_sum, ← EReal.coe_sub, ← EReal.coe_neg, ← EReal.coe_add]
  congr 1
  unfold gp
  rw [show ∑ d, hd4 v h j d * hd5 g h i d = ∑ d, hd5 g h i d * hd4 v h j d from Finset.sum_congr rfl fun d _ => mul_comm _ _]
  ring

include rq' rk' rv' rc' rg'

theorem dst_coe (h : Fin 8) (i j : Fin 8192) : dst (xq q k c) (xg q k v c g) (xk k c) (xv v) h i j
    = ((ds (hd4 q h) (hd4 k h) (hd4 v h) (hd5 g h) (hd3 c h) i j : ℝ) : EReal) := by
  unfold dst
  rw [pw_coe q k c rq' rk' rc', dd_coe q k v c g rq' rk' rv' rc' rg', ← EReal.coe_mul]
  rfl

theorem dq_coe (n : Fin 16) (s : Fin 512) (h : Fin 8) (d : Fin 64) : kDq (outQ (xq q k c) (xg q k v c g) (xk k c) (xv v)) (ix4 0 (row n s) h d)
    = ((∑ j, ds (hd4 q h) (hd4 k h) (hd4 v h) (hd5 g h) (hd3 c h) (row n s) j * (1 / 8) * hd4 k h j d : ℝ) : EReal) := by
  refine (kDq_at _ n s h d).trans ?_
  show (∑ j : Fin 8192, xk k c (ix3 h j ⟨d.val, by omega⟩) * dst (xq q k c) (xg q k v c g) (xk k c) (xv v) h (row n s) j) * _ = _
  simp only [dst_coe q k v c g rq' rk' rv' rc' rg', kKaug_lo, k_coe k rk', ofBits_eighth, ← EReal.coe_mul, coe_sum]
  congr 1
  rw [Finset.sum_mul]
  exact Finset.sum_congr rfl fun j _ => by ring
theorem dk_coe (h : Fin 8) (j : Fin 8192) (d : Fin 64) : kDk (outK (xq q k c) (xg q k v c g) (xk k c) (xv v)) (ix4 0 j h d)
    = ((∑ i, ds (hd4 q h) (hd4 k h) (hd4 v h) (hd5 g h) (hd3 c h) i j * (1 / 8) * hd4 q h i d : ℝ) : EReal) := by
  refine (kDk_at _ j h d).trans ?_
  show (∑ i : Fin 8192, dst (xq q k c) (xg q k v c g) (xk k c) (xv v) h i j * xq q k c (ix3 h i ⟨d.val, by omega⟩)) = _
  simp only [dst_coe q k v c g rq' rk' rv' rc' rg', kQaug_lo, q_coe q rq', ← EReal.coe_mul, coe_sum]
  congr 1
  exact Finset.sum_congr rfl fun i _ => by ring
theorem dv_coe (h : Fin 8) (j : Fin 8192) (d : Fin 64) : kDk (outV (xq q k c) (xg q k v c g) (xk k c)) (ix4 0 j h d)
    = ((∑ i, hd5 g h i d * wt (hd4 q h) (hd4 k h) (hd3 c h) i j : ℝ) : EReal) := by
  refine (kDk_at _ j h d).trans ?_
  show (∑ i : Fin 8192, pw (xq q k c) (xk k c) h i j * xg q k v c g (ix3 h i ⟨d.val, by omega⟩)) = _
  simp only [pw_coe q k c rq' rk' rc', kGaug_lo, g_coe g rg', ← EReal.coe_mul, coe_sum]
  congr 1
  exact Finset.sum_congr rfl fun i _ => by ring
theorem dc_coe (n : Fin 16) (s : Fin 512) (h : Fin 8) : kDc (outC (xq q k c) (xg q k v c g) (xk k c) (xv v)) (ix3 0 (row n s) h)
    = (((∑ l, -ds (hd4 q h) (hd4 k h) (hd4 v h) (hd5 g h) (hd3 c h) l (row n s)) + ∑ j, ds (hd4 q h) (hd4 k h) (hd4 v h) (hd5 g h) (hd3 c h) (row n s) j : ℝ) : EReal) := by
  refine (kDc_at _ n s h).trans ?_
  show (∑ j : Fin 8192, dst (xq q k c) (xg q k v c g) (xk k c) (xv v) h (row n s) j) + -(∑ i : Fin 8192, dst (xq q k c) (xg q k v c g) (xk k c) (xv v) h i (row n s)) = _
  simp only [dst_coe q k v c g rq' rk' rv' rc' rg', coe_sum, ← EReal.coe_neg, ← EReal.coe_add]
  congr 1
  rw [Finset.sum_neg_distrib]
  ring

end Cert.KernelIdeal.Bwd

end
-- ==== Proof.Ref.lean ====
/- The reference's gradient of the attention, stage by stage and index by index. -/
module

public import proofs.«01_k».proof.Proof.Gen.ReferenceIdeal
public import Idealize.ShloMosaic.Lib.Pipeline.ValueKit
public import Idealize.ShloMosaic.Lib.WordCmp
public import Idealize.ShloMosaic.Lib.IdealHost

@[expose] public section

set_option maxRecDepth 16384

noncomputable section

namespace Cert.ReferenceIdeal.Grad

open Cert.ReferenceIdeal Cert.ReferenceIdeal.Gen
open Idealize.ShloMosaic Idealize.ShloMosaic.TcCoe Idealize.ShloMosaic.Tactic

/-- The queries (and keys and values), by heads. -/
def rq (a : FVec Ideal S1x8192x8x64 .f32) : FVec Ideal S1x8x8192x64 .f32 :=
  transpose S1x8x8192x64 [0, 2, 1, 3] a transposes_S1x8192x8x64_S1x8x8192x64_0_2_1_3

/-- The cumulative gates, by heads. -/
def rc (a : FVec Ideal S1x8192x8 .f32) : FVec Ideal S1x8x8192 .f32 :=
  transpose S1x8x8192 [0, 2, 1] a transposes_S1x8192x8_S1x8x8192_0_2_1

/-- The output's gradient, by heads. -/
def rg (a : FVec Ideal S1x8192x512 .f32) : FVec Ideal S1x8x8192x64 .f32 :=
  transpose S1x8x8192x64 [0, 2, 1, 3] (shapeCast S1x8192x8x64 a shapeCasts_S1x8192x512_S1x8192x8x64) transposes_S1x8192x8x64_S1x8x8192x64_0_2_1_3

/-- The logits, masked. -/
def rL (q : FVec Ideal S1x8x8192x64 .f32) (k : FVec Ideal S1x8x8192x64 .f32) (c : FVec Ideal S1x8x8192 .f32) : FVec Ideal S1x8x8192x8192 .f32 :=
  select (broadcastInDim S1x8x8192x8192 ![2, 3] bcast_S8192x8192_S1x8x8192x8192_2_3 (cmpi .sle (broadcastInDim S8192x8192 ![0, 1] bcast_S1x8192_S8192x8192_0_1 (broadcastInDim S1x8192 ![1] bcast_S8192_S1x8192_1 ((iotaInDim S8192 32 0)))) (broadcastInDim S8192x8192 ![0, 1] bcast_S8192x1_S8192x8192_0_1 (broadcastInDim S8192x1 ![0] bcast_S8192_S8192x1_0 ((iotaInDim S8192 32 0)))))) (subf (addf (mulf (Host.dotGeneral dot_S1x8x8192x64_S1x8x8192x64_S1x8x8192x8192_3_3_2_2_01_01 none q k) (broadcastInDim S1x8x8192x8192 ![] bcast_S_S1x8x8192x8192 ((constant S_ .f32 0x3E000000#32)))) (broadcastInDim S1x8x8192x8192 ![0, 1, 2, 3] bcast_S1x8x8192x1_S1x8x8192x8192_0_1_2_3 (broadcastInDim S1x8x8192x1 ![0, 1, 2] bcast_S1x8x8192_S1x8x8192x1_0_1_2 c))) (broadcastInDim S1x8x8192x8192 ![0, 1, 2, 3] bcast_S1x8x1x8192_S1x8x8192x8192_0_1_2_3 (broadcastInDim S1x8x1x8192 ![0, 1, 3] bcast_S1x8x8192_S1x8x1x8192_0_1_3 c))) (broadcastInDim S1x8x8192x8192 ![] bcast_S_S1x8x8192x8192 (id ((constant S_ .f32 0xFF800000#32))))

/-- Each row's maximum. -/
def rM0 (x : FVec Ideal S1x8x8192x8192 .f32) : FVec Ideal S1x8x8192 .f32 :=
  Host.reduce FloatOps.maximumf x ((constant S_ .f32 0xFF800000#32)) reducesTo_S1x8x8192x8192_S1x8x8192_d3 h_S_

/-- The maximum, and minus infinity. -/
def rM (z : FVec Ideal S1x8x8192 .f32) : FVec Ideal S1x8x8192 .f32 :=
  maximumf (broadcastInDim S1x8x8192 ![] bcast_S_S1x8x8192 ((constant S_ .f32 0xFF800000#32))) z

/-- The exponentials under the maximum. -/
def rE (x : FVec Ideal S1x8x8192x8192 .f32) (y : FVec Ideal S1x8x8192 .f32) : FVec Ideal S1x8x8192x8192 .f32 :=
  Host.exp (subf x (broadcastInDim S1x8x8192x8192 ![0, 1, 2, 3] bcast_S1x8x8192x1_S1x8x8192x8192_0_1_2_3 (broadcastInDim S1x8x8192x1 ![0, 1, 2] bcast_S1x8x8192_S1x8x8192x1_0_1_2 y)))

/-- Each row's sum. -/
def rS (e : FVec Ideal S1x8x8192x8192 .f32) : FVec Ideal S1x8x8192 .f32 :=
  Host.reduceAdd e ((constant S_ .f32 0x00000000#32)) reducesTo_S1x8x8192x8192_S1x8x8192_d3 h_S_

/-- The weights. -/
def rW (e : FVec Ideal S1x8x8192x8192 .f32) (s : FVec Ideal S1x8x8192 .f32) : FVec Ideal S1x8x8192x8192 .f32 :=
  Host.divf e (broadcastInDim S1x8x8192x8192 ![0, 1, 2, 3] bcast_S1x8x8192x1_S1x8x8192x8192_0_1_2_3 (broadcastInDim S1x8x8192x1 ![0, 1, 2] bcast_S1x8x8192_S1x8x8192x1_0_1_2 s))

/-- The gradient of the weights. -/
def rP (g : FVec Ideal S1x8x8192x64 .f32) (v : FVec Ideal S1x8x8192x64 .f32) : FVec Ideal S1x8x8192x8192 .f32 :=
  Host.dotGeneral dot_S1x8x8192x64_S1x8x8192x64_S1x8x8192x8192_3_3_2_2_01_01 none g v

/-- What a row's sum gains by its weights. -/
def rN0 (p : FVec Ideal S1x8x8192x8192 .f32) (s : FVec Ideal S1x8x8192 .f32) (e : FVec Ideal S1x8x8192x8192 .f32) : FVec Ideal S1x8x8192 .f32 :=
  Host.reduceAdd (mulf (mulf p (broadcastInDim S1x8x8192x8192 ![0, 1, 2, 3] bcast_S1x8x8192x1_S1x8x8192x8192_0_1_2_3 (Host.divf (broadcastInDim S1x8x8192x1 ![] bcast_S_S1x8x8192x1 ((constant S_ .f32 0x3F800000#32))) (mulf (broadcastInDim S1x8x8192x1 ![0, 1, 2] bcast_S1x8x8192_S1x8x8192x1_0_1_2 s) (broadcastInDim S1x8x8192x1 ![0, 1, 2] bcast_S1x8x8192_S1x8x8192x1_0_1_2 s))))) e) ((constant S_ .f32 0x00000000#32)) reducesTo_S1x8x8192x8192_S1x8x8192_d3 h_S_

/-- What a row's weights lose through its sum. -/
def rN (z : FVec Ideal S1x8x8192 .f32) : FVec Ideal S1x8x8192 .f32 :=
  broadcastInDim S1x8x8192 ![1, 2] bcast_S8x8192_S1x8x8192_1_2 (Host.reduceAdd (Host.negf (shapeCast S1x8x8192x1 z shapeCasts_S1x8x8192_S1x8x8192x1)) ((constant S_ .f32 0x00000000#32)) reducesTo_S1x8x8192x1_S8x8192_d0_3 h_S_)

/-- The gradient of the logits. -/
def rD (p : FVec Ideal S1x8x8192x8192 .f32) (s : FVec Ideal S1x8x8192 .f32) (n : FVec Ideal S1x8x8192 .f32) (e : FVec Ideal S1x8x8192x8192 .f32) : FVec Ideal S1x8x8192x8192 .f32 :=
  select (broadcastInDim S1x8x8192x8192 ![2, 3] bcast_S8192x8192_S1x8x8192x8192_2_3 (cmpi .sle (broadcastInDim S8192x8192 ![0, 1] bcast_S1x8192_S8192x8192_0_1 (broadcastInDim S1x8192 ![1] bcast_S8192_S1x8192_1 ((iotaInDim S8192 32 0)))) (broadcastInDim S8192x8192 ![0, 1] bcast_S8192x1_S8192x8192_0_1 (broadcastInDim S8192x1 ![0] bcast_S8192_S8192x1_0 ((iotaInDim S8192 32 0)))))) (mulf (addf (Host.divf p (broadcastInDim S1x8x8192x8192 ![0, 1, 2, 3] bcast_S1x8x8192x1_S1x8x8192x8192_0_1_2_3 (broadcastInDim S1x8x8192x1 ![0, 1, 2] bcast_S1x8x8192_S1x8x8192x1_0_1_2 s))) (broadcastInDim S1x8x8192x8192 ![0, 1, 2] bcast_S1x8x8192_S1x8x8192x8192_0_1_2 n)) e) (broadcastInDim S1x8x8192x8192 ![] bcast_S_S1x8x8192x8192 ((constant S_ .f32 0x00000000#32)))

/-- The columns' sums, negated. -/
def rDc0 (d : FVec Ideal S1x8x8192x8192 .f32) : FVec Ideal S1x8x8192 .f32 :=
  Host.reduceAdd (Host.negf d) ((constant S_ .f32 0x00000000#32)) reducesTo_S1x8x8192x8192_S1x8x8192_d2 h_S_

/-- The rows' sums. -/
def rDc1 (d : FVec Ideal S1x8x8192x8192 .f32) : FVec Ideal S1x8x8192 .f32 :=
  Host.reduceAdd d ((constant S_ .f32 0x00000000#32)) reducesTo_S1x8x8192x8192_S1x8x8192_d3 h_S_

/-- The gates' gradient. -/
def rDc (y : FVec Ideal S1x8x8192 .f32) (z : FVec Ideal S1x8x8192 .f32) : FVec Ideal S1x8192x8 .f32 :=
  transpose S1x8192x8 [0, 2, 1] (addf (broadcastInDim S1x8x8192 ![1, 2] bcast_S8x8192_S1x8x8192_1_2 (Host.reduceAdd (shapeCast S1x8x1x8192 y shapeCasts_S1x8x8192_S1x8x1x8192) ((constant S_ .f32 0x00000000#32)) reducesTo_S1x8x1x8192_S8x8192_d0_2 h_S_)) (broadcastInDim S1x8x8192 ![1, 2] bcast_S8x8192_S1x8x8192_1_2 (Host.reduceAdd (shapeCast S1x8x8192x1 z shapeCasts_S1x8x8192_S1x8x8192x1) ((constant S_ .f32 0x00000000#32)) reducesTo_S1x8x8192x1_S8x8192_d0_3 h_S_))) transposes_S1x8x8192_S1x8192x8_0_2_1

/-- The values' gradient. -/
def rDv (g : FVec Ideal S1x8x8192x64 .f32) (w : FVec Ideal S1x8x8192x8192 .f32) : FVec Ideal S1x8192x8x64 .f32 :=
  transpose S1x8192x8x64 [0, 2, 1, 3] (transpose S1x8x8192x64 [0, 1, 3, 2] (Host.dotGeneral dot_S1x8x8192x64_S1x8x8192x8192_S1x8x64x8192_2_2_3_3_01_01 none g w) transposes_S1x8x64x8192_S1x8x8192x64_0_1_3_2) transposes_S1x8x8192x64_S1x8192x8x64_0_2_1_3

/-- The keys' gradient. -/
def rDk (d : FVec Ideal S1x8x8192x8192 .f32) (q : FVec Ideal S1x8x8192x64 .f32) : FVec Ideal S1x8192x8x64 .f32 :=
  transpose S1x8192x8x64 [0, 2, 1, 3] (Host.dotGeneral dot_S1x8x8192x8192_S1x8x8192x64_S1x8x8192x64_2_2_3_3_01_01 none (mulf d (broadcastInDim S1x8x8192x8192 ![] bcast_S_S1x8x8192x8192 ((constant S_ .f32 0x3E000000#32)))) q) transposes_S1x8x8192x64_S1x8192x8x64_0_2_1_3

/-- The queries' gradient. -/
def rDq (d : FVec Ideal S1x8x8192x8192 .f32) (k : FVec Ideal S1x8x8192x64 .f32) : FVec Ideal S1x8192x8x64 .f32 :=
  transpose S1x8192x8x64 [0, 2, 1, 3] (Host.dotGeneral dot_S1x8x8192x8192_S1x8x8192x64_S1x8x8192x64_3_2_2_3_01_01 none (mulf d (broadcastInDim S1x8x8192x8192 ![] bcast_S_S1x8x8192x8192 ((constant S_ .f32 0x3E000000#32)))) k) transposes_S1x8x8192x64_S1x8192x8x64_0_2_1_3

/-! ## Index by index -/

theorem ofBits_bot : Ideal.ofBits .f32 0xFF800000#32 = ⊥ := by
  simp [Ideal.ofBits, Ideal.ieee]
/-- A sum over two axes of length one is the one entry. -/
theorem sum_d03 (v : S1x8x8192x1.Idx → EReal) (h : Fin 8) (i : Fin 8192) :
    Ideal.hostReduceAdd reducesTo_S1x8x8192x1_S8x8192_d0_3 v 0 (ix2 h i) = v (ix4 0 h i 0) := by
  unfold Ideal.hostReduceAdd
  rw [zero_add]
  refine (Finset.sum_eq_single_of_mem (ix4 0 h i 0) ?_ ?_)
  · rw [Finset.mem_filter]
    refine ⟨Finset.mem_univ _, ?_⟩
    funext b
    match b with
    | ⟨0, _⟩ => rfl
    | ⟨1, _⟩ => rfl
  · intro x hx hne
    rw [Finset.mem_filter] at hx
    refine absurd ?_ hne
    funext a
    match a with
    | ⟨0, _⟩ => exact Subsingleton.elim (α := Fin 1) _ _
    | ⟨1, _⟩ => exact Fin.ext (congrArg Fin.val (congrFun hx.2 0))
    | ⟨2, _⟩ => exact Fin.ext (congrArg Fin.val (congrFun hx.2 1))
    | ⟨3, _⟩ => exact Subsingleton.elim (α := Fin 1) _ _
theorem sum_d02 (v : S1x8x1x8192.Idx → EReal) (h : Fin 8) (i : Fin 8192) :
    Ideal.hostReduceAdd reducesTo_S1x8x1x8192_S8x8192_d0_2 v 0 (ix2 h i) = v (ix4 0 h 0 i) := by
  unfold Ideal.hostReduceAdd
  rw [zero_add]
  refine (Finset.sum_eq_single_of_mem (ix4 0 h 0 i) ?_ ?_)
  · rw [Finset.mem_filter]
    refine ⟨Finset.mem_univ _, ?_⟩
    funext b
    match b with
    | ⟨0, _⟩ => rfl
    | ⟨1, _⟩ => rfl
  · intro x hx hne
    rw [Finset.mem_filter] at hx
    refine absurd ?_ hne
    funext a
    match a with
    | ⟨0, _⟩ => exact Subsingleton.elim (α := Fin 1) _ _
    | ⟨1, _⟩ => exact Fin.ext (congrArg Fin.val (congrFun hx.2 0))
    | ⟨2, _⟩ => exact Subsingleton.elim (α := Fin 1) _ _
    | ⟨3, _⟩ => exact Fin.ext (congrArg Fin.val (congrFun hx.2 1))
theorem rq_at (a : FVec Ideal S1x8192x8x64 .f32) (h : Fin 8) (i : Fin 8192) (d : Fin 64) :
    rq a (ix4 0 h i d) = a (ix4 0 i h d) := by
  pointwise [rq]
theorem rc_at (a : FVec Ideal S1x8192x8 .f32) (h : Fin 8) (i : Fin 8192) :
    rc a (ix3 0 h i) = a (ix3 0 i h) := by
  pointwise [rc]
theorem rg_at (a : FVec Ideal S1x8192x512 .f32) (h : Fin 8) (i : Fin 8192) (d : Fin 64) :
    rg a (ix4 0 h i d) = a (ix3 0 i ⟨h.val * 64 + d.val, by omega⟩) := by
  pointwise [rg]
theorem rL_at (q k : FVec Ideal S1x8x8192x64 .f32) (c : FVec Ideal S1x8x8192 .f32) (h : Fin 8) (i j : Fin 8192) :
    rL q k c (ix4 0 h i j) = if j.val ≤ i.val then (∑ d : Fin 64, q (ix4 0 h i d) * k (ix4 0 h j d)) * Ideal.ofBits .f32 0x3E000000#32 + c (ix3 0 h i) - c (ix3 0 h j) else ⊥ := by
  rw [← ofBits_bot]
  pointwise [rL]
  rw [WordCmp.cmpi_sle_ofNat (by have := j.isLt; omega) (by have := i.isLt; omega), WordCmp.select_decide]
  rfl
theorem rM0_at (x : FVec Ideal S1x8x8192x8192 .f32) (h : Fin 8) (i : Fin 8192) :
    rM0 x (ix3 0 h i) = Finset.univ.fold max ⊥ (fun j => x (ix4 0 h i j)) := by
  rw [← ofBits_bot]
  pointwise [rM0]
theorem rM_at (z : FVec Ideal S1x8x8192 .f32) (h : Fin 8) (i : Fin 8192) :
    rM z (ix3 0 h i) = z (ix3 0 h i) := by
  pointwise [rM]
  rw [ofBits_bot]
  exact max_eq_right bot_le
theorem rE_at (x : FVec Ideal S1x8x8192x8192 .f32) (y : FVec Ideal S1x8x8192 .f32) (h : Fin 8) (i j : Fin 8192) :
    rE x y (ix4 0 h i j) = Ideal.exp (x (ix4 0 h i j) - y (ix3 0 h i)) := by
  pointwise [rE]
theorem rS_at (e : FVec Ideal S1x8x8192x8192 .f32) (h : Fin 8) (i : Fin 8192) :
    rS e (ix3 0 h i) = ∑ j : Fin 8192, e (ix4 0 h i j) := by
  pointwise [rS]
theorem rW_at (e : FVec Ideal S1x8x8192x8192 .f32) (s : FVec Ideal S1x8x8192 .f32) (h : Fin 8) (i j : Fin 8192) :
    rW e s (ix4 0 h i j) = Ideal.div (e (ix4 0 h i j)) (s (ix3 0 h i)) := by
  pointwise [rW]
theorem rP_at (g v : FVec Ideal S1x8x8192x64 .f32) (h : Fin 8) (i j : Fin 8192) :
    rP g v (ix4 0 h i j) = ∑ d : Fin 64, g (ix4 0 h i d) * v (ix4 0 h j d) := by
  pointwise [rP]
theorem rN0_at (p : FVec Ideal S1x8x8192x8192 .f32) (s : FVec Ideal S1x8x8192 .f32) (e : FVec Ideal S1x8x8192x8192 .f32) (h : Fin 8) (i : Fin 8192) :
    rN0 p s e (ix3 0 h i) = ∑ j : Fin 8192, p (ix4 0 h i j) * Ideal.div 1 (s (ix3 0 h i) * s (ix3 0 h i)) * e (ix4 0 h i j) := by
  pointwise [rN0]
theorem rN_at (z : FVec Ideal S1x8x8192 .f32) (h : Fin 8) (i : Fin 8192) :
    rN z (ix3 0 h i) = -(z (ix3 0 h i)) := by
  pointwise [rN]
  rw [sum_d03]
  pointwise
theorem rD_at (p : FVec Ideal S1x8x8192x8192 .f32) (s n : FVec Ideal S1x8x8192 .f32) (e : FVec Ideal S1x8x8192x8192 .f32) (h : Fin 8) (i j : Fin 8192) :
    rD p s n e (ix4 0 h i j) = if j.val ≤ i.val then (Ideal.div (p (ix4 0 h i j)) (s (ix3 0 h i)) + n (ix3 0 h i)) * e (ix4 0 h i j) else 0 := by
  pointwise [rD]
  rw [WordCmp.cmpi_sle_ofNat (by have := j.isLt; omega) (by have := i.isLt; omega), WordCmp.select_decide]
theorem rDc0_at (d : FVec Ideal S1x8x8192x8192 .f32) (h : Fin 8) (i : Fin 8192) :
    rDc0 d (ix3 0 h i) = ∑ l : Fin 8192, -(d (ix4 0 h l i)) := by
  pointwise [rDc0]
theorem rDc1_at (d : FVec Ideal S1x8x8192x8192 .f32) (h : Fin 8) (i : Fin 8192) :
    rDc1 d (ix3 0 h i) = ∑ j : Fin 8192, d (ix4 0 h i j) := by
  pointwise [rDc1]
theorem rDc_at (y z : FVec Ideal S1x8x8192 .f32) (h : Fin 8) (i : Fin 8192) :
    rDc y z (ix3 0 i h) = y (ix3 0 h i) + z (ix3 0 h i) := by
  pointwise [rDc]
  rw [sum_d03, sum_d02]
  pointwise
theorem rDv_at (g : FVec Ideal S1x8x8192x64 .f32) (w : FVec Ideal S1x8x8192x8192 .f32) (h : Fin 8) (j : Fin 8192) (l : Fin 64) :
    rDv g w (ix4 0 j h l) = ∑ i : Fin 8192, g (ix4 0 h i l) * w (ix4 0 h i j) := by
  pointwise [rDv]
theorem rDk_at (d : FVec Ideal S1x8x8192x8192 .f32) (q : FVec Ideal S1x8x8192x64 .f32) (h : Fin 8) (j : Fin 8192) (l : Fin 64) :
    rDk d q (ix4 0 j h l) = ∑ i : Fin 8192, d (ix4 0 h i j) * Ideal.ofBits .f32 0x3E000000#32 * q (ix4 0 h i l) := by
  pointwise [rDk]
theorem rDq_at (d : FVec Ideal S1x8x8192x8192 .f32) (k : FVec Ideal S1x8x8192x64 .f32) (h : Fin 8) (i : Fin 8192) (l : Fin 64) :
    rDq d k (ix4 0 i h l) = ∑ j : Fin 8192, d (ix4 0 h i j) * Ideal.ofBits .f32 0x3E000000#32 * k (ix4 0 h j l) := by
  pointwise [rDq]

end Cert.ReferenceIdeal.Grad

end
-- ==== Proof.RefOut.lean ====
/- The reference's results are the stages of Proof/Ref.lean. -/
module

public import proofs.«01_k».proof.Proof.Gen.ReferenceIdeal.Run
public import proofs.«01_k».proof.Proof.Ref

@[expose] public section

set_option maxRecDepth 16384

noncomputable section

namespace Cert.ReferenceIdeal.Grad

open Cert.ReferenceIdeal Cert.ReferenceIdeal.Gen Cert.ReferenceIdeal.Value
open Idealize.ShloMosaic Idealize.ShloMosaic.TcCoe

/-- The exponentials. -/
def ex (q k : FVec Ideal S1x8192x8x64 .f32) (c : FVec Ideal S1x8192x8 .f32) : FVec Ideal S1x8x8192x8192 .f32 :=
  rE (rL (rq q) (rq k) (rc c)) (rM (rM0 (rL (rq q) (rq k) (rc c))))
/-- The gradient of the logits. -/
def gl (q k v : FVec Ideal S1x8192x8x64 .f32) (c : FVec Ideal S1x8192x8 .f32) (g : FVec Ideal S1x8192x512 .f32) : FVec Ideal S1x8x8192x8192 .f32 :=
  rD (rP (rg g) (rq v)) (rS (ex q k c)) (rN (rN0 (rP (rg g) (rq v)) (rS (ex q k c)) (ex q k c))) (ex q k c)

variable (m : (ℓ : Loc nD τ sig) → Buf (Elt Ideal) ℓ)

abbrev aq (c : Dev nD) : FVec Ideal S1x8192x8x64 .f32 := m ((c.tc : Thread nD τ).loc main_arg0)
abbrev ak (c : Dev nD) : FVec Ideal S1x8192x8x64 .f32 := m ((c.tc : Thread nD τ).loc main_arg1)
abbrev av (c : Dev nD) : FVec Ideal S1x8192x8x64 .f32 := m ((c.tc : Thread nD τ).loc main_arg2)
abbrev ac (c : Dev nD) : FVec Ideal S1x8192x8 .f32 := m ((c.tc : Thread nD τ).loc main_arg3)
abbrev ag (c : Dev nD) : FVec Ideal S1x8192x512 .f32 := m ((c.tc : Thread nD τ).loc main_arg4)

theorem out2 (c : Dev nD) : res_main_v86 m c = rDv (rg (ag m c)) (rW (ex (aq m c) (ak m c) (ac m c)) (rS (ex (aq m c) (ak m c) (ac m c)))) := by
  unfold res_main_v86 rDv rW rS ex rE rM rM0 rL rq rg rc
  rfl
theorem out1 (c : Dev nD) : res_main_v87 m c = rDk (gl (aq m c) (ak m c) (av m c) (ac m c) (ag m c)) (rq (aq m c)) := by
  unfold res_main_v87 rDk gl rD rN rN0 rP rS ex rE rM rM0 rL rq rg rc
  rfl
theorem out0 (c : Dev nD) : res_main_v88 m c = rDq (gl (aq m c) (ak m c) (av m c) (ac m c) (ag m c)) (rq (ak m c)) := by
  unfold res_main_v88 rDq gl rD rN rN0 rP rS ex rE rM rM0 rL rq rg rc
  rfl
theorem out3 (c : Dev nD) : res_main_v85 m c = rDc (rDc0 (gl (aq m c) (ak m c) (av m c) (ac m c) (ag m c))) (rDc1 (gl (aq m c) (ak m c) (av m c) (ac m c) (ag m c))) := by
  unfold res_main_v85 rDc rDc0 rDc1 gl rD rN rN0 rP rS ex rE rM rM0 rL rq rg rc
  rfl

end Cert.ReferenceIdeal.Grad

end
-- ==== Proof.RefVal.lean ====
/- The reference's four gradients of real arguments, as real numbers. -/
module

public import proofs.«01_k».proof.Proof.RefOut
public import proofs.«01_k».proof.Proof.Reals

@[expose] public section

set_option maxRecDepth 16384

noncomputable section

namespace Cert.ReferenceIdeal.Grad

open Cert.ReferenceIdeal Cert.ReferenceIdeal.Gen
open Idealize.ShloMosaic Cert.Att

theorem eighth : Ideal.ofBits .f32 0x3E000000#32 = (((1 / 8 : ℝ)) : EReal) := by
  simp [Ideal.ofBits, Ideal.ieee, -EReal.coe_mul]; norm_num

/-- Head `h` of an array by positions and heads. -/
def hd4 (a : FVec Ideal S1x8192x8x64 .f32) (h : Fin 8) (i : Fin 8192) (d : Fin 64) : ℝ := (a (ix4 0 i h d)).toReal
def hd3 (a : FVec Ideal S1x8192x8 .f32) (h : Fin 8) (i : Fin 8192) : ℝ := (a (ix3 0 i h)).toReal
def hd5 (a : FVec Ideal S1x8192x512 .f32) (h : Fin 8) (i : Fin 8192) (d : Fin 64) : ℝ := (a (ix3 0 i ⟨h.val * 64 + d.val, by omega⟩)).toReal

variable (q k v : FVec Ideal S1x8192x8x64 .f32) (c : FVec Ideal S1x8192x8 .f32) (g : FVec Ideal S1x8192x512 .f32)
variable (rq' : ∀ y, ((q y).toReal : EReal) = q y) (rk' : ∀ y, ((k y).toReal : EReal) = k y) (rv' : ∀ y, ((v y).toReal : EReal) = v y)
  (rc' : ∀ y, ((c y).toReal : EReal) = c y) (rg' : ∀ y, ((g y).toReal : EReal) = g y)

include rq' in
theorem q_coe (h : Fin 8) (i : Fin 8192) (d : Fin 64) : rq q (ix4 0 h i d) = ((hd4 q h i d : ℝ) : EReal) := by
  rw [rq_at]; exact (rq' _).symm
include rc' in
theorem c_coe (h : Fin 8) (i : Fin 8192) : rc c (ix3 0 h i) = ((hd3 c h i : ℝ) : EReal) := by
  rw [rc_at]; exact (rc' _).symm
include rg' in
theorem g_coe (h : Fin 8) (i : Fin 8192) (d : Fin 64) : rg g (ix4 0 h i d) = ((hd5 g h i d : ℝ) : EReal) := by
  rw [rg_at]; exact (rg' _).symm

include rq' rk' rc' in
theorem L_coe (h : Fin 8) (i j : Fin 8192) : rL (rq q) (rq k) (rc c) (ix4 0 h i j) = lgm (hd4 q h) (hd4 k h) (hd3 c h) i j := by
  rw [rL_at]
  unfold lgm lgt
  simp only [q_coe q rq', q_coe k rk', c_coe c rc', eighth, ← EReal.coe_mul, coe_sum, ← EReal.coe_add, ← EReal.coe_sub]

include rq' rk' rc' in
theorem E_coe (h : Fin 8) (i j : Fin 8192) : ex q k c (ix4 0 h i j) = ((ee (hd4 q h) (hd4 k h) (hd3 c h) i j : ℝ) : EReal) := by
  unfold ex
  rw [rE_at, rM_at, rM0_at, L_coe q k c rq' rk' rc', ← ee_coe, ← mx_coe]
  congr 3
  funext l
  exact L_coe q k c rq' rk' rc' h i l

include rq' rk' rc' in
theorem S_coe (h : Fin 8) (i : Fin 8192) : rS (ex q k c) (ix3 0 h i) = ((st (hd4 q h) (hd4 k h) (hd3 c h) i : ℝ) : EReal) := by
  rw [rS_at]
  simp only [E_coe q k c rq' rk' rc', coe_sum]
  rfl

include rq' rk' rc' in
theorem W_coe (h : Fin 8) (i j : Fin 8192) : rW (ex q k c) (rS (ex q k c)) (ix4 0 h i j) = ((wt (hd4 q h) (hd4 k h) (hd3 c h) i j : ℝ) : EReal) := by
  rw [rW_at, S_coe q k c rq' rk' rc', E_coe q k c rq' rk' rc', Ideal.div_coe (st_ne _ _ _ _), ← EReal.coe_mul, mul_one_div]
  rfl

include rv' rg' in
theorem P_coe (h : Fin 8) (i j : Fin 8192) : rP (rg g) (rq v) (ix4 0 h i j) = ((gp (hd4 v h) (hd5 g h) i j : ℝ) : EReal) := by
  rw [rP_at]
  simp only [q_coe v rv', g_coe g rg', ← EReal.coe_mul, coe_sum]
  rfl

include rq' rk' rv' rc' rg' in
theorem gl_coe (h : Fin 8) (i j : Fin 8192) :
    gl q k v c g (ix4 0 h i j) = ((ds (hd4 q h) (hd4 k h) (hd4 v h) (hd5 g h) (hd3 c h) i j : ℝ) : EReal) := by
  have hn := st_ne (hd4 q h) (hd4 k h) (hd3 c h) i
  unfold gl
  rw [rD_at, rN_at, rN0_at]
  simp only [S_coe q k c rq' rk' rc', E_coe q k c rq' rk' rc', P_coe v g rv' rg', Ideal.div_coe hn, ← EReal.coe_mul, Ideal.div_coe (mul_ne_zero hn hn), one_mul, coe_sum,
    ← EReal.coe_neg, ← EReal.coe_add, del_sum]
  split
  · congr 1
    unfold ds wt
    field_simp
    ring
  · rename_i hj
    rw [ds_late _ _ _ _ _ _ _ hj, EReal.coe_zero]

include rq' rk' rv' rc' rg'

theorem dq_coe (h : Fin 8) (i : Fin 8192) (d : Fin 64) : rDq (gl q k v c g) (rq k) (ix4 0 i h d)
    = ((∑ j, ds (hd4 q h) (hd4 k h) (hd4 v h) (hd5 g h) (hd3 c h) i j * (1 / 8) * hd4 k h j d : ℝ) : EReal) := by
  rw [rDq_at]
  simp only [gl_coe q k v c g rq' rk' rv' rc' rg', q_coe k rk', eighth, ← EReal.coe_mul, coe_sum]
theorem dk_coe (h : Fin 8) (j : Fin 8192) (d : Fin 64) : rDk (gl q k v c g) (rq q) (ix4 0 j h d)
    = ((∑ i, ds (hd4 q h) (hd4 k h) (hd4 v h) (hd5 g h) (hd3 c h) i j * (1 / 8) * hd4 q h i d : ℝ) : EReal) := by
  rw [rDk_at]
  simp only [gl_coe q k v c g rq' rk' rv' rc' rg', q_coe q rq', eighth, ← EReal.coe_mul, coe_sum]
theorem dv_coe (h : Fin 8) (j : Fin 8192) (d : Fin 64) : rDv (rg g) (rW (ex q k c) (rS (ex q k c))) (ix4 0 j h d)
    = ((∑ i, hd5 g h i d * wt (hd4 q h) (hd4 k h) (hd3 c h) i j : ℝ) : EReal) := by
  rw [rDv_at]
  simp only [W_coe q k c rq' rk' rc', g_coe g rg', ← EReal.coe_mul, coe_sum]
theorem dc_coe (h : Fin 8) (i : Fin 8192) : rDc (rDc0 (gl q k v c g)) (rDc1 (gl q k v c g)) (ix3 0 i h)
    = (((∑ l, -ds (hd4 q h) (hd4 k h) (hd4 v h) (hd5 g h) (hd3 c h) l i) + ∑ j, ds (hd4 q h) (hd4 k h) (hd4 v h) (hd5 g h) (hd3 c h) i j : ℝ) : EReal) := by
  rw [rDc_at, rDc0_at, rDc1_at]
  simp only [gl_coe q k v c g rq' rk' rv' rc' rg', ← EReal.coe_neg, coe_sum, ← EReal.coe_add]

end Cert.ReferenceIdeal.Grad

end
-- ==== Proof.Finite.lean ====
/- The precondition: five arrays whose every element is a real number. -/
module

public import proofs.«01_k».proof.Proof.Gen.Pre_finite_arguments
public import Idealize.ShloMosaic.Lib.ReduceAll
public import Idealize.ShloMosaic.Lib.Pointwise

@[expose] public section

set_option maxRecDepth 16384

noncomputable section

namespace Cert.Pre_finite_arguments.Read

open Cert.Pre_finite_arguments Cert.Pre_finite_arguments.Facts Idealize.ShloMosaic

variable [Cert.Pre_finite_arguments.Facts]

/-- The array holds real numbers only. -/
def IsReal {s : Shape} (a : FVec Ideal s .f32) : Prop := ∀ y, ((a y).toReal : EReal) = a y

theorem ofBits_top : Ideal.ofBits .f32 0x7F800000#32 = ⊤ := by
  simp [Ideal.ofBits, Ideal.ieee]

/-- A magnitude below plus infinity is a real's. -/
theorem real_of_cmp (x : EReal) (h : Ideal.cmp .olt (max x (-x)) ⊤ = 1#1) : ((x.toReal : ℝ) : EReal) = x := by
  have h1 : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  rw [max_lt_iff] at h1
  refine EReal.coe_toReal h1.1.ne ?_
  rintro rfl
  exact absurd h1.2 (by simp)

instance : Subsingleton S_.Idx := ⟨fun a b => funext fun i => i.elim0⟩

theorem read4 (a : FVec Ideal S1x8192x8x64 .f32) (j : S_.Idx)
    (h : Host.reduce IntOp.andi (cmpf .olt (Host.absf a) (broadcastInDim S1x8192x8x64 ![] bcast_S_S1x8192x8x64 (constant (F := Ideal) S_ .f32 0x7F800000#32)))
      (constantI S_ 1 1#1) reducesTo_S1x8192x8x64_S_d0_1_2_3 h_S_ j = 1#1) : IsReal a := fun y => by
  have h1 := Host.reduce_andi_all _ _ _ _ j h y
  refine real_of_cmp (a y) ?_
  rw [← ofBits_top]
  exact h1

theorem read3 (a : FVec Ideal S1x8192x8 .f32) (j : S_.Idx)
    (h : Host.reduce IntOp.andi (cmpf .olt (Host.absf a) (broadcastInDim S1x8192x8 ![] bcast_S_S1x8192x8 (constant (F := Ideal) S_ .f32 0x7F800000#32)))
      (constantI S_ 1 1#1) reducesTo_S1x8192x8_S_d0_1_2 h_S_ j = 1#1) : IsReal a := fun y => by
  have h1 := Host.reduce_andi_all _ _ _ _ j h y
  refine real_of_cmp (a y) ?_
  rw [← ofBits_top]
  exact h1

theorem read5 (a : FVec Ideal S1x8192x512 .f32) (j : S_.Idx)
    (h : Host.reduce IntOp.andi (cmpf .olt (Host.absf a) (broadcastInDim S1x8192x512 ![] bcast_S_S1x8192x512 (constant (F := Ideal) S_ .f32 0x7F800000#32)))
      (constantI S_ 1 1#1) reducesTo_S1x8192x512_S_d0_1_2 h_S_ j = 1#1) : IsReal a := fun y => by
  have h1 := Host.reduce_andi_all _ _ _ _ j h y
  refine real_of_cmp (a y) ?_
  rw [← ofBits_top]
  exact h1

theorem real_all (q k v : FVec Ideal S1x8192x8x64 .f32) (c : FVec Ideal S1x8192x8 .f32) (g : FVec Ideal S1x8192x512 .f32)
    (h : fn (F := Ideal) q k v c g = fun _ => 1#1) : IsReal q ∧ IsReal k ∧ IsReal v ∧ IsReal c ∧ IsReal g := by
  have h0 := congrFun h (fun i => i.elim0)
  unfold fn fn_part1 at h0
  dsimp only at h0
  obtain ⟨h1, hg⟩ := IntOp.andi_eq_one.1 h0
  obtain ⟨h2, hc⟩ := IntOp.andi_eq_one.1 h1
  obtain ⟨h3, hv⟩ := IntOp.andi_eq_one.1 h2
  obtain ⟨hq, hk⟩ := IntOp.andi_eq_one.1 h3
  exact ⟨read4 q _ hq, read4 k _ hk, read4 v _ hv, read3 c _ hc, read5 g _ hg⟩

end Cert.Pre_finite_arguments.Read

end
-- ==== Proof.Value.lean ====
/- The kernel's results and the reference's are the same arrays of real numbers. -/
module

public import proofs.«01_k».proof.Defs
public import proofs.«01_k».proof.Proof.KerVal
public import proofs.«01_k».proof.Proof.RefVal
public import proofs.«01_k».proof.Proof.Finite

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.SL.Sem

/-! ## The two sides agree -/

section Agree

variable (q k v : FVec Ideal S1x8192x8x64 .f32) (c : FVec Ideal S1x8192x8 .f32) (g : FVec Ideal S1x8192x512 .f32)
variable (rq' : ∀ y, ((q y).toReal : EReal) = q y) (rk' : ∀ y, ((k y).toReal : EReal) = k y) (rv' : ∀ y, ((v y).toReal : EReal) = v y)
  (rc' : ∀ y, ((c y).toReal : EReal) = c y) (rg' : ∀ y, ((g y).toReal : EReal) = g y)

/-- Every position is row `s` of block `n`. -/
theorem row_surj (i : Fin 8192) : ∃ (n : Fin 16) (s : Fin 512), row n s = i :=
  ⟨⟨i.val / 512, by omega⟩, ⟨i.val % 512, by omega⟩, Fin.ext (by show 512 * (i.val / 512) + i.val % 512 = i.val; omega)⟩

/-- Two arrays by heads are equal element by element. -/
theorem ext4 {x y : FVec Ideal S1x8192x8x64 .f32} (e : ∀ (i : Fin 8192) (h : Fin 8) (d : Fin 64), x (ix4 0 i h d) = y (ix4 0 i h d)) : x = y := by
  funext z
  have hz : z = ix4 (0 : Fin 1) (z 1 : Fin 8192) (z 2 : Fin 8) (z 3 : Fin 64) := by
    funext w
    fin_cases w
    · exact Subsingleton.elim (α := Fin 1) _ _
    · rfl
    · rfl
    · rfl
  exact (congrArg x hz).trans ((e (z 1) (z 2) (z 3)).trans (congrArg y hz.symm))
theorem ext3 {x y : FVec Ideal S1x8192x8 .f32} (e : ∀ (i : Fin 8192) (h : Fin 8), x (ix3 0 i h) = y (ix3 0 i h)) : x = y := by
  funext z
  have hz : z = ix3 (0 : Fin 1) (z 1 : Fin 8192) (z 2 : Fin 8) := by
    funext w
    fin_cases w
    · exact Subsingleton.elim (α := Fin 1) _ _
    · rfl
    · rfl
  exact (congrArg x hz).trans ((e (z 1) (z 2)).trans (congrArg y hz.symm))

include rq' rk' rv' rc' rg'

theorem same_dq : kDq (outQ (xq q k c) (xg q k v c g) (xk k c) (xv v)) = Cert.ReferenceIdeal.Grad.rDq (Cert.ReferenceIdeal.Grad.gl q k v c g) (Cert.ReferenceIdeal.Grad.rq k) :=
  ext4 fun i h d => by
    obtain ⟨n, s, rfl⟩ := row_surj i
    exact (dq_coe q k v c g rq' rk' rv' rc' rg' n s h d).trans (Cert.ReferenceIdeal.Grad.dq_coe q k v c g rq' rk' rv' rc' rg' h (row n s) d).symm

theorem same_dk : kDk (outK (xq q k c) (xg q k v c g) (xk k c) (xv v)) = Cert.ReferenceIdeal.Grad.rDk (Cert.ReferenceIdeal.Grad.gl q k v c g) (Cert.ReferenceIdeal.Grad.rq q) :=
  ext4 fun i h d => (dk_coe q k v c g rq' rk' rv' rc' rg' h i d).trans (Cert.ReferenceIdeal.Grad.dk_coe q k v c g rq' rk' rv' rc' rg' h i d).symm

theorem same_dv : kDk (outV (xq q k c) (xg q k v c g) (xk k c)) = Cert.ReferenceIdeal.Grad.rDv (Cert.ReferenceIdeal.Grad.rg g) (Cert.ReferenceIdeal.Grad.rW (Cert.ReferenceIdeal.Grad.ex q k c) (Cert.ReferenceIdeal.Grad.rS (Cert.ReferenceIdeal.Grad.ex q k c))) :=
  ext4 fun i h d => (dv_coe q k v c g rq' rk' rv' rc' rg' h i d).trans (Cert.ReferenceIdeal.Grad.dv_coe q k v c g rq' rk' rv' rc' rg' h i d).symm

theorem same_dc : kDc (outC (xq q k c) (xg q k v c g) (xk k c) (xv v)) = Cert.ReferenceIdeal.Grad.rDc (Cert.ReferenceIdeal.Grad.rDc0 (Cert.ReferenceIdeal.Grad.gl q k v c g)) (Cert.ReferenceIdeal.Grad.rDc1 (Cert.ReferenceIdeal.Grad.gl q k v c g)) :=
  ext3 fun i h => by
    obtain ⟨n, s, rfl⟩ := row_surj i
    exact (dc_coe q k v c g rq' rk' rv' rc' rg' n s h).trans (Cert.ReferenceIdeal.Grad.dc_coe q k v c g rq' rk' rv' rc' rg' h (row n s)).symm

end Agree

/-! ## What the run leaves -/

variable (m : (ℓ : Loc nD τ sig) → Buf (Elt Ideal) ℓ) (ρ : Dev nD → PrngReg)

theorem arr_inj : Function.Injective (Pipeline.arrRef spec0) := by decide

/-- The result arrays after the host operations that follow the call. -/
abbrev fin (c : Dev nD) (b : Ref sig .tc) : Buf (Elt Ideal) ((c.tc : Thread nD τ).loc b) :=
  Pipeline.afterTail₀ cfgs (dats m) 0 (V0 m) [hostOps1] c b

theorem fin_dq (c : Dev nD) : fin m c main_v115 = kDq (outQ (X0 m c) (X1 m c) (X2 m c) (X3 m c)) := by
  rw [← final_dq]
  unfold fin Pipeline.afterTail₀
  after_reads_simp
  rw [show Pipeline.withArrays spec0 c (V0 m c) (fun w => (dats m 0 c).arrAt w cfg0.N) (Proc.devRef .tc main_v110_0) = (dats m 0 c).arrAt 4 cfg0.N from
    Pipeline.withArrays_arr spec0 arr_inj c _ _ 4]
  rfl
theorem fin_dk (c : Dev nD) : fin m c main_v118 = kDk (outK (X0 m c) (X1 m c) (X2 m c) (X3 m c)) := by
  rw [← final_dk]
  unfold fin Pipeline.afterTail₀
  after_reads_simp
  rw [show Pipeline.withArrays spec0 c (V0 m c) (fun w => (dats m 0 c).arrAt w cfg0.N) (Proc.devRef .tc main_v110_1) = (dats m 0 c).arrAt 5 cfg0.N from
    Pipeline.withArrays_arr spec0 arr_inj c _ _ 5]
  rfl
theorem fin_dv (c : Dev nD) : fin m c main_v121 = kDk (outV (X0 m c) (X1 m c) (X2 m c)) := by
  rw [← final_dv]
  unfold fin Pipeline.afterTail₀
  after_reads_simp
  rw [show Pipeline.withArrays spec0 c (V0 m c) (fun w => (dats m 0 c).arrAt w cfg0.N) (Proc.devRef .tc main_v110_2) = (dats m 0 c).arrAt 6 cfg0.N from
    Pipeline.withArrays_arr spec0 arr_inj c _ _ 6]
  rfl
theorem fin_dc (c : Dev nD) : fin m c main_v123 = kDc (outC (X0 m c) (X1 m c) (X2 m c) (X3 m c)) := by
  rw [← final_dc]
  unfold fin Pipeline.afterTail₀
  after_reads_simp
  rw [show Pipeline.withArrays spec0 c (V0 m c) (fun w => (dats m 0 c).arrAt w cfg0.N) (Proc.devRef .tc main_v110_3) = (dats m 0 c).arrAt 7 cfg0.N from
    Pipeline.withArrays_arr spec0 arr_inj c _ _ 7]
  rfl

theorem X0_eq (c : Dev nD) : X0 m c = xq (aq m c) (ak m c) (ac m c) := V_v65 m c
theorem X1_eq (c : Dev nD) : X1 m c = xg (aq m c) (ak m c) (av m c) (ac m c) (ag m c) := V_v109 m c
theorem X2_eq (c : Dev nD) : X2 m c = xk (ak m c) (ac m c) := V_v84 m c
theorem X3_eq (c : Dev nD) : X3 m c = xv (av m c) := V_v93 m c
theorem arg_dq (c : Dev nD) : kDq (outQ (X0 m c) (X1 m c) (X2 m c) (X3 m c)) = kDq (outQ (xq (aq m c) (ak m c) (ac m c)) (xg (aq m c) (ak m c) (av m c) (ac m c) (ag m c)) (xk (ak m c) (ac m c)) (xv (av m c))) := by
  rw [X0_eq, X1_eq, X2_eq, X3_eq]
theorem arg_dk (c : Dev nD) : kDk (outK (X0 m c) (X1 m c) (X2 m c) (X3 m c)) = kDk (outK (xq (aq m c) (ak m c) (ac m c)) (xg (aq m c) (ak m c) (av m c) (ac m c) (ag m c)) (xk (ak m c) (ac m c)) (xv (av m c))) := by
  rw [X0_eq, X1_eq, X2_eq, X3_eq]
theorem arg_dv (c : Dev nD) : kDk (outV (X0 m c) (X1 m c) (X2 m c)) = kDk (outV (xq (aq m c) (ak m c) (ac m c)) (xg (aq m c) (ak m c) (av m c) (ac m c) (ag m c)) (xk (ak m c) (ac m c))) := by
  rw [X0_eq, X1_eq, X2_eq]
theorem arg_dc (c : Dev nD) : kDc (outC (X0 m c) (X1 m c) (X2 m c) (X3 m c)) = kDc (outC (xq (aq m c) (ak m c) (ac m c)) (xg (aq m c) (ak m c) (av m c) (ac m c) (ag m c)) (xk (ak m c) (ac m c)) (xv (av m c))) := by
  rw [X0_eq, X1_eq, X2_eq, X3_eq]

/-- The run, read at the four results and the five arguments. -/
theorem run_value : θ_run defs (onTc (τ := τ) (main (F := Ideal))) ⟨m, fun _ => 0, ρ⟩ (fun r => ∀ c : Dev nD,
      r.2.mem ((c.tc : Thread nD τ).loc main_v115) = kDq (outQ (X0 m c) (X1 m c) (X2 m c) (X3 m c))
      ∧ r.2.mem ((c.tc : Thread nD τ).loc main_v118) = kDk (outK (X0 m c) (X1 m c) (X2 m c) (X3 m c))
      ∧ r.2.mem ((c.tc : Thread nD τ).loc main_v121) = kDk (outV (X0 m c) (X1 m c) (X2 m c))
      ∧ r.2.mem ((c.tc : Thread nD τ).loc main_v123) = kDc (outC (X0 m c) (X1 m c) (X2 m c) (X3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h.1 c).2 main_v115 (Pipeline.mem_restRefs_of main_v115 (by decide) (by decide))).trans (fin_dq m c),
      ((h.1 c).2 main_v118 (Pipeline.mem_restRefs_of main_v118 (by decide) (by decide))).trans (fin_dk m c),
      ((h.1 c).2 main_v121 (Pipeline.mem_restRefs_of main_v121 (by decide) (by decide))).trans (fin_dv m c),
      ((h.1 c).2 main_v123 (Pipeline.mem_restRefs_of main_v123 (by decide) (by decide))).trans (fin_dc m c), h.2.1 c⟩)
    (θ_run_and (run_main m ρ) (frame_all m ρ))

end Cert.KernelIdeal.Bwd

end
-- ==== Proof.Blocks.lean ====
/- A product over 8192 tokens taken 1024 tokens at a time, and a positive scale moved into a sum of extended reals. -/
module

public import Idealize.ShloMosaic.Lib.Pipeline.ValueKit

@[expose] public section

noncomputable section

namespace Cert.Dw

open Idealize.ShloMosaic

/-- Token `1024 s + k`. -/
def tok (s : Fin 8) (k : Fin 1024) : Fin 8192 := ⟨1024 * s.val + k.val, by omega⟩

theorem sum_tok {M : Type} [AddCommMonoid M] (f : Fin 8192 → M) : ∑ s : Fin 8, ∑ k : Fin 1024, f (tok s k) = ∑ t, f t :=
  Fin.sum_mul_add_fin 8 1024 f

/-- A nonnegative real factor passes through a finite sum of extended reals. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (EReal.coe_nonneg.mpr hr) (EReal.coe_ne_top r)]

/-- Sums over blocks, added up one point after another, are the sum over all the blocks. -/
theorem acc_blocks {N : ℕ} {ι : Type} (first : (n : ℕ) → n < N → ι → EReal) (next : (n : ℕ) → n < N → (ι → EReal) → ι → EReal)
    {K B T : ℕ} (tk : Fin (K + 1) → Fin B → Fin T) (all : ∀ f : Fin T → EReal, ∑ s, ∑ k, f (tk s k) = ∑ t, f t)
    (f : Fin T → EReal) (i : ι) (b : ℕ) (h : b + K < N)
    (hf : ∀ h' : b < N, first b h' i = ∑ k, f (tk 0 k))
    (hn : ∀ (s : Fin (K + 1)) (h' : b + s.val < N) (acc : ι → EReal), next (b + s.val) h' acc i = acc i + ∑ k, f (tk s k)) :
    Pipeline.accAt first next b K h i = ∑ t, f t := by
  have key : ∀ (j : ℕ) (hj : j < K + 1) (h' : b + j < N), Pipeline.accAt first next b j h' i
      = ∑ s : Fin (j + 1), ∑ k, f (tk (Fin.castLE hj s) k) := by
    intro j
    induction j with
    | zero =>
      intro hj h'
      refine (hf h').trans ?_
      rw [Fin.sum_univ_one]
      rfl
    | succ j ih =>
      intro hj h'
      rw [Fin.sum_univ_castSucc]
      refine (hn ⟨j + 1, hj⟩ h' _).trans ?_
      exact congrArg (· + _) (ih (by omega) (by omega))
  rw [key K (by omega) h, ← all f]
  rfl

end Cert.Dw

end
-- ==== Proof.DwUp.lean ====
/- The weight-gradient product at the shape of the up projections: eight blocks of tokens are all the tokens. -/
module

public import proofs.«01_k».proof.Defs
public import proofs.«01_k».proof.Proof.Blocks
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Value

open Cert.Kernel2Ideal Cert.Kernel2Ideal.Gen
open Idealize.ShloMosaic Idealize.ShloMosaic.TcCoe Idealize.ShloMosaic.Tactic Idealize.SL.Sem
open Cert.Dw

variable (m : (ℓ : Loc nD τ sig) → Buf (Elt Ideal) ℓ)

theorem pay1_at (x : Fin 1408) (y : Fin 1024) : k0_pay1 (F := Ideal) (ix2 x y) = 0 := by pointwise [k0_pay1]

theorem pay2_at (v : Vec Ideal S1408x1024 .f32) (a : Vec Ideal S1024x1408 .bf16) (b : Vec Ideal S1024x1024 .bf16) (x : Fin 1408) (y : Fin 1024) :
    k0_pay2 v a b (ix2 x y) = v (ix2 x y) + ∑ k : Fin 1024, a (ix2 k x) * b (ix2 k y) := by
  pointwise [k0_pay2]

/-- The two arguments. -/
abbrev dA (c : Dev nD) : FVec Ideal S8192x2816 .bf16 := m ((c.tc : Thread nD τ).loc main_arg0)
abbrev nA (c : Dev nD) : FVec Ideal S8192x1024 .bf16 := m ((c.tc : Thread nD τ).loc main_arg1)

/-- Column `1408 q + x` of the 2816. -/
def col (q : Fin 2) (x : Fin 1408) : Fin 2816 := ⟨1408 * q.val + x.val, by omega⟩

theorem col_surj (i : Fin 2816) : ∃ (q : Fin 2) (x : Fin 1408), col q x = i :=
  ⟨⟨i.val / 1408, by omega⟩, ⟨i.val % 1408, Nat.mod_lt _ (by decide)⟩, Fin.ext (Nat.div_add_mod _ 1408)⟩

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)

/-- Point `8 q + s` of the grid. -/
def pt (q : Fin 2) (s : Fin 8) : Fin cfg0.N := ⟨8 * q.val + s.val, by rw [show cfg0.N = 16 from N_0]; omega⟩

theorem pt_mod (q : Fin 2) (s : Fin 8) : (pt q s).val % 8 = s.val := by show (8 * q.val + s.val) % 8 = s.val; omega
theorem pt_div (q : Fin 2) (s : Fin 8) : (pt q s).val / 8 = q.val := by show (8 * q.val + s.val) / 8 = q.val; omega

theorem iblk0_at (c : Dev nD) (q : Fin 2) (s : Fin 8) (k : Fin 1024) (x : Fin 1408) :
    iblk m c 0 (pt q s) (ix2 k x) = dA m c (ix2 (tok s k) (col q x)) := by
  blk_simp [iblk]
  refine (congrArg (V m c main_arg0) ?_).trans (congrFun (V_main_arg0 m c) _)
  blk_ext [idx0 (pt q s), pt_mod, pt_div, tok, col]
theorem iblk1_at (c : Dev nD) (q : Fin 2) (s : Fin 8) (k : Fin 1024) (y : Fin 1024) :
    iblk m c 1 (pt q s) (ix2 k y) = nA m c (ix2 (tok s k) y) := by
  blk_simp [iblk]
  refine (congrArg (V m c main_arg1) ?_).trans (congrFun (V_main_arg1 m c) _)
  blk_ext [idx1 (pt q s), pt_mod, tok]

/-- The block of each argument that point `n` reads. -/
abbrev dB (c : Dev nD) (n : Fin cfg0.N) : Vec Ideal S1024x1408 .bf16 := iblk m c 0 n
abbrev nB (c : Dev nD) (n : Fin cfg0.N) : Vec Ideal S1024x1024 .bf16 := iblk m c 1 n

/-- What point `n` adds at an index of its block. -/
def add (c : Dev nD) (n : ℕ) (z : S1408x1024.Idx) : EReal :=
  if h : n < cfg0.N then ∑ k : Fin 1024, dB m c ⟨n, h⟩ (ix2 k (z 0 : Fin 1408)) * nB m c ⟨n, h⟩ (ix2 k (z 1 : Fin 1024)) else 0

theorem eta (z : S1408x1024.Idx) : z = ix2 (z 0 : Fin 1408) (z 1 : Fin 1024) := eq_ix2 (n0 := 1408) (n1 := 1024) z

theorem step_at (c : Dev nD) (n : ℕ) (h : n < cfg0.N) (v : Vec Ideal S1408x1024 .f32) (z : S1408x1024.Idx) :
    k0_pay2 v (iblk m c 0 ⟨n, h⟩) (iblk m c 1 ⟨n, h⟩) z = v z + add m c n z := by
  unfold add
  rw [dif_pos h]
  refine (congrArg _ (eta z)).trans ((pay2_at _ _ _ (z 0) (z 1)).trans ?_)
  exact congrArg (fun w => v w + _) (eta z).symm

theorem fold_at (c : Dev nD) (b j : ℕ) (h : b + j < cfg0.N) (z : S1408x1024.Idx) :
    Pipeline.accAt (reset2 m c) (step2 m c) b j h z = ∑ s ∈ Finset.range (j + 1), add m c (b + s) z := by
  refine (Pipeline.accAt_add_apply (reset2 m c) (step2 m c) (fun _ => (0 : EReal)) (add m c) b j (fun h' i => ?_) (fun n h' acc i _ _ => ?_) j le_rfl h z).trans (zero_add _)
  · refine (step_at m c b h' _ i).trans (congrArg (· + _) ?_)
    exact (congrArg _ (eta i)).trans (pay1_at (i 0) (i 1))
  · exact step_at m c n h' acc i

/-- The array after the run. -/
abbrev out (c : Dev nD) : FVec Ideal S2816x1024 .f32 := G2 m c

/-- It is the product over all the tokens. -/
theorem G2_at (c : Dev nD) (q : Fin 2) (x : Fin 1408) (y : Fin 1024) :
    out m c (ix2 (col q x) y) = ∑ t : Fin 8192, dA m c (ix2 t (col q x)) * nA m c (ix2 t y) := by
  have hq := q.isLt
  have hx := x.isLt
  have hy := y.isLt
  have hr : run2Of (ix2 (col q x) y) = q.val := by
    show 1 * ((1408 * q.val + x.val) / 1408 - 0) + 1 * (y.val / 1024 - 0) = q.val
    omega
  have hl : loc2Of (ix2 (col q x) y) = ix2 x y := by
    funext a
    apply Fin.ext
    match a with
    | ⟨0, _⟩ => show (1408 * q.val + x.val) % 1408 = x.val; omega
    | ⟨1, _⟩ => show y.val % 1024 = y.val; omega
  have e : out m c (ix2 (col q x) y) = ∑ s ∈ Finset.range 8, add m c (8 * q.val + s) (ix2 x y) := by
    unfold out G2
    rw [dif_pos (by rw [hr, show cfg0.N = 16 from N_0]; omega), fold_at, hl, hr]
  rw [e, Finset.sum_range, ← sum_tok]
  refine Finset.sum_congr rfl fun s _ => ?_
  have hs := s.isLt
  unfold add
  rw [dif_pos (by rw [show cfg0.N = 16 from N_0]; omega)]
  exact Finset.sum_congr rfl fun k _ => congrArg₂ (· * ·) (iblk0_at m c q s k x) (iblk1_at m c q s k y)

end Cert.Kernel2Ideal.Value

namespace Cert.Reference2Ideal.Value

open Cert.Reference2Ideal Cert.Reference2Ideal.Gen Idealize.ShloMosaic Idealize.ShloMosaic.TcCoe Idealize.ShloMosaic.Tactic

theorem out_at (a : FVec Ideal S8192x2816 .bf16) (b : FVec Ideal S8192x1024 .bf16) (x : Fin 2816) (y : Fin 1024) :
    transpose S2816x1024 [1, 0] (transpose S1024x2816 [1, 0] (Host.dotGeneral dot_S8192x2816_S8192x1024_S2816x1024_0_0_1_1_n_n none (extf .f32 a bitsLt_bf16_f32) (extf .f32 b bitsLt_bf16_f32)) transposes_S2816x1024_S1024x2816_1_0) transposes_S1024x2816_S2816x1024_1_0 (ix2 x y)
      = ∑ t : Fin 8192, a (ix2 t x) * b (ix2 t y) := by
  pointwise

end Cert.Reference2Ideal.Value

namespace Cert.Kernel2Ideal.Value

open Cert.Kernel2Ideal Cert.Kernel2Ideal.Gen
open Idealize.ShloMosaic Idealize.ShloMosaic.TcCoe Idealize.SL.Sem

variable (m : (ℓ : Loc nD τ sig) → Buf (Elt Ideal) ℓ)

theorem same (c : Dev nD) : out m c = transpose Cert.Reference2Ideal.S2816x1024 [1, 0] (transpose Cert.Reference2Ideal.S1024x2816 [1, 0] (Host.dotGeneral Cert.Reference2Ideal.dot_S8192x2816_S8192x1024_S2816x1024_0_0_1_1_n_n none
    (extf .f32 (dA m c) Cert.Reference2Ideal.Gen.bitsLt_bf16_f32) (extf .f32 (nA m c) Cert.Reference2Ideal.Gen.bitsLt_bf16_f32)) Cert.Reference2Ideal.Gen.transposes_S2816x1024_S1024x2816_1_0) Cert.Reference2Ideal.Gen.transposes_S1024x2816_S2816x1024_1_0 := by
  funext z
  have hz : z = ix2 (z 0 : Fin 2816) (z 1 : Fin 1024) := eq_ix2 (n0 := 2816) (n1 := 1024) z
  obtain ⟨q, x, hc⟩ := col_surj (z 0)
  refine (congrArg (out m c) hz).trans (Eq.trans ?_ (congrArg _ hz.symm))
  refine Eq.trans ?_ (Cert.Reference2Ideal.Value.out_at (dA m c) (nA m c) (z 0) (z 1)).symm
  rw [← hc]
  exact G2_at m c _ _ (z 1)

/-- The kernel's weight gradient is the reference's. -/
theorem value : Cert.algebraic_Kernel2Ideal_Reference2Ideal := by
  intro m g m' g' _ hagree
  refine ⟨fun c => out m c, run m g, (θ_run Cert.Reference2Ideal.defs _ _).mono (fun r h c => ?_) (Cert.Reference2Ideal.Value.run (F := Ideal) m' g')⟩
  obtain ⟨h0, ha⟩ := h c
  obtain ⟨e0, e1⟩ := hagree c
  refine ⟨h0.trans ?_, ha⟩
  rw [e0, e1]
  exact (same m c).symm

end Cert.Kernel2Ideal.Value

end
-- ==== Proof.DwDown.lean ====
/- The weight-gradient product at the shape of the down projections: eight blocks of tokens are all the tokens, and the scale goes inside the sum. -/
module

public import proofs.«01_k».proof.Defs
public import proofs.«01_k».proof.Proof.Blocks
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.Value

open Cert.Kernel3Ideal Cert.Kernel3Ideal.Gen
open Idealize.ShloMosaic Idealize.ShloMosaic.TcCoe Idealize.ShloMosaic.Tactic Idealize.SL.Sem
open Cert.Dw

variable (m : (ℓ : Loc nD τ sig) → Buf (Elt Ideal) ℓ)

theorem pay1_at (x : Fin 1408) (y : Fin 1024) : k0_pay1 (F := Ideal) (ix2 x y) = 0 := by pointwise [k0_pay1]

theorem pay2_at (v : Vec Ideal S1408x1024 .f32) (a : Vec Ideal S1024x1408 .bf16) (b : Vec Ideal S1024x1024 .f32) (x : Fin 1408) (y : Fin 1024) :
    k0_pay2 v a b (ix2 x y) = v (ix2 x y) + ∑ k : Fin 1024, a (ix2 k x) * b (ix2 k y) := by
  pointwise [k0_pay2]

theorem half : Ideal.ofBits .f32 0x3F000000#32 = ((1 / 2 : ℝ) : EReal) := by
  simp [Ideal.ofBits, Ideal.ieee, -EReal.coe_mul]; norm_num

theorem pay3_at (v : Vec Ideal S1408x1024 .f32) (z) : k0_pay3 v z = v z * ((1 / 2 : ℝ) : EReal) := by
  rw [← half]
  pointwise [k0_pay3]

/-- The two arguments. -/
abbrev dA (c : Dev nD) : FVec Ideal S8192x2816 .bf16 := m ((c.tc : Thread nD τ).loc main_arg0)
abbrev nA (c : Dev nD) : FVec Ideal S8192x1024 .f32 := m ((c.tc : Thread nD τ).loc main_arg1)

/-- Column `1408 q + x` of the 2816. -/
def col (q : Fin 2) (x : Fin 1408) : Fin 2816 := ⟨1408 * q.val + x.val, by omega⟩

theorem col_surj (i : Fin 2816) : ∃ (q : Fin 2) (x : Fin 1408), col q x = i :=
  ⟨⟨i.val / 1408, by omega⟩, ⟨i.val % 1408, Nat.mod_lt _ (by decide)⟩, Fin.ext (Nat.div_add_mod _ 1408)⟩

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)

/-- Point `8 q + s` of the grid. -/
def pt (q : Fin 2) (s : Fin 8) : Fin cfg0.N := ⟨8 * q.val + s.val, by rw [show cfg0.N = 16 from N_0]; omega⟩

theorem pt_mod (q : Fin 2) (s : Fin 8) : (pt q s).val % 8 = s.val := by show (8 * q.val + s.val) % 8 = s.val; omega
theorem pt_div (q : Fin 2) (s : Fin 8) : (pt q s).val / 8 = q.val := by show (8 * q.val + s.val) / 8 = q.val; omega

theorem iblk0_at (c : Dev nD) (q : Fin 2) (s : Fin 8) (k : Fin 1024) (x : Fin 1408) :
    iblk m c 0 (pt q s) (ix2 k x) = dA m c (ix2 (tok s k) (col q x)) := by
  blk_simp [iblk]
  refine (congrArg (V m c main_arg0) ?_).trans (congrFun (V_main_arg0 m c) _)
  blk_ext [idx0 (pt q s), pt_mod, pt_div, tok, col]
theorem iblk1_at (c : Dev nD) (q : Fin 2) (s : Fin 8) (k : Fin 1024) (y : Fin 1024) :
    iblk m c 1 (pt q s) (ix2 k y) = nA m c (ix2 (tok s k) y) := by
  blk_simp [iblk]
  refine (congrArg (V m c main_arg1) ?_).trans (congrFun (V_main_arg1 m c) _)
  blk_ext [idx1 (pt q s), pt_mod, tok]

/-- The block of each argument that point `n` reads. -/
abbrev dB (c : Dev nD) (n : Fin cfg0.N) : Vec Ideal S1024x1408 .bf16 := iblk m c 0 n
abbrev nB (c : Dev nD) (n : Fin cfg0.N) : Vec Ideal S1024x1024 .f32 := iblk m c 1 n

/-- What point `n` adds at an index of its block. -/
def add (c : Dev nD) (n : ℕ) (z : S1408x1024.Idx) : EReal :=
  if h : n < cfg0.N then ∑ k : Fin 1024, dB m c ⟨n, h⟩ (ix2 k (z 0 : Fin 1408)) * nB m c ⟨n, h⟩ (ix2 k (z 1 : Fin 1024)) else 0

theorem eta (z : S1408x1024.Idx) : z = ix2 (z 0 : Fin 1408) (z 1 : Fin 1024) := eq_ix2 (n0 := 1408) (n1 := 1024) z

theorem step_at (c : Dev nD) (n : ℕ) (h : n < cfg0.N) (v : Vec Ideal S1408x1024 .f32) (z : S1408x1024.Idx) :
    k0_pay2 v (iblk m c 0 ⟨n, h⟩) (iblk m c 1 ⟨n, h⟩) z = v z + add m c n z := by
  unfold add
  rw [dif_pos h]
  refine (congrArg _ (eta z)).trans ((pay2_at _ _ _ (z 0) (z 1)).trans ?_)
  exact congrArg (fun w => v w + _) (eta z).symm

/-- The first seven points of a run add their products; -/
theorem fold_at (c : Dev nD) (q : Fin 2) (h : 8 * q.val + 6 < cfg0.N) (z : S1408x1024.Idx) :
    Pipeline.accAt (reset2 m c) (step2 m c) (8 * q.val) 6 h z = ∑ s ∈ Finset.range 7, add m c (8 * q.val + s) z := by
  refine (Pipeline.accAt_add_apply (reset2 m c) (step2 m c) (fun _ => (0 : EReal)) (add m c) (8 * q.val) 6 (fun h' i => ?_) (fun n h' acc i h1 h2 => ?_) 6 le_rfl h z).trans (zero_add _)
  · refine (step_at m c _ h' _ i).trans (congrArg (· + _) ?_)
    exact (congrArg _ (eta i)).trans (pay1_at (i 0) (i 1))
  · unfold step2
    rw [if_pos (by omega)]
    exact step_at m c n h' acc i

/-- the eighth adds its own and halves. -/
theorem last_at (c : Dev nD) (q : Fin 2) (h : 8 * q.val + 7 < cfg0.N) (z : S1408x1024.Idx) :
    Pipeline.accAt (reset2 m c) (step2 m c) (8 * q.val) 7 h z = (∑ s ∈ Finset.range 8, add m c (8 * q.val + s) z) * ((1 / 2 : ℝ) : EReal) := by
  have e : Pipeline.accAt (reset2 m c) (step2 m c) (8 * q.val) 7 h = step2 m c (8 * q.val + 7) h (Pipeline.accAt (reset2 m c) (step2 m c) (8 * q.val) 6 (by omega)) := rfl
  rw [e]
  unfold step2
  rw [if_neg (by omega), if_pos (by omega), pay3_at, Finset.sum_range_succ _ 7]
  exact congrArg (· * _) ((step_at m c _ h _ z).trans (congrArg (· + _) (fold_at m c q _ z)))

theorem run_eq (c : Dev nD) (b b' : ℕ) (h : b + 7 < cfg0.N) (z : S1408x1024.Idx) (e : b = b') (h' : b' + 7 < cfg0.N) :
    Pipeline.accAt (reset2 m c) (step2 m c) b 7 h z = Pipeline.accAt (reset2 m c) (step2 m c) b' 7 h' z := by
  subst e
  rfl

/-- The array after the run. -/
abbrev out (c : Dev nD) : FVec Ideal S2816x1024 .f32 := G2 m c

/-- It is the product over all the tokens. -/
theorem G2_at (c : Dev nD) (q : Fin 2) (x : Fin 1408) (y : Fin 1024) :
    out m c (ix2 (col q x) y) = ∑ t : Fin 8192, ((1 / 2 : ℝ) : EReal) * nA m c (ix2 t y) * dA m c (ix2 t (col q x)) := by
  have hq := q.isLt
  have hx := x.isLt
  have hy := y.isLt
  have hr : run2Of (ix2 (col q x) y) = q.val := by
    show 1 * ((1408 * q.val + x.val) / 1408 - 0) + 1 * (y.val / 1024 - 0) = q.val
    omega
  have hl : loc2Of (ix2 (col q x) y) = ix2 x y := by
    funext a
    apply Fin.ext
    match a with
    | ⟨0, _⟩ => show (1408 * q.val + x.val) % 1408 = x.val; omega
    | ⟨1, _⟩ => show y.val % 1024 = y.val; omega
  have e : out m c (ix2 (col q x) y) = (∑ s ∈ Finset.range 8, add m c (8 * q.val + s) (ix2 x y)) * ((1 / 2 : ℝ) : EReal) := by
    unfold out G2
    rw [dif_pos (by rw [hr, show cfg0.N = 16 from N_0]; omega), hl]
    exact (run_eq m c _ _ _ _ (congrArg _ hr) _).trans (last_at m c q (by rw [show cfg0.N = 16 from N_0]; omega) _)
  rw [e, Finset.sum_range]
  refine Eq.trans (congrArg (· * _) (Eq.trans (Finset.sum_congr rfl fun s _ => ?_) (sum_tok fun t => dA m c (ix2 t (col q x)) * nA m c (ix2 t y)))) ?_
  rotate_left
  · rw [sum_mul_real _ _ _ (by norm_num)]
    exact Finset.sum_congr rfl fun t _ => by rw [mul_comm (dA m c _), mul_comm _ (((1 / 2 : ℝ) : EReal)), mul_assoc]
  have hs := s.isLt
  unfold add
  rw [dif_pos (by rw [show cfg0.N = 16 from N_0]; omega)]
  exact Finset.sum_congr rfl fun k _ => congrArg₂ (· * ·) (iblk0_at m c q s k x) (iblk1_at m c q s k y)

end Cert.Kernel3Ideal.Value

namespace Cert.Reference3Ideal.Value

open Cert.Reference3Ideal Cert.Reference3Ideal.Gen Idealize.ShloMosaic Idealize.ShloMosaic.TcCoe Idealize.ShloMosaic.Tactic

theorem out_at (a : FVec Ideal S8192x2816 .bf16) (b : FVec Ideal S8192x1024 .f32) (x : Fin 2816) (y : Fin 1024) :
    transpose S2816x1024 [1, 0] (Host.dotGeneral dot_S8192x1024_S8192x2816_S1024x2816_0_0_1_1_n_n none (mulf (broadcastInDim S8192x1024 ![] bcast_S_S8192x1024 (constant S_ .f32 0x3F000000#32)) b) (extf .f32 a bitsLt_bf16_f32)) transposes_S1024x2816_S2816x1024_1_0 (ix2 x y)
      = ∑ t : Fin 8192, ((1 / 2 : ℝ) : EReal) * b (ix2 t y) * a (ix2 t x) := by
  rw [← Cert.Kernel3Ideal.Value.half]
  pointwise

end Cert.Reference3Ideal.Value

namespace Cert.Kernel3Ideal.Value

open Cert.Kernel3Ideal Cert.Kernel3Ideal.Gen
open Idealize.ShloMosaic Idealize.ShloMosaic.TcCoe Idealize.SL.Sem

variable (m : (ℓ : Loc nD τ sig) → Buf (Elt Ideal) ℓ)

theorem same (c : Dev nD) : out m c = transpose Cert.Reference3Ideal.S2816x1024 [1, 0] (Host.dotGeneral Cert.Reference3Ideal.dot_S8192x1024_S8192x2816_S1024x2816_0_0_1_1_n_n none
    (mulf (broadcastInDim Cert.Reference3Ideal.S8192x1024 ![] Cert.Reference3Ideal.Gen.bcast_S_S8192x1024 (constant Cert.Reference3Ideal.S_ .f32 0x3F000000#32)) (nA m c)) (extf .f32 (dA m c) Cert.Reference3Ideal.Gen.bitsLt_bf16_f32))
    Cert.Reference3Ideal.Gen.transposes_S1024x2816_S2816x1024_1_0 := by
  funext z
  have hz : z = ix2 (z 0 : Fin 2816) (z 1 : Fin 1024) := eq_ix2 (n0 := 2816) (n1 := 1024) z
  obtain ⟨q, x, hc⟩ := col_surj (z 0)
  refine (congrArg (out m c) hz).trans (Eq.trans ?_ (congrArg _ hz.symm))
  refine Eq.trans ?_ (Cert.Reference3Ideal.Value.out_at (dA m c) (nA m c) (z 0) (z 1)).symm
  rw [← hc]
  exact G2_at m c _ _ (z 1)

/-- The kernel's weight gradient is the reference's. -/
theorem value : Cert.algebraic_Kernel3Ideal_Reference3Ideal := by
  intro m g m' g' _ hagree
  refine ⟨fun c => out m c, run m g, (θ_run Cert.Reference3Ideal.defs _ _).mono (fun r h c => ?_) (Cert.Reference3Ideal.Value.run (F := Ideal) m' g')⟩
  obtain ⟨h0, ha⟩ := h c
  obtain ⟨e0, e1⟩ := hagree c
  refine ⟨h0.trans ?_, ha⟩
  rw [e0, e1]
  exact (same m c).symm

end Cert.Kernel3Ideal.Value

end
-- ==== Proof.Ffn.lean ====
/- The gradient through the half-step FFN at one token, entry by entry, over the extended reals. -/
module

public import Idealize.ShloMosaic.Lib.IdealHost
public import Idealize.ShloMosaic.Lib.Pointwise

@[expose] public section

set_option maxRecDepth 16384

noncomputable section

namespace Cert.Ffn

open Idealize.ShloMosaic

/-- One half, the width 1024, and the norm's epsilon, as the programs write them. -/
abbrev half : EReal := Ideal.ofBits .f32 0x3F000000#32
abbrev width : EReal := Ideal.ofBits .f32 0x44800000#32
abbrev eps : EReal := Ideal.ofBits .f32 0x358637BD#32

/-- The activation of the two products. -/
def act (a b : EReal) : EReal := a * Ideal.logistic a * b

/-- The gradient of the activation: half the gradient of the output against a row of `w2`. -/
def dac (d w : Fin 1024 → EReal) : EReal := ∑ k, half * d k * w k

/-- The gradient of the first product, as the kernel takes it. -/
def dup (e a b : EReal) : EReal := e * b * Ideal.logistic a * (1 + a * (1 - Ideal.logistic a))

/-- The gradient of the second product. -/
def dga (e a : EReal) : EReal := e * (a * Ideal.logistic a)

/-- The norm's scale of a token. -/
def rinv (h : Fin 1024 → EReal) : EReal := Ideal.rsqrt (Ideal.div (∑ k, h k * h k) width + eps)

/-- The gradient of the normed token. -/
def dnm (p q : Fin 2816 → EReal) (u v : Fin 2816 → Fin 1024 → EReal) (y : Fin 1024) : EReal :=
  ∑ j, p j * u j y + ∑ j, q j * v j y

/-- The gradient of the token through the norm, as the kernel takes it. -/
def dx (n h g : Fin 1024 → EReal) (y : Fin 1024) : EReal :=
  rinv h * (n y * g y - h y * rinv h * Ideal.div (∑ k, n k * g k * (h k * rinv h)) width)

/-- Column `o + y` of the 2816. -/
def col (o : ℕ) (ho : o + 1408 ≤ 2816) (y : Fin 1408) : Fin 2816 := ⟨o + y.val, by omega⟩

/-- The two halves of the columns are all the columns. -/
theorem sum_cols {M : Type} [AddCommMonoid M] (f : Fin 2816 → M) :
    ∑ j, f j = ∑ y, f (col 0 (by decide) y) + ∑ y, f (col 1408 (by decide) y) := by
  refine (Fin.sum_univ_add (a := 1408) (b := 1408) f).trans (congrArg₂ (· + ·) ?_ ?_)
  · exact Finset.sum_congr rfl fun y _ => congrArg f (Fin.ext (Nat.zero_add _).symm)
  · exact Finset.sum_congr rfl fun y _ => congrArg f (Fin.ext rfl)

theorem dnm_cols (p q : Fin 2816 → EReal) (u v : Fin 2816 → Fin 1024 → EReal) (y : Fin 1024) :
    dnm p q u v y = (∑ j, p (col 0 (by decide) j) * u (col 0 (by decide) j) y + ∑ j, q (col 0 (by decide) j) * v (col 0 (by decide) j) y)
      + (∑ j, p (col 1408 (by decide) j) * u (col 1408 (by decide) j) y + ∑ j, q (col 1408 (by decide) j) * v (col 1408 (by decide) j) y) := by
  unfold dnm
  rw [sum_cols (fun j => p j * u j y), sum_cols (fun j => q j * v j y)]
  exact add_add_add_comm _ _ _ _

end Cert.Ffn

end
-- ==== Proof.FfnTile.lean ====
/- The backward call of the FFN at one block of tokens, read at an index. -/
module

public import proofs.«01_k».proof.Defs
public import proofs.«01_k».proof.Proof.Ffn
public import proofs.«01_k».proof.Proof.Gen.Kernel4Ideal.Value
public import Idealize.ShloMosaic.Lib.Pipeline.ValueKit

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic Idealize.SL.Sem
open Cert.Ffn

theorem pay1_at (y : Fin 1024) : k0_pay1 (F := Ideal) (ix2 0 y) = 0 := by pointwise [k0_pay1]

theorem pay9_at (a b : Vec Ideal S256x1408 .bf16) (x : Fin 256) (y : Fin 1408) :
    k0_pay9 a b (ix2 x y) = act (a (ix2 x y)) (b (ix2 x y)) := by
  pointwise [k0_pay9, k0_pay7, k0_pay6, k0_pay5, k0_pay4, act]

theorem pay18_at (a b : Vec Ideal S256x1408 .bf16) (x : Fin 256) (y : Fin 1408) :
    k0_pay18 a b (ix2 x y) = act (a (ix2 x y)) (b (ix2 x y)) := by
  pointwise [k0_pay18, k0_pay16, k0_pay15, k0_pay14, k0_pay13, act]

theorem pay10_at (d : Vec Ideal S256x1024 .f32) (a b : Vec Ideal S256x1408 .bf16) (w : Vec Ideal S1408x1024 .bf16) (x : Fin 256) (y : Fin 1408) :
    k0_pay10 d a b w (ix2 x y) = dup (dac (fun k => d (ix2 x k)) (fun k => w (ix2 y k))) (a (ix2 x y)) (b (ix2 x y)) := by
  pointwise [k0_pay10, k0_pay8, k0_pay3, k0_pay2, k0_pay6, k0_pay5, k0_pay4, dup, dac]

theorem pay19_at (d : Vec Ideal S256x1024 .f32) (a b : Vec Ideal S256x1408 .bf16) (w : Vec Ideal S1408x1024 .bf16) (x : Fin 256) (y : Fin 1408) :
    k0_pay19 (k0_pay3 d) a b w (ix2 x y) = dup (dac (fun k => d (ix2 x k)) (fun k => w (ix2 y k))) (a (ix2 x y)) (b (ix2 x y)) := by
  pointwise [k0_pay19, k0_pay17, k0_pay3, k0_pay2, k0_pay15, k0_pay14, k0_pay13, dup, dac]

theorem pay11_at (d : Vec Ideal S256x1024 .f32) (a : Vec Ideal S256x1408 .bf16) (w : Vec Ideal S1408x1024 .bf16) (x : Fin 256) (y : Fin 1408) :
    k0_pay11 d a w (ix2 x y) = dga (dac (fun k => d (ix2 x k)) (fun k => w (ix2 y k))) (a (ix2 x y)) := by
  pointwise [k0_pay11, k0_pay8, k0_pay3, k0_pay2, k0_pay7, k0_pay6, k0_pay4, dga, dac]

theorem pay20_at (d : Vec Ideal S256x1024 .f32) (a : Vec Ideal S256x1408 .bf16) (w : Vec Ideal S1408x1024 .bf16) (x : Fin 256) (y : Fin 1408) :
    k0_pay20 (k0_pay3 d) a w (ix2 x y) = dga (dac (fun k => d (ix2 x k)) (fun k => w (ix2 y k))) (a (ix2 x y)) := by
  pointwise [k0_pay20, k0_pay17, k0_pay3, k0_pay2, k0_pay16, k0_pay15, k0_pay13, dga, dac]

theorem pay21_at (p₀ q₀ p q : FVec Ideal S256x1408 .bf16) (u₀ v₀ u v : Vec Ideal S1408x1024 .bf16) (x : Fin 256) (y : Fin 1024) :
    k0_pay21 (k0_pay12 p₀ q₀ u₀ v₀) p q u v (ix2 x y)
      = (∑ j : Fin 1408, p₀ (ix2 x j) * u₀ (ix2 j y) + ∑ j : Fin 1408, q₀ (ix2 x j) * v₀ (ix2 j y))
        + (∑ j : Fin 1408, p (ix2 x j) * u (ix2 j y) + ∑ j : Fin 1408, q (ix2 x j) * v (ix2 j y)) := by
  pointwise [k0_pay21, k0_pay12]

theorem pay25_at (e : FVec Ideal S256x1024 .f32) (p q : FVec Ideal S256x1408 .bf16) (u v : Vec Ideal S1408x1024 .bf16) (h : Vec Ideal S256x1024 .f32) (s : Vec Ideal S1x1024 .f32) (y : Fin 1024) :
    k0_pay25 e p q u v h s (ix2 0 y) = s (ix2 0 y) + ∑ x : Fin 256, k0_pay21 e p q u v (ix2 x y) * (h (ix2 x y) * rinv (fun k => h (ix2 x k))) := by
  pointwise [k0_pay25, k0_pay22, k0_pay23, k0_pay24, rinv]

theorem pay26_at (d : Vec Ideal S256x1024 .f32) (e : FVec Ideal S256x1024 .f32) (p q : FVec Ideal S256x1408 .bf16) (u v : Vec Ideal S1408x1024 .bf16) (h : Vec Ideal S256x1024 .f32) (g : Vec Ideal S1x1024 .f32) (x : Fin 256) (y : Fin 1024) :
    k0_pay26 (k0_pay2 d) e p q u v h g (ix2 x y)
      = d (ix2 x y) + dx (fun k => k0_pay21 e p q u v (ix2 x k)) (fun k => h (ix2 x k)) (fun k => g (ix2 0 k)) y := by
  pointwise [k0_pay26, k0_pay2, k0_pay22, k0_pay23, k0_pay24, rinv, dx]

/-- The columns from `o` of a block, and the rows from `o` of a weight. -/
def cB (o : ℕ) (inb : ∀ a, (![0, o] : Fin 2 → ℕ) a + (![256, 1408] : Fin 2 → ℕ) a ≤ S256x2816.size a) (X : Vec Ideal S256x2816 .bf16) : Vec Ideal S256x1408 .bf16 :=
  View.ld X (Rect.unit (s := S256x2816) ![0, o] ![256, 1408] inb)
def rB (o : ℕ) (inb : ∀ a, (![o, 0] : Fin 2 → ℕ) a + (![1408, 1024] : Fin 2 → ℕ) a ≤ S2816x1024.size a) (X : Vec Ideal S2816x1024 .bf16) : Vec Ideal S1408x1024 .bf16 :=
  View.ld X (Rect.unit (s := S2816x1024) ![o, 0] ![1408, 1024] inb)

theorem cB_at {o : ℕ} (ho : o + 1408 ≤ 2816) (inb) (X : Vec Ideal S256x2816 .bf16) (x : Fin 256) (y : Fin 1408) :
    cB o inb X (ix2 x y) = X (ix2 x (col o ho y)) :=
  View.ld_unit_apply_of X _ _ inb _ _ fun a => by fin_cases a <;> simp [col]

theorem rB_at {o : ℕ} (ho : o + 1408 ≤ 2816) (inb) (X : Vec Ideal S2816x1024 .bf16) (x : Fin 1408) (y : Fin 1024) :
    rB o inb X (ix2 x y) = X (ix2 (col o ho x) y) :=
  View.ld_unit_apply_of X _ _ inb _ _ fun a => by fin_cases a <;> simp [col]

/-- Where the columns from `o` lie. -/
theorem embc {o : ℕ} (ho : o + 1408 ≤ 2816) (inb) (x : Fin 256) (y : Fin 1408) :
    (Rect.unit (s := S256x2816) ![0, o] ![256, 1408] inb).emb (ix2 x y) = ix2 x (col o ho y) := by
  refine funext fun a => Fin.ext ((Rect.idx_unit_val _ _ inb _ a).trans ?_)
  fin_cases a <;> simp [col]

section block
variable (x0 : Vec Ideal S256x1024 .f32) (x1 : Vec Ideal S1x1024 .f32) (x2 : Vec Ideal S256x1024 .f32) (x3 x4 : Vec Ideal S256x2816 .bf16) (x5 x6 x7 : Vec Ideal S2816x1024 .bf16)

/-- The gradient of the activation over the block. -/
def eB (x : Fin 256) (j : Fin 2816) : EReal := dac (fun k => x2 (ix2 x k)) (fun k => x7 (ix2 j k))
/-- The gradients of the two products over the block. -/
def pB (x : Fin 256) (j : Fin 2816) : EReal := dup (eB x2 x7 x j) (x3 (ix2 x j)) (x4 (ix2 x j))
def qB (x : Fin 256) (j : Fin 2816) : EReal := dga (eB x2 x7 x j) (x3 (ix2 x j))
/-- The gradient of the normed tokens of the block. -/
def nB (x : Fin 256) (y : Fin 1024) : EReal :=
  dnm (pB x2 x3 x4 x7 x) (qB x2 x3 x7 x) (fun j y => x5 (ix2 j y)) (fun j y => x6 (ix2 j y)) y

/-- What the body leaves in each output. -/
def T8 : Vec Ideal S256x1024 .f32 := fun z =>
  x2 (ix2 (z 0 : Fin 256) (z 1 : Fin 1024)) + dx (nB x2 x3 x4 x5 x6 x7 (z 0)) (fun k => x0 (ix2 (z 0 : Fin 256) k)) (fun k => x1 (ix2 0 k)) (z 1)
def T9 : Vec Ideal S256x2816 .bf16 := fun z => pB x2 x3 x4 x7 (z 0) (z 1)
def T10 : Vec Ideal S256x2816 .bf16 := fun z => qB x2 x3 x7 (z 0) (z 1)
def T11 : Vec Ideal S256x2816 .bf16 := fun z => act (x3 (ix2 (z 0 : Fin 256) (z 1 : Fin 2816))) (x4 (ix2 (z 0 : Fin 256) (z 1 : Fin 2816)))
def T12 (s : Vec Ideal S1x1024 .f32) : Vec Ideal S1x1024 .f32 := fun z =>
  s (ix2 0 (z 1 : Fin 1024)) + ∑ x : Fin 256, nB x2 x3 x4 x5 x6 x7 x (z 1) * (x0 (ix2 x (z 1 : Fin 1024)) * rinv (fun k => x0 (ix2 x k)))

theorem eta (z : S256x1408.Idx) : z = ix2 (z 0 : Fin 256) (z 1 : Fin 1408) := eq_ix2 (n0 := 256) (n1 := 1408) z

theorem p_cols {o : ℕ} (ho : o + 1408 ≤ 2816) (inb inc) (x : Fin 256) (y : Fin 1408) :
    dup (dac (fun k => x2 (ix2 x k)) (fun k => rB o inc x7 (ix2 y k))) (cB o inb x3 (ix2 x y)) (cB o inb x4 (ix2 x y)) = pB x2 x3 x4 x7 x (col o ho y) := by
  simp only [cB_at ho, rB_at ho, pB, eB]
theorem q_cols {o : ℕ} (ho : o + 1408 ≤ 2816) (inb inc) (x : Fin 256) (y : Fin 1408) :
    dga (dac (fun k => x2 (ix2 x k)) (fun k => rB o inc x7 (ix2 y k))) (cB o inb x3 (ix2 x y)) = qB x2 x3 x7 x (col o ho y) := by
  simp only [cB_at ho, rB_at ho, qB, eB]

theorem n_at (i0 i1 j0 j1 k0 k1 l0 l1) (x : Fin 256) (y : Fin 1024) :
    k0_pay21 (k0_pay12 (k0_pay10 x2 (cB 0 i0 x3) (cB 0 i0 x4) (rB 0 j0 x7)) (k0_pay11 x2 (cB 0 i0 x3) (rB 0 j0 x7)) (rB 0 k0 x5) (rB 0 l0 x6))
      (k0_pay19 (k0_pay3 x2) (cB 1408 i1 x3) (cB 1408 i1 x4) (rB 1408 j1 x7)) (k0_pay20 (k0_pay3 x2) (cB 1408 i1 x3) (rB 1408 j1 x7)) (rB 1408 k1 x5) (rB 1408 l1 x6) (ix2 x y)
      = nB x2 x3 x4 x5 x6 x7 x y := by
  refine (pay21_at _ _ _ _ _ _ _ _ x y).trans (Eq.trans ?_ (dnm_cols _ _ _ _ y).symm)
  refine congrArg₂ (· + ·) (congrArg₂ (· + ·) ?_ ?_) (congrArg₂ (· + ·) ?_ ?_)
  · exact Finset.sum_congr rfl fun j _ => congrArg₂ (· * ·) ((pay10_at _ _ _ _ _ _).trans (p_cols x2 x3 x4 x7 (by decide) i0 j0 x j)) (rB_at (by decide) k0 x5 j y)
  · exact Finset.sum_congr rfl fun j _ => congrArg₂ (· * ·) ((pay11_at _ _ _ _ _).trans (q_cols x2 x3 x7 (by decide) i0 j0 x j)) (rB_at (by decide) l0 x6 j y)
  · exact Finset.sum_congr rfl fun j _ => congrArg₂ (· * ·) ((pay19_at _ _ _ _ _ _).trans (p_cols x2 x3 x4 x7 (by decide) i1 j1 x j)) (rB_at (by decide) k1 x5 j y)
  · exact Finset.sum_congr rfl fun j _ => congrArg₂ (· * ·) ((pay20_at _ _ _ _ _).trans (q_cols x2 x3 x7 (by decide) i1 j1 x j)) (rB_at (by decide) l1 x6 j y)

/-- A store of the columns from `o` is those columns of an output. -/
theorem chunk {o : ℕ} (ho : o + 1408 ≤ 2816) (inb) (P : Vec Ideal S256x1408 .bf16) (G : Vec Ideal S256x2816 .bf16)
    (h : ∀ (x : Fin 256) (y : Fin 1408), P (ix2 x y) = G (ix2 x (col o ho y))) (z : S256x1408.Idx) :
    P z = G ((Rect.unit (s := S256x2816) ![0, o] ![256, 1408] inb).emb z) :=
  (congrArg P (eta z)).trans ((h _ _).trans (congrArg G ((embc ho inb _ _).symm.trans
    (congrArg (Rect.unit (s := S256x2816) ![0, o] ![256, 1408] inb).emb (eta z).symm))))

theorem st9_lo (i j inb) (z : S256x1408.Idx) : k0_pay10 x2 (cB 0 i x3) (cB 0 i x4) (rB 0 j x7) z
    = T9 x2 x3 x4 x7 ((Rect.unit (s := S256x2816) ![0, 0] ![256, 1408] inb).emb z) :=
  chunk (by decide) inb _ _ (fun _ _ => (pay10_at _ _ _ _ _ _).trans (p_cols x2 x3 x4 x7 (by decide) i j _ _)) z
theorem st9_hi (i j inb) (z : S256x1408.Idx) : k0_pay19 (k0_pay3 x2) (cB 1408 i x3) (cB 1408 i x4) (rB 1408 j x7) z
    = T9 x2 x3 x4 x7 ((Rect.unit (s := S256x2816) ![0, 1408] ![256, 1408] inb).emb z) :=
  chunk (by decide) inb _ _ (fun _ _ => (pay19_at _ _ _ _ _ _).trans (p_cols x2 x3 x4 x7 (by decide) i j _ _)) z
theorem st10_lo (i j inb) (z : S256x1408.Idx) : k0_pay11 x2 (cB 0 i x3) (rB 0 j x7) z
    = T10 x2 x3 x7 ((Rect.unit (s := S256x2816) ![0, 0] ![256, 1408] inb).emb z) :=
  chunk (by decide) inb _ _ (fun _ _ => (pay11_at _ _ _ _ _).trans (q_cols x2 x3 x7 (by decide) i j _ _)) z
theorem st10_hi (i j inb) (z : S256x1408.Idx) : k0_pay20 (k0_pay3 x2) (cB 1408 i x3) (rB 1408 j x7) z
    = T10 x2 x3 x7 ((Rect.unit (s := S256x2816) ![0, 1408] ![256, 1408] inb).emb z) :=
  chunk (by decide) inb _ _ (fun _ _ => (pay20_at _ _ _ _ _).trans (q_cols x2 x3 x7 (by decide) i j _ _)) z
theorem st11_lo (i inb) (z : S256x1408.Idx) : k0_pay9 (cB 0 i x3) (cB 0 i x4) z
    = T11 x3 x4 ((Rect.unit (s := S256x2816) ![0, 0] ![256, 1408] inb).emb z) :=
  chunk (by decide) inb _ _ (fun _ _ => (pay9_at _ _ _ _).trans (congrArg₂ act (cB_at (by decide) i x3 _ _) (cB_at (by decide) i x4 _ _))) z
theorem st11_hi (i inb) (z : S256x1408.Idx) : k0_pay18 (cB 1408 i x3) (cB 1408 i x4) z
    = T11 x3 x4 ((Rect.unit (s := S256x2816) ![0, 1408] ![256, 1408] inb).emb z) :=
  chunk (by decide) inb _ _ (fun _ _ => (pay18_at _ _ _ _).trans (congrArg₂ act (cB_at (by decide) i x3 _ _) (cB_at (by decide) i x4 _ _))) z

/-- The store of the gradient of the tokens. -/
theorem st8 (i0 i1 j0 j1 k0 k1 l0 l1) :
    k0_pay26 (k0_pay2 x2) (k0_pay12 (k0_pay10 x2 (cB 0 i0 x3) (cB 0 i0 x4) (rB 0 j0 x7)) (k0_pay11 x2 (cB 0 i0 x3) (rB 0 j0 x7)) (rB 0 k0 x5) (rB 0 l0 x6))
      (k0_pay19 (k0_pay3 x2) (cB 1408 i1 x3) (cB 1408 i1 x4) (rB 1408 j1 x7)) (k0_pay20 (k0_pay3 x2) (cB 1408 i1 x3) (rB 1408 j1 x7)) (rB 1408 k1 x5) (rB 1408 l1 x6) x0 x1
      = T8 x0 x1 x2 x3 x4 x5 x6 x7 := by
  funext z
  rw [eq_ix2 (n0 := 256) (n1 := 1024) z]
  refine (pay26_at _ _ _ _ _ _ _ _ _ _).trans (congrArg (x2 (ix2 (z 0 : Fin 256) (z 1 : Fin 1024)) + ·) (congrArg (fun n => dx n _ _ _) (funext fun k => ?_)))
  exact n_at x2 x3 x4 x5 x6 x7 i0 i1 j0 j1 k0 k1 l0 l1 _ k

/-- The store of the gradient of the norm's scale, on top of what the buffer held. -/
theorem st12 (i0 i1 j0 j1 k0 k1 l0 l1) (s : Vec Ideal S1x1024 .f32) :
    k0_pay25 (k0_pay12 (k0_pay10 x2 (cB 0 i0 x3) (cB 0 i0 x4) (rB 0 j0 x7)) (k0_pay11 x2 (cB 0 i0 x3) (rB 0 j0 x7)) (rB 0 k0 x5) (rB 0 l0 x6))
      (k0_pay19 (k0_pay3 x2) (cB 1408 i1 x3) (cB 1408 i1 x4) (rB 1408 j1 x7)) (k0_pay20 (k0_pay3 x2) (cB 1408 i1 x3) (rB 1408 j1 x7)) (rB 1408 k1 x5) (rB 1408 l1 x6) x0 s
      = T12 x0 x2 x3 x4 x5 x6 x7 s := by
  funext z
  have hz : z = ix2 (0 : Fin 1) (z 1 : Fin 1024) := (eq_ix2 (n0 := 1) (n1 := 1024) z).trans (congrArg (fun a => ix2 a (z 1 : Fin 1024)) (Subsingleton.elim _ _))
  rw [hz]
  refine (pay25_at _ _ _ _ _ _ _ _).trans (congrArg (s (ix2 0 (z 1 : Fin 1024)) + ·) (Finset.sum_congr rfl fun x _ => congrArg (· * _) ?_))
  exact n_at x2 x3 x4 x5 x6 x7 i0 i1 j0 j1 k0 k1 l0 l1 x _

end block

theorem hz2 : (![0, 0] : Fin 2 → Nat) = fun _ => 0 := by ext a; fin_cases a <;> rfl

section outs
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S1x1024 .f32) (harg13 : arg13.IsWhole)
  (x0 : Vec Ideal S256x1024 .f32) (x1 : Vec Ideal S1x1024 .f32) (x2 : Vec Ideal S256x1024 .f32) (x3 x4 : Vec Ideal S256x2816 .bf16) (x5 x6 x7 : Vec Ideal S2816x1024 .bf16) (s : Vec Ideal S1x1024 .f32)

theorem outA_8 (hc0 : cond0_0 i) : out0_A_8 c i _ harg1 _ harg2 _ harg3 _ harg4 _ harg5 _ harg6 _ harg7 _ harg8 _ harg9 _ harg10 _ harg11 _ harg12 _ harg13 hc0 x0 x1 x2 x3 x4 x5 x6 x7 = T8 x0 x1 x2 x3 x4 x5 x6 x7 := by
  unfold out0_A_8
  rw [View.read_writes_eq_canon _ _ _ (cover0_A_8 c i _ harg1 _ harg2 _ harg3 _ harg4 _ harg5 _ harg6 _ harg7 _ harg8 _ harg9 _ harg10 _ harg11 _ harg12 _ harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, View.ld_unit_zero (S := S1x1024) hz2, View.canon_cons_unit_zero (S := S256x1024) hz2, View.canon_unit_zero (S := S256x1024) hz2, View.readCov_unit_zero (S := S1x1024) _ hz2, shapeCast_self]
  exact st8 x0 x1 x2 x3 x4 x5 x6 x7 inb_S256x2816_S256x1408_0_0 inb_S256x2816_S256x1408_0_1408 inb_S2816x1024_S1408x1024_0_0 inb_S2816x1024_S1408x1024_1408_0 inb_S2816x1024_S1408x1024_0_0 inb_S2816x1024_S1408x1024_1408_0 inb_S2816x1024_S1408x1024_0_0 inb_S2816x1024_S1408x1024_1408_0
theorem outA_9 (hc0 : cond0_0 i) : out0_A_9 c i _ harg1 _ harg2 _ harg3 _ harg4 _ harg5 _ harg6 _ harg7 _ harg8 _ harg9 _ harg10 _ harg11 _ harg12 _ harg13 hc0 x0 x1 x2 x3 x4 x5 x6 x7 = T9 x2 x3 x4 x7 := by
  funext y
  unfold out0_A_9
  rw [View.read_writes_eq_canon _ _ _ (cover0_A_9 c i _ harg1 _ harg2 _ harg3 _ harg4 _ harg5 _ harg6 _ harg7 _ harg8 _ harg9 _ harg10 _ harg11 _ harg12 _ harg13 hc0 x0 x1 x2 x3 x4 x5 x6 x7)]
  refine View.canon_apply_of_pieces (T9 x2 x3 x4 x7) _ ?_ y (cover0_A_9 c i _ harg1 _ harg2 _ harg3 _ harg4 _ harg5 _ harg6 _ harg7 _ harg8 _ harg9 _ harg10 _ harg11 _ harg12 _ harg13 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, shapeCast_self]
  rw [List.forall_mem_cons, List.forall_mem_singleton]
  exact ⟨fun z => st9_hi x2 x3 x4 x7 inb_S256x2816_S256x1408_0_1408 inb_S2816x1024_S1408x1024_1408_0 inb_S256x2816_S256x1408_0_1408 z, fun z => st9_lo x2 x3 x4 x7 inb_S256x2816_S256x1408_0_0 inb_S2816x1024_S1408x1024_0_0 inb_S256x2816_S256x1408_0_0 z⟩
theorem outA_10 (hc0 : cond0_0 i) : out0_A_10 c i _ harg1 _ harg2 _ harg3 _ harg4 _ harg5 _ harg6 _ harg7 _ harg8 _ harg9 _ harg10 _ harg11 _ harg12 _ harg13 hc0 x0 x1 x2 x3 x4 x5 x6 x7 = T10 x2 x3 x7 := by
  funext y
  unfold out0_A_10
  rw [View.read_writes_eq_canon _ _ _ (cover0_A_10 c i _ harg1 _ harg2 _ harg3 _ harg4 _ harg5 _ harg6 _ harg7 _ harg8 _ harg9 _ harg10 _ harg11 _ harg12 _ harg13 hc0 x0 x1 x2 x3 x4 x5 x6 x7)]
  refine View.canon_apply_of_pieces (T10 x2 x3 x7) _ ?_ y (cover0_A_10 c i _ harg1 _ harg2 _ harg3 _ harg4 _ harg5 _ harg6 _ harg7 _ harg8 _ harg9 _ harg10 _ harg11 _ harg12 _ harg13 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, shapeCast_self]
  rw [List.forall_mem_cons, List.forall_mem_singleton]
  exact ⟨fun z => st10_hi x2 x3 x7 inb_S256x2816_S256x1408_0_1408 inb_S2816x1024_S1408x1024_1408_0 inb_S256x2816_S256x1408_0_1408 z, fun z => st10_lo x2 x3 x7 inb_S256x2816_S256x1408_0_0 inb_S2816x1024_S1408x1024_0_0 inb_S256x2816_S256x1408_0_0 z⟩
theorem outA_11 (hc0 : cond0_0 i) : out0_A_11 c i _ harg1 _ harg2 _ harg3 _ harg4 _ harg5 _ harg6 _ harg7 _ harg8 _ harg9 _ harg10 _ harg11 _ harg12 _ harg13 hc0 x0 x1 x2 x3 x4 x5 x6 x7 = T11 x3 x4 := by
  funext y
  unfold out0_A_11
  rw [View.read_writes_eq_canon _ _ _ (cover0_A_11 c i _ harg1 _ harg2 _ harg3 _ harg4 _ harg5 _ harg6 _ harg7 _ harg8 _ harg9 _ harg10 _ harg11 _ harg12 _ harg13 hc0 x0 x1 x2 x3 x4 x5 x6 x7)]
  refine View.canon_apply_of_pieces (T11 x3 x4) _ ?_ y (cover0_A_11 c i _ harg1 _ harg2 _ harg3 _ harg4 _ harg5 _ harg6 _ harg7 _ harg8 _ harg9 _ harg10 _ harg11 _ harg12 _ harg13 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, shapeCast_self]
  rw [List.forall_mem_cons, List.forall_mem_singleton]
  exact ⟨fun z => st11_hi x3 x4 inb_S256x2816_S256x1408_0_1408 inb_S256x2816_S256x1408_0_1408 z, fun z => st11_lo x3 x4 inb_S256x2816_S256x1408_0_0 inb_S256x2816_S256x1408_0_0 z⟩
theorem outA_12 (hc0 : cond0_0 i) : out0_A_12 c i _ harg1 _ harg2 _ harg3 _ harg4 _ harg5 _ harg6 _ harg7 _ harg8 _ harg9 _ harg10 _ harg11 _ harg12 _ harg13 hc0 x0 x1 x2 x3 x4 x5 x6 x7 = T12 x0 x2 x3 x4 x5 x6 x7 (k0_pay1 (F := Ideal)) := by
  unfold out0_A_12
  rw [View.read_writes_eq_canon _ _ _ (cover0_A_12 c i _ harg1 _ harg2 _ harg3 _ harg4 _ harg5 _ harg6 _ harg7 _ harg8 _ harg9 _ harg10 _ harg11 _ harg12 _ harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, View.ld_unit_zero (S := S1x1024) hz2, View.canon_cons_unit_zero (S := S1x1024) hz2, View.canon_unit_zero (S := S1x1024) hz2, View.readCov_unit_zero (S := S1x1024) _ hz2, shapeCast_self]
  exact st12 x0 x2 x3 x4 x5 x6 x7 inb_S256x2816_S256x1408_0_0 inb_S256x2816_S256x1408_0_1408 inb_S2816x1024_S1408x1024_0_0 inb_S2816x1024_S1408x1024_1408_0 inb_S2816x1024_S1408x1024_0_0 inb_S2816x1024_S1408x1024_1408_0 inb_S2816x1024_S1408x1024_0_0 inb_S2816x1024_S1408x1024_1408_0 (k0_pay1 (F := Ideal))
theorem outB_8 (hc0 : ¬cond0_0 i) : out0_B_8 c i _ harg1 _ harg2 _ harg3 _ harg4 _ harg5 _ harg6 _ harg7 _ harg8 _ harg9 _ harg10 _ harg11 _ harg12 _ harg13 hc0 x0 x1 x2 x3 x4 x5 x6 x7 s = T8 x0 x1 x2 x3 x4 x5 x6 x7 := by
  unfold out0_B_8
  rw [View.read_writes_eq_canon _ _ _ (cover0_B_8 c i _ harg1 _ harg2 _ harg3 _ harg4 _ harg5 _ harg6 _ harg7 _ harg8 _ harg9 _ harg10 _ harg11 _ harg12 _ harg13 hc0 x0 x1 x2 x3 x4 x5 x6 x7 s)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, View.ld_unit_zero (S := S1x1024) hz2, View.canon_cons_unit_zero (S := S256x1024) hz2, View.canon_unit_zero (S := S256x1024) hz2, View.readCov_unit_zero (S := S1x1024) _ hz2, shapeCast_self]
  exact st8 x0 x1 x2 x3 x4 x5 x6 x7 inb_S256x2816_S256x1408_0_0 inb_S256x2816_S256x1408_0_1408 inb_S2816x1024_S1408x1024_0_0 inb_S2816x1024_S1408x1024_1408_0 inb_S2816x1024_S1408x1024_0_0 inb_S2816x1024_S1408x1024_1408_0 inb_S2816x1024_S1408x1024_0_0 inb_S2816x1024_S1408x1024_1408_0
theorem outB_9 (hc0 : ¬cond0_0 i) : out0_B_9 c i _ harg1 _ harg2 _ harg3 _ harg4 _ harg5 _ harg6 _ harg7 _ harg8 _ harg9 _ harg10 _ harg11 _ harg12 _ harg13 hc0 x0 x1 x2 x3 x4 x5 x6 x7 s = T9 x2 x3 x4 x7 := by
  funext y
  unfold out0_B_9
  rw [View.read_writes_eq_canon _ _ _ (cover0_B_9 c i _ harg1 _ harg2 _ harg3 _ harg4 _ harg5 _ harg6 _ harg7 _ harg8 _ harg9 _ harg10 _ harg11 _ harg12 _ harg13 hc0 x0 x1 x2 x3 x4 x5 x6 x7 s)]
  refine View.canon_apply_of_pieces (T9 x2 x3 x4 x7) _ ?_ y (cover0_B_9 c i _ harg1 _ harg2 _ harg3 _ harg4 _ harg5 _ harg6 _ harg7 _ harg8 _ harg9 _ harg10 _ harg11 _ harg12 _ harg13 hc0 x0 x1 x2 x3 x4 x5 x6 x7 s y)
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, shapeCast_self]
  rw [List.forall_mem_cons, List.forall_mem_singleton]
  exact ⟨fun z => st9_hi x2 x3 x4 x7 inb_S256x2816_S256x1408_0_1408 inb_S2816x1024_S1408x1024_1408_0 inb_S256x2816_S256x1408_0_1408 z, fun z => st9_lo x2 x3 x4 x7 inb_S256x2816_S256x1408_0_0 inb_S2816x1024_S1408x1024_0_0 inb_S256x2816_S256x1408_0_0 z⟩
theorem outB_10 (hc0 : ¬cond0_0 i) : out0_B_10 c i _ harg1 _ harg2 _ harg3 _ harg4 _ harg5 _ harg6 _ harg7 _ harg8 _ harg9 _ harg10 _ harg11 _ harg12 _ harg13 hc0 x0 x1 x2 x3 x4 x5 x6 x7 s = T10 x2 x3 x7 := by
  funext y
  unfold out0_B_10
  rw [View.read_writes_eq_canon _ _ _ (cover0_B_10 c i _ harg1 _ harg2 _ harg3 _ harg4 _ harg5 _ harg6 _ harg7 _ harg8 _ harg9 _ harg10 _ harg11 _ harg12 _ harg13 hc0 x0 x1 x2 x3 x4 x5 x6 x7 s)]
  refine View.canon_apply_of_pieces (T10 x2 x3 x7) _ ?_ y (cover0_B_10 c i _ harg1 _ harg2 _ harg3 _ harg4 _ harg5 _ harg6 _ harg7 _ harg8 _ harg9 _ harg10 _ harg11 _ harg12 _ harg13 hc0 x0 x1 x2 x3 x4 x5 x6 x7 s y)
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, shapeCast_self]
  rw [List.forall_mem_cons, List.forall_mem_singleton]
  exact ⟨fun z => st10_hi x2 x3 x7 inb_S256x2816_S256x1408_0_1408 inb_S2816x1024_S1408x1024_1408_0 inb_S256x2816_S256x1408_0_1408 z, fun z => st10_lo x2 x3 x7 inb_S256x2816_S256x1408_0_0 inb_S2816x1024_S1408x1024_0_0 inb_S256x2816_S256x1408_0_0 z⟩
theorem outB_11 (hc0 : ¬cond0_0 i) : out0_B_11 c i _ harg1 _ harg2 _ harg3 _ harg4 _ harg5 _ harg6 _ harg7 _ harg8 _ harg9 _ harg10 _ harg11 _ harg12 _ harg13 hc0 x0 x1 x2 x3 x4 x5 x6 x7 s = T11 x3 x4 := by
  funext y
  unfold out0_B_11
  rw [View.read_writes_eq_canon _ _ _ (cover0_B_11 c i _ harg1 _ harg2 _ harg3 _ harg4 _ harg5 _ harg6 _ harg7 _ harg8 _ harg9 _ harg10 _ harg11 _ harg12 _ harg13 hc0 x0 x1 x2 x3 x4 x5 x6 x7 s)]
  refine View.canon_apply_of_pieces (T11 x3 x4) _ ?_ y (cover0_B_11 c i _ harg1 _ harg2 _ harg3 _ harg4 _ harg5 _ harg6 _ harg7 _ harg8 _ harg9 _ harg10 _ harg11 _ harg12 _ harg13 hc0 x0 x1 x2 x3 x4 x5 x6 x7 s y)
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, shapeCast_self]
  rw [List.forall_mem_cons, List.forall_mem_singleton]
  exact ⟨fun z => st11_hi x3 x4 inb_S256x2816_S256x1408_0_1408 inb_S256x2816_S256x1408_0_1408 z, fun z => st11_lo x3 x4 inb_S256x2816_S256x1408_0_0 inb_S256x2816_S256x1408_0_0 z⟩
theorem outB_12 (hc0 : ¬cond0_0 i) : out0_B_12 c i _ harg1 _ harg2 _ harg3 _ harg4 _ harg5 _ harg6 _ harg7 _ harg8 _ harg9 _ harg10 _ harg11 _ harg12 _ harg13 hc0 x0 x1 x2 x3 x4 x5 x6 x7 s = T12 x0 x2 x3 x4 x5 x6 x7 s := by
  unfold out0_B_12
  rw [View.read_writes_eq_canon _ _ _ (cover0_B_12 c i _ harg1 _ harg2 _ harg3 _ harg4 _ harg5 _ harg6 _ harg7 _ harg8 _ harg9 _ harg10 _ harg11 _ harg12 _ harg13 hc0 x0 x1 x2 x3 x4 x5 x6 x7 s)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S256x1024) hz2, View.ld_unit_zero (S := S1x1024) hz2, View.canon_cons_unit_zero (S := S1x1024) hz2, View.canon_unit_zero (S := S1x1024) hz2, View.readCov_unit_zero (S := S1x1024) _ hz2, shapeCast_self]
  exact st12 x0 x2 x3 x4 x5 x6 x7 inb_S256x2816_S256x1408_0_0 inb_S256x2816_S256x1408_0_1408 inb_S2816x1024_S1408x1024_0_0 inb_S2816x1024_S1408x1024_1408_0 inb_S2816x1024_S1408x1024_0_0 inb_S2816x1024_S1408x1024_1408_0 inb_S2816x1024_S1408x1024_0_0 inb_S2816x1024_S1408x1024_1408_0 s

end outs

end Cert.Kernel4Ideal.Ffn

end
-- ==== Proof.FfnFinal.lean ====
/- The five arrays after the backward call of the FFN, entry by entry, in the arrays the call is handed. -/
module

public import proofs.«01_k».proof.Proof.FfnTile

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic Idealize.ShloMosaic.Pipeline
open Cert.Ffn

/-! ## The closed forms -/

section closed
variable (X0 : FVec Ideal S8192x1024 .f32) (X1 : FVec Ideal S1x1024 .f32) (X2 : FVec Ideal S8192x1024 .f32) (X3 X4 : FVec Ideal S8192x2816 .bf16) (X5 X6 X7 : FVec Ideal S2816x1024 .bf16)

/-- The gradients of the two products. -/
def oP (t : Fin 8192) (j : Fin 2816) : EReal := dup (dac (fun k => X2 (ix2 t k)) (fun k => X7 (ix2 j k))) (X3 (ix2 t j)) (X4 (ix2 t j))
def oQ (t : Fin 8192) (j : Fin 2816) : EReal := dga (dac (fun k => X2 (ix2 t k)) (fun k => X7 (ix2 j k))) (X3 (ix2 t j))
/-- The gradient of the normed tokens. -/
def oN (t : Fin 8192) (y : Fin 1024) : EReal :=
  dnm (oP X2 X3 X4 X7 t) (oQ X2 X3 X7 t) (fun j y => X5 (ix2 j y)) (fun j y => X6 (ix2 j y)) y
/-- What a token adds to the gradient of the norm's scale. -/
def oG (t : Fin 8192) (y : Fin 1024) : EReal := oN X2 X3 X4 X5 X6 X7 t y * (X0 (ix2 t y) * rinv (fun k => X0 (ix2 t k)))

def o8 : FVec Ideal S8192x1024 .f32 := fun z =>
  X2 (ix2 (z 0 : Fin 8192) (z 1 : Fin 1024)) + dx (oN X2 X3 X4 X5 X6 X7 (z 0)) (fun k => X0 (ix2 (z 0 : Fin 8192) k)) (fun k => X1 (ix2 0 k)) (z 1)
def o9 : FVec Ideal S8192x2816 .bf16 := fun z => oP X2 X3 X4 X7 (z 0) (z 1)
def o10 : FVec Ideal S8192x2816 .bf16 := fun z => oQ X2 X3 X7 (z 0) (z 1)
def o11 : FVec Ideal S8192x2816 .bf16 := fun z => act (X3 (ix2 (z 0 : Fin 8192) (z 1 : Fin 2816))) (X4 (ix2 (z 0 : Fin 8192) (z 1 : Fin 2816)))
def o12 : FVec Ideal S1x1024 .f32 := fun z => ∑ t : Fin 8192, oG X0 X2 X3 X4 X5 X6 X7 t (z 1)

end closed

/-! ## The blocks -/

/-- Token `x` of the block of point `t`. -/
def tok (t : Fin cfg0.N) (x : Fin 256) : Fin 8192 := ⟨256 * t.val + x.val, by have := lt_of_lt_of_eq t.isLt (show cfg0.N = 32 from N_0); omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)

variable (m : (ℓ : Loc nD τ sig) → Buf (Elt Ideal) ℓ) (c : Dev nD)

abbrev X0 : FVec Ideal S8192x1024 .f32 := V m c main_v21
abbrev X1 : FVec Ideal S1x1024 .f32 := V m c main_arg1
abbrev X2 : FVec Ideal S8192x1024 .f32 := V m c main_v22
abbrev X3 : FVec Ideal S8192x2816 .bf16 := V m c main_v17
abbrev X4 : FVec Ideal S8192x2816 .bf16 := V m c main_v20
abbrev X5 : FVec Ideal S2816x1024 .bf16 := V m c main_v25
abbrev X6 : FVec Ideal S2816x1024 .bf16 := V m c main_v28
abbrev X7 : FVec Ideal S2816x1024 .bf16 := V m c main_v30

abbrev B0 (t : Fin cfg0.N) : Vec Ideal S256x1024 .f32 := iblk m c 0 t
abbrev B1 (t : Fin cfg0.N) : Vec Ideal S1x1024 .f32 := iblk m c 1 t
abbrev B2 (t : Fin cfg0.N) : Vec Ideal S256x1024 .f32 := iblk m c 2 t
abbrev B3 (t : Fin cfg0.N) : Vec Ideal S256x2816 .bf16 := iblk m c 3 t
abbrev B4 (t : Fin cfg0.N) : Vec Ideal S256x2816 .bf16 := iblk m c 4 t
abbrev B5 (t : Fin cfg0.N) : Vec Ideal S2816x1024 .bf16 := iblk m c 5 t
abbrev B6 (t : Fin cfg0.N) : Vec Ideal S2816x1024 .bf16 := iblk m c 6 t
abbrev B7 (t : Fin cfg0.N) : Vec Ideal S2816x1024 .bf16 := iblk m c 7 t

theorem B0_at (t : Fin cfg0.N) (x : Fin 256) (k : Fin 1024) : B0 m c t (ix2 x k) = X0 m c (ix2 (tok t x) k) := by
  blk_simp [iblk]
  refine congrArg (V m c main_v21) ?_
  blk_ext [idx0 t, tok]
theorem B1_at (t : Fin cfg0.N) (k : Fin 1024) : B1 m c t (ix2 0 k) = X1 m c (ix2 0 k) := by
  blk_simp [iblk]
  refine congrArg (V m c main_arg1) ?_
  blk_ext [idx1 t]
theorem B2_at (t : Fin cfg0.N) (x : Fin 256) (k : Fin 1024) : B2 m c t (ix2 x k) = X2 m c (ix2 (tok t x) k) := by
  blk_simp [iblk]
  refine congrArg (V m c main_v22) ?_
  blk_ext [idx2 t, tok]
theorem B3_at (t : Fin cfg0.N) (x : Fin 256) (j : Fin 2816) : B3 m c t (ix2 x j) = X3 m c (ix2 (tok t x) j) := by
  blk_simp [iblk]
  refine congrArg (V m c main_v17) ?_
  blk_ext [idx3 t, tok]
theorem B4_at (t : Fin cfg0.N) (x : Fin 256) (j : Fin 2816) : B4 m c t (ix2 x j) = X4 m c (ix2 (tok t x) j) := by
  blk_simp [iblk]
  refine congrArg (V m c main_v20) ?_
  blk_ext [idx4 t, tok]
theorem B5_at (t : Fin cfg0.N) (j : Fin 2816) (k : Fin 1024) : B5 m c t (ix2 j k) = X5 m c (ix2 j k) := by
  blk_simp [iblk]
  refine congrArg (V m c main_v25) ?_
  blk_ext [idx5 t]
theorem B6_at (t : Fin cfg0.N) (j : Fin 2816) (k : Fin 1024) : B6 m c t (ix2 j k) = X6 m c (ix2 j k) := by
  blk_simp [iblk]
  refine congrArg (V m c main_v28) ?_
  blk_ext [idx6 t]
theorem B7_at (t : Fin cfg0.N) (j : Fin 2816) (k : Fin 1024) : B7 m c t (ix2 j k) = X7 m c (ix2 j k) := by
  blk_simp [iblk]
  refine congrArg (V m c main_v30) ?_
  blk_ext [idx7 t]

/-! ## One point -/

/-- An array's row of a token, of a block and of the whole. -/
theorem dac_pt (t : Fin cfg0.N) (x : Fin 256) (j : Fin 2816) :
    dac (fun k => B2 m c t (ix2 x k)) (fun k => B7 m c t (ix2 j k)) = dac (fun k => X2 m c (ix2 (tok t x) k)) (fun k => X7 m c (ix2 j k)) :=
  congrArg₂ dac (funext fun k => B2_at m c t x k) (funext fun k => B7_at m c t j k)

theorem pB_pt (t : Fin cfg0.N) (x : Fin 256) (j : Fin 2816) :
    pB (B2 m c t) (B3 m c t) (B4 m c t) (B7 m c t) x j = oP (X2 m c) (X3 m c) (X4 m c) (X7 m c) (tok t x) j := by
  unfold pB eB oP
  rw [dac_pt]
  exact congrArg₂ (dup _) (B3_at m c t x j) (B4_at m c t x j)

theorem qB_pt (t : Fin cfg0.N) (x : Fin 256) (j : Fin 2816) :
    qB (B2 m c t) (B3 m c t) (B7 m c t) x j = oQ (X2 m c) (X3 m c) (X7 m c) (tok t x) j := by
  unfold qB eB oQ
  rw [dac_pt]
  exact congrArg (dga _) (B3_at m c t x j)

theorem nB_pt (t : Fin cfg0.N) (x : Fin 256) (y : Fin 1024) :
    nB (B2 m c t) (B3 m c t) (B4 m c t) (B5 m c t) (B6 m c t) (B7 m c t) x y
      = oN (X2 m c) (X3 m c) (X4 m c) (X5 m c) (X6 m c) (X7 m c) (tok t x) y := by
  unfold nB oN
  rw [funext (pB_pt m c t x), funext (qB_pt m c t x), show (fun (j : Fin 2816) (y : Fin 1024) => B5 m c t (ix2 j y)) = fun j y => X5 m c (ix2 j y) from
    funext fun j => funext fun y => B5_at m c t j y, show (fun (j : Fin 2816) (y : Fin 1024) => B6 m c t (ix2 j y)) = fun j y => X6 m c (ix2 j y) from
    funext fun j => funext fun y => B6_at m c t j y]

theorem row_pt (t : Fin cfg0.N) (x : Fin 256) : (fun k : Fin 1024 => B0 m c t (ix2 x k)) = fun k => X0 m c (ix2 (tok t x) k) :=
  funext fun k => B0_at m c t x k

theorem dx_pt (t : Fin cfg0.N) (x : Fin 256) (y : Fin 1024) :
    dx (nB (B2 m c t) (B3 m c t) (B4 m c t) (B5 m c t) (B6 m c t) (B7 m c t) x) (fun k => B0 m c t (ix2 x k)) (fun k => B1 m c t (ix2 0 k)) y
      = dx (oN (X2 m c) (X3 m c) (X4 m c) (X5 m c) (X6 m c) (X7 m c) (tok t x)) (fun k => X0 m c (ix2 (tok t x) k)) (fun k => X1 m c (ix2 0 k)) y := by
  rw [funext (nB_pt m c t x), row_pt, show (fun k : Fin 1024 => B1 m c t (ix2 0 k)) = fun k => X1 m c (ix2 0 k) from funext (B1_at m c t)]

/-! ## What each point leaves -/

theorem outs8 (t : Fin cfg0.N) : (outsAt0 m c t.val t.isLt).1 = T8 (B0 m c t) (B1 m c t) (B2 m c t) (B3 m c t) (B4 m c t) (B5 m c t) (B6 m c t) (B7 m c t) := by
  by_cases h : t.val % 32 = 0
  · simp only [outsAt0_A m c t h]; exact outA_8 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) ((hcond0_0 t).mpr h)
  · simp only [outsAt0_B m c t h]; exact outB_8 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) _ (fun h' => h ((hcond0_0 t).mp h'))
theorem outs9 (t : Fin cfg0.N) : (outsAt0 m c t.val t.isLt).2.1 = T9 (B2 m c t) (B3 m c t) (B4 m c t) (B7 m c t) := by
  by_cases h : t.val % 32 = 0
  · simp only [outsAt0_A m c t h]; exact outA_9 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) ((hcond0_0 t).mpr h)
  · simp only [outsAt0_B m c t h]; exact outB_9 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) _ (fun h' => h ((hcond0_0 t).mp h'))
theorem outs10 (t : Fin cfg0.N) : (outsAt0 m c t.val t.isLt).2.2.1 = T10 (B2 m c t) (B3 m c t) (B7 m c t) := by
  by_cases h : t.val % 32 = 0
  · simp only [outsAt0_A m c t h]; exact outA_10 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) ((hcond0_0 t).mpr h)
  · simp only [outsAt0_B m c t h]; exact outB_10 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) _ (fun h' => h ((hcond0_0 t).mp h'))
theorem outs11 (t : Fin cfg0.N) : (outsAt0 m c t.val t.isLt).2.2.2.1 = T11 (B3 m c t) (B4 m c t) := by
  by_cases h : t.val % 32 = 0
  · simp only [outsAt0_A m c t h]; exact outA_11 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) ((hcond0_0 t).mpr h)
  · simp only [outsAt0_B m c t h]; exact outB_11 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) _ (fun h' => h ((hcond0_0 t).mp h'))

/-- What point `n` adds to the gradient of the norm's scale. -/
def add (n : ℕ) (y : Fin 1024) : EReal :=
  if h : n < cfg0.N then ∑ x : Fin 256, oG (X0 m c) (X2 m c) (X3 m c) (X4 m c) (X5 m c) (X6 m c) (X7 m c) (tok ⟨n, h⟩ x) y else 0

theorem T12_at (t : Fin cfg0.N) (s : Vec Ideal S1x1024 .f32) (y : Fin 1024) :
    T12 (B0 m c t) (B2 m c t) (B3 m c t) (B4 m c t) (B5 m c t) (B6 m c t) (B7 m c t) s (ix2 0 y) = s (ix2 0 y) + add m c t.val y := by
  unfold T12 add oG
  rw [dif_pos t.isLt]
  exact congrArg (s (ix2 0 y) + ·) (Finset.sum_congr rfl fun x _ => congrArg₂ (· * ·) (nB_pt m c t x y)
    (congrArg₂ (· * ·) (B0_at m c t x y) (congrArg rinv (row_pt m c t x))))

theorem outs12_A (t : Fin cfg0.N) (h : t.val % 32 = 0) : (outsAt0 m c t.val t.isLt).2.2.2.2 = T12 (B0 m c t) (B2 m c t) (B3 m c t) (B4 m c t) (B5 m c t) (B6 m c t) (B7 m c t) (k0_pay1 (F := Ideal)) := by
  simp only [outsAt0_A m c t h]; exact outA_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) ((hcond0_0 t).mpr h)
theorem outs12_B (t : Fin cfg0.N) (h : ¬t.val % 32 = 0) : (outsAt0 m c t.val t.isLt).2.2.2.2 = T12 (B0 m c t) (B2 m c t) (B3 m c t) (B4 m c t) (B5 m c t) (B6 m c t) (B7 m c t) (outsAt0 m c (t.val - 1) (Nat.lt_of_le_of_lt (Nat.sub_le _ _) t.isLt)).2.2.2.2 := by
  simp only [outsAt0_B m c t h]; exact outB_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (B0 m c t) (B1 m c t) (B2 m c t) (B3 m c t) (B4 m c t) (B5 m c t) (B6 m c t) (B7 m c t) _ (fun h' => h ((hcond0_0 t).mp h'))

theorem outs12 (y : Fin 1024) : ∀ (n : ℕ) (hn : n < cfg0.N), (outsAt0 m c n hn).2.2.2.2 (ix2 0 y) = ∑ i ∈ Finset.range (n + 1), add m c i y
  | 0, hn => by
    rw [Finset.sum_range_one]
    refine (congrFun (outs12_A m c ⟨0, hn⟩ (Nat.zero_mod _)) (ix2 0 y)).trans ((T12_at m c ⟨0, hn⟩ _ y).trans ?_)
    rw [pay1_at, zero_add]
  | n + 1, hn => by
    have h32 : cfg0.N = 32 := N_0
    have h : ¬(n + 1) % 32 = 0 := by omega
    rw [Finset.sum_range_succ, ← outs12 y n (by omega)]
    exact (congrFun (outs12_B m c ⟨n + 1, hn⟩ h) (ix2 0 y)).trans (T12_at m c ⟨n + 1, hn⟩ _ y)

/-- The blocks of 256 tokens make up the 8192. -/
theorem sum_add (y : Fin 1024) : ∑ i ∈ Finset.range 32, add m c i y = ∑ t : Fin 8192, oG (X0 m c) (X2 m c) (X3 m c) (X4 m c) (X5 m c) (X6 m c) (X7 m c) t y := by
  rw [Finset.sum_range, ← Fin.sum_mul_add_fin 32 256 fun t => oG (X0 m c) (X2 m c) (X3 m c) (X4 m c) (X5 m c) (X6 m c) (X7 m c) t y]
  refine Finset.sum_congr rfl fun n _ => ?_
  unfold add
  rw [dif_pos (by rw [show cfg0.N = 32 from N_0]; exact n.isLt)]
  refine Finset.sum_congr rfl fun x _ => congrArg (fun t => oG (X0 m c) (X2 m c) (X3 m c) (X4 m c) (X5 m c) (X6 m c) (X7 m c) t y) (Fin.ext ?_)
  show 256 * n.val + x.val = n.val * 256 + x.val
  omega

/-! ## The arrays -/

theorem final8 : (dats m 0 c).arrAt 8 cfg0.N = o8 (X0 m c) (X1 m c) (X2 m c) (X3 m c) (X4 m c) (X5 m c) (X6 m c) (X7 m c) := by
  refine (dats m 0 c).arrAt_eq_of_covers 8 _ (by decide +kernel) fun t hf y => ?_
  blk_simp
  rw [after0_8, outs8]
  have e : T8 (B0 m c t) (B1 m c t) (B2 m c t) (B3 m c t) (B4 m c t) (B5 m c t) (B6 m c t) (B7 m c t) y
      = o8 (X0 m c) (X1 m c) (X2 m c) (X3 m c) (X4 m c) (X5 m c) (X6 m c) (X7 m c) (ix2 (tok t (y 0)) (y 1 : Fin 1024)) := by
    exact congrArg₂ (· + ·) (B2_at m c t _ _) (dx_pt m c t (y 0) (y 1))
  refine e.trans (congrArg _ ?_)
  blk_ext [idx8 t, tok]
theorem final9 : (dats m 0 c).arrAt 9 cfg0.N = o9 (X2 m c) (X3 m c) (X4 m c) (X7 m c) := by
  refine (dats m 0 c).arrAt_eq_of_covers 9 _ (by decide +kernel) fun t hf y => ?_
  blk_simp
  rw [after0_9, outs9]
  refine (show _ = o9 (X2 m c) (X3 m c) (X4 m c) (X7 m c) (ix2 (tok t (y 0)) (y 1 : Fin 2816)) from pB_pt m c t (y 0) (y 1)).trans (congrArg _ ?_)
  blk_ext [idx9 t, tok]
theorem final10 : (dats m 0 c).arrAt 10 cfg0.N = o10 (X2 m c) (X3 m c) (X7 m c) := by
  refine (dats m 0 c).arrAt_eq_of_covers 10 _ (by decide +kernel) fun t hf y => ?_
  blk_simp
  rw [after0_10, outs10]
  refine (show _ = o10 (X2 m c) (X3 m c) (X7 m c) (ix2 (tok t (y 0)) (y 1 : Fin 2816)) from qB_pt m c t (y 0) (y 1)).trans (congrArg _ ?_)
  blk_ext [idx10 t, tok]
theorem final11 : (dats m 0 c).arrAt 11 cfg0.N = o11 (X3 m c) (X4 m c) := by
  refine (dats m 0 c).arrAt_eq_of_covers 11 _ (by decide +kernel) fun t hf y => ?_
  blk_simp
  rw [after0_11, outs11]
  refine (show _ = o11 (X3 m c) (X4 m c) (ix2 (tok t (y 0)) (y 1 : Fin 2816)) from congrArg₂ act (B3_at m c t (y 0) (y 1)) (B4_at m c t (y 0) (y 1))).trans (congrArg _ ?_)
  blk_ext [idx11 t, tok]
theorem final12 : (dats m 0 c).arrAt 12 cfg0.N = o12 (X0 m c) (X2 m c) (X3 m c) (X4 m c) (X5 m c) (X6 m c) (X7 m c) := by
  refine (dats m 0 c).arrAt_eq_of_covers 12 _ (by decide +kernel) fun t hf y => ?_
  have h31 : t.val % 32 = 31 := (flush0_12 t).mp hf
  have h32 : t.val < 32 := lt_of_lt_of_eq t.isLt N_0
  blk_simp
  rw [after0_12]
  have hy : (y : S1x1024.Idx) = ix2 0 (y 1 : Fin 1024) := by
    refine (eq_ix2 (n0 := 1) (n1 := 1024) y).trans ?_
    congr 1
    exact Subsingleton.elim (α := Fin 1) _ _
  refine (congrArg (outsAt0 m c t.val t.isLt).2.2.2.2 hy).trans ((outs12 m c (y 1) t.val t.isLt).trans ?_)
  rw [show t.val + 1 = 32 by omega, sum_add m c (y 1)]
  refine (show _ = o12 (X0 m c) (X2 m c) (X3 m c) (X4 m c) (X5 m c) (X6 m c) (X7 m c) (ix2 (0 : Fin 1) (y 1 : Fin 1024)) from rfl).trans (congrArg _ ?_)
  blk_ext [idx12 t]

end Cert.Kernel4Ideal.Ffn

end
-- ==== Proof.FfnReal.lean ====
/- The gradient through the FFN on real numbers: the kernel's forms of the activation's and the norm's gradients are the derivative's. -/
module

public import proofs.«01_k».proof.Proof.Ffn
public import proofs.«01_k».proof.Proof.Reals

@[expose] public section

set_option maxRecDepth 16384

noncomputable section

namespace Cert.Ffn

open Idealize.ShloMosaic

/-- A product of the normed token. -/
def up (h : Fin 8192 → Fin 1024 → EReal) (g : Fin 1024 → EReal) (w : Fin 1024 → Fin 2816 → EReal) (t : Fin 8192) (j : Fin 2816) : EReal :=
  ∑ k, h t k * rinv (h t) * g k * w k j

/-- The gradient of the first product, as the derivative is written. -/
def dupR (e a b : EReal) : EReal :=
  e * b * Ideal.logistic a + a * (e * b) * (Ideal.logistic a * (1 - Ideal.logistic a))

/-- The gradient of the mean square of a token, over the width. -/
def dms (n h g : Fin 1024 → EReal) : EReal :=
  Ideal.div ((∑ k, h k * (n k * g k)) * (Ideal.ofBits .f32 0xBF000000#32 * Ideal.div (rinv h) (Ideal.div (∑ k, h k * h k) width + eps))) width

/-- The gradient of the token through the norm, as the derivative is written. -/
def dxR (n h g : Fin 1024 → EReal) (y : Fin 1024) : EReal :=
  n y * g y * rinv h + h y * dms n h g + dms n h g * h y

/-- A value that is a real number. -/
def Rl (x : EReal) : Prop := ∃ r : ℝ, x = (r : EReal)

theorem Rl.mul {x y : EReal} : Rl x → Rl y → Rl (x * y)
  | ⟨a, ha⟩, ⟨b, hb⟩ => ⟨a * b, by rw [ha, hb, EReal.coe_mul]⟩
theorem Rl.add {x y : EReal} : Rl x → Rl y → Rl (x + y)
  | ⟨a, ha⟩, ⟨b, hb⟩ => ⟨a + b, by rw [ha, hb, EReal.coe_add]⟩
theorem Rl.sub {x y : EReal} : Rl x → Rl y → Rl (x - y)
  | ⟨a, ha⟩, ⟨b, hb⟩ => ⟨a - b, by rw [ha, hb, EReal.coe_sub]⟩
theorem Rl.sum {ι : Type*} [Fintype ι] {f : ι → EReal} (h : ∀ i, Rl (f i)) : Rl (∑ i, f i) := by
  choose r hr using h
  exact ⟨∑ i, r i, by rw [← Cert.Att.coe_sum]; exact Finset.sum_congr rfl fun i _ => hr i⟩
theorem Rl.one : Rl 1 := ⟨1, EReal.coe_one.symm⟩

theorem half_coe : half = ((1 / 2 : ℝ) : EReal) := by
  simp [Ideal.ofBits, Ideal.ieee, -EReal.coe_mul]; norm_num
theorem neghalf_coe : Ideal.ofBits .f32 0xBF000000#32 = ((-(1 / 2) : ℝ) : EReal) := by
  simp [Ideal.ofBits, Ideal.ieee, -EReal.coe_mul]; norm_num
theorem width_coe : width = ((1024 : ℝ) : EReal) := by
  simp [Ideal.ofBits, Ideal.ieee, -EReal.coe_mul]; norm_num
theorem eps_coe : ∃ e : ℝ, 0 < e ∧ eps = (e : EReal) := by
  refine ⟨_, ?_, by simp [Ideal.ofBits, Ideal.ieee, -EReal.coe_mul]; rfl⟩
  norm_num

theorem logistic_coe (a : ℝ) : Rl (Ideal.logistic (a : EReal)) := by
  refine ⟨1 * (1 / (1 + Real.exp (-a))), ?_⟩
  have h : (1 + Real.exp (-a)) ≠ 0 := by positivity
  show Ideal.div 1 (1 + Ideal.exp (-(a : EReal))) = _
  rw [← EReal.coe_neg, Ideal.exp_coe, ← EReal.coe_one, ← EReal.coe_add, Ideal.div_coe h, ← EReal.coe_mul]
theorem Rl.logistic {x : EReal} : Rl x → Rl (Ideal.logistic x)
  | ⟨a, ha⟩ => ha ▸ logistic_coe a

theorem Rl.dac {d w : Fin 1024 → EReal} (hd : ∀ k, Rl (d k)) (hw : ∀ k, Rl (w k)) : Rl (dac d w) :=
  Rl.sum fun k => (Rl.mul ⟨_, half_coe⟩ (hd k)).mul (hw k)
theorem Rl.dup {e a b : EReal} (he : Rl e) (ha : Rl a) (hb : Rl b) : Rl (dup e a b) :=
  ((he.mul hb).mul ha.logistic).mul (Rl.one.add (ha.mul (Rl.one.sub ha.logistic)))
theorem Rl.dga {e a : EReal} (he : Rl e) (ha : Rl a) : Rl (dga e a) := he.mul (ha.mul ha.logistic)
theorem Rl.dnm {p q : Fin 2816 → EReal} {u v : Fin 2816 → Fin 1024 → EReal} (hp : ∀ j, Rl (p j)) (hq : ∀ j, Rl (q j))
    (hu : ∀ j k, Rl (u j k)) (hv : ∀ j k, Rl (v j k)) (y : Fin 1024) : Rl (dnm p q u v y) :=
  (Rl.sum fun j => (hp j).mul (hu j y)).add (Rl.sum fun j => (hq j).mul (hv j y))

/-- The scale of a real token: the root's inverse of a positive number. -/
theorem rinv_coe (h : Fin 1024 → ℝ) : ∃ v : ℝ, 0 < v ∧ Ideal.div (∑ k, (h k : EReal) * (h k : EReal)) width + eps = (v : EReal)
    ∧ rinv (fun k => (h k : EReal)) = (((√v)⁻¹ : ℝ) : EReal) := by
  obtain ⟨e, he, hE⟩ := eps_coe
  have hs : 0 ≤ ∑ k, h k * h k := Finset.sum_nonneg fun k _ => mul_self_nonneg (h k)
  have hv : 0 < (∑ k, h k * h k) * (1 / 1024) + e := by positivity
  have hq : Ideal.div (∑ k, (h k : EReal) * (h k : EReal)) width + eps = (((∑ k, h k * h k) * (1 / 1024) + e : ℝ) : EReal) := by
    simp only [← EReal.coe_mul]
    rw [Cert.Att.coe_sum, width_coe, hE, Ideal.div_coe (by norm_num), ← EReal.coe_mul, ← EReal.coe_add]
  refine ⟨_, hv, hq, ?_⟩
  unfold rinv
  rw [hq, Ideal.rsqrt_coe, if_neg hv.le.not_gt, if_neg hv.ne']

theorem Rl.rinv {h : Fin 1024 → EReal} (hh : ∀ k, Rl (h k)) : Rl (rinv h) := by
  choose r hr using hh
  obtain ⟨v, _, _, e⟩ := rinv_coe r
  exact ⟨_, (congrArg Cert.Ffn.rinv (funext hr)).trans e⟩

theorem Rl.up {h : Fin 8192 → Fin 1024 → EReal} {g : Fin 1024 → EReal} {w : Fin 1024 → Fin 2816 → EReal} (hh : ∀ t k, Rl (h t k)) (hg : ∀ k, Rl (g k))
    (hw : ∀ k j, Rl (w k j)) (t : Fin 8192) (j : Fin 2816) : Rl (up h g w t j) :=
  Rl.sum fun k => (((hh t k).mul (Rl.rinv (hh t))).mul (hg k)).mul (hw k j)

/-- The activation's gradient in its two forms. -/
theorem dup_eq {e a b : EReal} (he : Rl e) (ha : Rl a) (hb : Rl b) : dup e a b = dupR e a b := by
  obtain ⟨s, hs⟩ := ha.logistic
  obtain ⟨e, rfl⟩ := he
  obtain ⟨a, rfl⟩ := ha
  obtain ⟨b, rfl⟩ := hb
  unfold dup dupR
  rw [hs, ← EReal.coe_one]
  simp only [← EReal.coe_mul, ← EReal.coe_sub, ← EReal.coe_add]
  exact congrArg _ (by ring)

/-- The norm's gradient in its two forms. -/
theorem dx_eq {n h g : Fin 1024 → EReal} (hn : ∀ k, Rl (n k)) (hh : ∀ k, Rl (h k)) (hg : ∀ k, Rl (g k)) (y : Fin 1024) :
    dx n h g y = dxR n h g y := by
  choose n' hn using hn
  choose h' hh using hh
  choose g' hg using hg
  obtain rfl : n = fun k => (n' k : EReal) := funext hn
  obtain rfl : h = fun k => (h' k : EReal) := funext hh
  obtain rfl : g = fun k => (g' k : EReal) := funext hg
  obtain ⟨v, hv, ev, er⟩ := rinv_coe h'
  unfold dx dxR dms
  rw [er, ev, neghalf_coe, width_coe, Ideal.div_coe hv.ne']
  simp only [← EReal.coe_mul, Cert.Att.coe_sum]
  rw [Ideal.div_coe (by norm_num), Ideal.div_coe (by norm_num)]
  simp only [← EReal.coe_mul, ← EReal.coe_sub, ← EReal.coe_add]
  refine congrArg _ ?_
  have hr : (√v)⁻¹ * (1 / v) = (√v)⁻¹ * (√v)⁻¹ * (√v)⁻¹ := by
    have : (√v)⁻¹ * (√v)⁻¹ = 1 / v := by rw [← mul_inv, Real.mul_self_sqrt hv.le, one_div]
    rw [mul_assoc, this]
  rw [hr]
  have hS : ∑ k, n' k * g' k * (h' k * (√v)⁻¹) = (∑ k, h' k * (n' k * g' k)) * (√v)⁻¹ := by
    rw [Finset.sum_mul]
    exact Finset.sum_congr rfl fun k _ => by ring
  rw [hS]
  ring

end Cert.Ffn

end
-- ==== Proof.FfnHost.lean ====
/- What the host lines hand the backward call of the FFN, entry by entry. -/
module

public import proofs.«01_k».proof.Proof.FfnFinal
public import proofs.«01_k».proof.Proof.FfnReal
public import Idealize.ShloMosaic.Lib.StableHlo.RunRead

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic Idealize.ShloMosaic.StableHlo
open Cert.Ffn

/-- The tokens' scales. -/
def kR (h : FVec Ideal S1x8192x1024 .f32) : FVec Ideal S8192x1 .f32 :=
  Host.rsqrt (addf (Host.divf (broadcastInDim S8192x1 ![0] bcast_S8192_S8192x1_0 (Host.reduceAdd (mulf (shapeCast S8192x1024 h shapeCasts_S1x8192x1024_S8192x1024) (shapeCast S8192x1024 h shapeCasts_S1x8192x1024_S8192x1024)) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))

/-- The normed tokens. -/
def kX (h : FVec Ideal S1x8192x1024 .f32) (g : FVec Ideal S1x1024 .f32) : FVec Ideal S8192x1024 .f32 :=
  mulf (mulf (shapeCast S8192x1024 h shapeCasts_S1x8192x1024_S8192x1024) (broadcastInDim S8192x1024 ![0, 1] bcast_S8192x1_S8192x1024_0_1 (kR h)))
    (broadcastInDim S8192x1024 ![0, 1] bcast_S1x1024_S8192x1024_0_1 (broadcastInDim S1x1024 ![1] bcast_S1024_S1x1024_1 (shapeCast S1024 g shapeCasts_S1x1024_S1024)))

/-- A product of the normed tokens, as stored. -/
def kA (h : FVec Ideal S1x8192x1024 .f32) (g : FVec Ideal S1x1024 .f32) (w : FVec Ideal S1x1024x2816 .f32) : FVec Ideal S8192x2816 .bf16 :=
  truncf .bf16 (Host.dotGeneral dot_S8192x1024_S1024x2816_S8192x2816_1_0_0_1_n_n none (kX h g) (shapeCast S1024x2816 w shapeCasts_S1x1024x2816_S1024x2816)) bitsLt_bf16_f32

/-- The tokens as a matrix. -/
def kT (h : FVec Ideal S1x8192x1024 .f32) : FVec Ideal S8192x1024 .f32 := shapeCast S8192x1024 h shapeCasts_S1x8192x1024_S8192x1024

/-- An up projection transposed, as stored. -/
def kW (w : FVec Ideal S1x1024x2816 .f32) : FVec Ideal S2816x1024 .bf16 :=
  truncf .bf16 (transpose S2816x1024 [1, 0] (shapeCast S1024x2816 w shapeCasts_S1x1024x2816_S1024x2816) transposes_S1024x2816_S2816x1024_1_0) bitsLt_bf16_f32

/-- The down projection, as stored. -/
def kD (w : FVec Ideal S1x2816x1024 .f32) : FVec Ideal S2816x1024 .bf16 :=
  truncf .bf16 (shapeCast S2816x1024 w shapeCasts_S1x2816x1024_S2816x1024) bitsLt_bf16_f32

theorem kR_at (h : FVec Ideal S1x8192x1024 .f32) (t : Fin 8192) : kR h (ix2 t 0) = rinv (fun k => h (ix3 0 t k)) := by
  pointwise [kR, rinv]
theorem kX_at (h : FVec Ideal S1x8192x1024 .f32) (g : FVec Ideal S1x1024 .f32) (t : Fin 8192) (k : Fin 1024) :
    kX h g (ix2 t k) = h (ix3 0 t k) * rinv (fun k => h (ix3 0 t k)) * g (ix2 0 k) := by
  rw [← kR_at]
  pointwise [kX]
theorem kA_at (h : FVec Ideal S1x8192x1024 .f32) (g : FVec Ideal S1x1024 .f32) (w : FVec Ideal S1x1024x2816 .f32) (t : Fin 8192) (j : Fin 2816) :
    kA h g w (ix2 t j) = up (fun t k => h (ix3 0 t k)) (fun k => g (ix2 0 k)) (fun k j => w (ix3 0 k j)) t j := by
  unfold up
  simp only [← kX_at]
  pointwise [kA]
theorem kT_at (h : FVec Ideal S1x8192x1024 .f32) (t : Fin 8192) (k : Fin 1024) : kT h (ix2 t k) = h (ix3 0 t k) := by
  pointwise [kT]
theorem kW_at (w : FVec Ideal S1x1024x2816 .f32) (j : Fin 2816) (k : Fin 1024) : kW w (ix2 j k) = w (ix3 0 k j) := by
  pointwise [kW]
theorem kD_at (w : FVec Ideal S1x2816x1024 .f32) (j : Fin 2816) (k : Fin 1024) : kD w (ix2 j k) = w (ix3 0 j k) := by
  pointwise [kD]

variable (m : (ℓ : Loc nD τ sig) → Buf (Elt Ideal) ℓ) (c : Dev nD)

abbrev aH : FVec Ideal S1x8192x1024 .f32 := m ((c.tc : Thread nD τ).loc main_arg0)
abbrev aG : FVec Ideal S1x1024 .f32 := m ((c.tc : Thread nD τ).loc main_arg1)
abbrev aW1 : FVec Ideal S1x1024x2816 .f32 := m ((c.tc : Thread nD τ).loc main_arg2)
abbrev aW3 : FVec Ideal S1x1024x2816 .f32 := m ((c.tc : Thread nD τ).loc main_arg3)
abbrev aW2 : FVec Ideal S1x2816x1024 .f32 := m ((c.tc : Thread nD τ).loc main_arg4)
abbrev aD : FVec Ideal S1x8192x1024 .f32 := m ((c.tc : Thread nD τ).loc main_arg5)

theorem X0_eq : X0 m c = kT (aH m c) := by
  unfold X0 V
  after_reads_simp <;> rfl
theorem X1_eq : X1 m c = aG m c := V_main_arg1 m c
theorem X2_eq : X2 m c = kT (aD m c) := by
  unfold X2 V
  after_reads_simp <;> rfl
theorem X3_eq : X3 m c = kA (aH m c) (aG m c) (aW1 m c) := by
  unfold X3 V
  after_reads_simp <;> rfl
theorem X4_eq : X4 m c = kA (aH m c) (aG m c) (aW3 m c) := by
  unfold X4 V
  after_reads_simp <;> rfl
theorem X5_eq : X5 m c = kW (aW1 m c) := by
  unfold X5 V
  after_reads_simp <;> rfl
theorem X6_eq : X6 m c = kW (aW3 m c) := by
  unfold X6 V
  after_reads_simp <;> rfl
theorem X7_eq : X7 m c = kD (aW2 m c) := by
  unfold X7 V
  after_reads_simp <;> rfl

end Cert.Kernel4Ideal.Ffn

end
-- ==== Proof.FfnRef.lean ====
/- The reference's gradient through the FFN, stage by stage and entry by entry. -/
module

public import proofs.«01_k».proof.Defs
public import proofs.«01_k».proof.Proof.FfnReal
public import proofs.«01_k».proof.Proof.Gen.Reference4Ideal.Run

@[expose] public section

set_option maxRecDepth 16384

noncomputable section

namespace Cert.Reference4Ideal.Ffn

open Cert.Reference4Ideal Cert.Reference4Ideal.Gen
open Idealize.ShloMosaic Idealize.ShloMosaic.TcCoe Idealize.ShloMosaic.Tactic
open Cert.Ffn Cert.Reference4Ideal.Value

/-- The tokens as a matrix. -/
def rT (h : FVec Ideal S1x8192x1024 .f32) : FVec Ideal S8192x1024 .f32 := shapeCast S8192x1024 h shapeCasts_S1x8192x1024_S8192x1024
/-- The mean squares, with the epsilon. -/
def rV (h : FVec Ideal S1x8192x1024 .f32) : FVec Ideal S8192x1 .f32 :=
  addf (Host.divf (broadcastInDim S8192x1 ![0] bcast_S8192_S8192x1_0 (Host.reduceAdd (mulf (rT h) (rT h)) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
/-- The scales. -/
def rR (h : FVec Ideal S1x8192x1024 .f32) : FVec Ideal S8192x1 .f32 := Host.rsqrt (rV h)
/-- The scaled tokens. -/
def rH (h : FVec Ideal S1x8192x1024 .f32) : FVec Ideal S8192x1024 .f32 :=
  mulf (rT h) (broadcastInDim S8192x1024 ![0, 1] bcast_S8192x1_S8192x1024_0_1 (rR h))
/-- The norm's scale, for each token. -/
def rG (g : FVec Ideal S1x1024 .f32) : FVec Ideal S8192x1024 .f32 :=
  broadcastInDim S8192x1024 ![0, 1] bcast_S1x1024_S8192x1024_0_1 (broadcastInDim S1x1024 ![1] bcast_S1024_S1x1024_1 (shapeCast S1024 g shapeCasts_S1x1024_S1024))
/-- A product of the normed tokens. -/
def rA (h : FVec Ideal S1x8192x1024 .f32) (g : FVec Ideal S1x1024 .f32) (w : FVec Ideal S1x1024x2816 .f32) : FVec Ideal S8192x2816 .f32 :=
  Host.dotGeneral dot_S8192x1024_S1024x2816_S8192x2816_1_0_0_1_n_n none (mulf (rH h) (rG g)) (shapeCast S1024x2816 w shapeCasts_S1x1024x2816_S1024x2816)
/-- One, everywhere. -/
def rO : FVec Ideal S8192x2816 .f32 := broadcastInDim S8192x2816 ![] bcast_S_S8192x2816 (constant S_ .f32 0x3F800000#32)
/-- The logistic function. -/
def rS (a : FVec Ideal S8192x2816 .f32) : FVec Ideal S8192x2816 .f32 := Host.divf rO (addf rO (Host.exp (Host.negf a)))
/-- The gradient of the activation. -/
def rE (d : FVec Ideal S1x8192x1024 .f32) (w : FVec Ideal S1x2816x1024 .f32) : FVec Ideal S8192x2816 .f32 :=
  Host.dotGeneral dot_S8192x1024_S2816x1024_S8192x2816_1_1_0_0_n_n none (mulf (broadcastInDim S8192x1024 ![] bcast_S_S8192x1024 (constant S_ .f32 0x3F000000#32)) (rT d)) (shapeCast S2816x1024 w shapeCasts_S1x2816x1024_S2816x1024)
/-- The gradients of the two products. -/
def rP (a b e : FVec Ideal S8192x2816 .f32) : FVec Ideal S8192x2816 .f32 :=
  addf (mulf (mulf e b) (rS a)) (mulf (mulf a (mulf e b)) (mulf (rS a) (subf rO (rS a))))
def rQ (a e : FVec Ideal S8192x2816 .f32) : FVec Ideal S8192x2816 .f32 := mulf (mulf a (rS a)) e
/-- The activation. -/
def rF (a b : FVec Ideal S8192x2816 .f32) : FVec Ideal S8192x2816 .f32 := mulf (mulf a (rS a)) b
/-- The gradient of the normed tokens. -/
def rN (p q : FVec Ideal S8192x2816 .f32) (w1 w3 : FVec Ideal S1x1024x2816 .f32) : FVec Ideal S8192x1024 .f32 :=
  addf (Host.dotGeneral dot_S8192x2816_S1024x2816_S8192x1024_1_1_0_0_n_n none q (shapeCast S1024x2816 w3 shapeCasts_S1x1024x2816_S1024x2816))
    (Host.dotGeneral dot_S8192x2816_S1024x2816_S8192x1024_1_1_0_0_n_n none p (shapeCast S1024x2816 w1 shapeCasts_S1x1024x2816_S1024x2816))
/-- The gradient of the mean squares, over the width. -/
def rM (h : FVec Ideal S1x8192x1024 .f32) (g : FVec Ideal S1x1024 .f32) (n : FVec Ideal S8192x1024 .f32) : FVec Ideal S8192x1 .f32 :=
  Host.divf (mulf (shapeCast S8192x1 (Host.reduceAdd (mulf (rT h) (mulf n (rG g))) (constant S_ .f32 0x00000000#32) reducesTo_S8192x1024_S8192_d1 h_S_) shapeCasts_S8192_S8192x1)
    (mulf (broadcastInDim S8192x1 ![] bcast_S_S8192x1 (constant S_ .f32 0xBF000000#32)) (Host.divf (rR h) (rV h)))) (broadcastInDim S8192x1 ![] bcast_S_S8192x1 (constant S_ .f32 0x44800000#32))
/-- It, for each entry of the token. -/
def rB (h : FVec Ideal S1x8192x1024 .f32) (g : FVec Ideal S1x1024 .f32) (n : FVec Ideal S8192x1024 .f32) : FVec Ideal S8192x1024 .f32 :=
  broadcastInDim S8192x1024 ![0] bcast_S8192_S8192x1024_0 (Host.reduceAdd (rM h g n) (constant S_ .f32 0x00000000#32) reducesTo_S8192x1_S8192_d1 h_S_)
/-- The gradient of the tokens. -/
def rX (h : FVec Ideal S1x8192x1024 .f32) (g : FVec Ideal S1x1024 .f32) (n : FVec Ideal S8192x1024 .f32) (d : FVec Ideal S1x8192x1024 .f32) : FVec Ideal S8192x1024 .f32 :=
  addf (rT d) (addf (addf (mulf (mulf n (rG g)) (broadcastInDim S8192x1024 ![0, 1] bcast_S8192x1_S8192x1024_0_1 (rR h))) (mulf (rT h) (rB h g n))) (mulf (rB h g n) (rT h)))
/-- The gradient of the norm's scale. -/
def rD (h : FVec Ideal S1x8192x1024 .f32) (n : FVec Ideal S8192x1024 .f32) : FVec Ideal S1x1024 .f32 :=
  broadcastInDim S1x1024 ![1] bcast_S1024_S1x1024_1 (Host.reduceAdd (shapeCast S1x1024 (Host.reduceAdd (mulf (rH h) n) (constant S_ .f32 0x00000000#32) reducesTo_S8192x1024_S1024_d0 h_S_) shapeCasts_S1024_S1x1024) (constant S_ .f32 0x00000000#32) reducesTo_S1x1024_S1024_d0 h_S_)

/-! ## Entry by entry -/

theorem rT_at (h : FVec Ideal S1x8192x1024 .f32) (t : Fin 8192) (k : Fin 1024) : rT h (ix2 t k) = h (ix3 0 t k) := by
  pointwise [rT]
theorem rV_at (h : FVec Ideal S1x8192x1024 .f32) (t : Fin 8192) :
    rV h (ix2 t 0) = Ideal.div (∑ k : Fin 1024, h (ix3 0 t k) * h (ix3 0 t k)) width + eps := by
  simp only [← rT_at]
  pointwise [rV]
theorem rR_at (h : FVec Ideal S1x8192x1024 .f32) (t : Fin 8192) : rR h (ix2 t 0) = rinv (fun k => h (ix3 0 t k)) := by
  unfold rinv
  rw [← rV_at]
  pointwise [rR]
theorem rH_at (h : FVec Ideal S1x8192x1024 .f32) (t : Fin 8192) (k : Fin 1024) :
    rH h (ix2 t k) = h (ix3 0 t k) * rinv (fun k => h (ix3 0 t k)) := by
  rw [← rR_at, ← rT_at h t k]
  pointwise [rH]
theorem rG_at (g : FVec Ideal S1x1024 .f32) (t : Fin 8192) (k : Fin 1024) : rG g (ix2 t k) = g (ix2 0 k) := by
  pointwise [rG]
theorem rA_at (h : FVec Ideal S1x8192x1024 .f32) (g : FVec Ideal S1x1024 .f32) (w : FVec Ideal S1x1024x2816 .f32) (t : Fin 8192) (j : Fin 2816) :
    rA h g w (ix2 t j) = up (fun t k => h (ix3 0 t k)) (fun k => g (ix2 0 k)) (fun k j => w (ix3 0 k j)) t j := by
  unfold up
  simp only [← rH_at, ← rG_at g t]
  pointwise [rA]
theorem rO_at (t : Fin 8192) (j : Fin 2816) : rO (ix2 t j) = 1 := by
  refine (show rO (ix2 t j) = Ideal.ofBits .f32 0x3F800000#32 by pointwise [rO]).trans ?_
  simp [Ideal.ofBits, Ideal.ieee, -EReal.coe_mul]
  norm_num
theorem rS_at (a : FVec Ideal S8192x2816 .f32) (t : Fin 8192) (j : Fin 2816) : rS a (ix2 t j) = Ideal.logistic (a (ix2 t j)) := by
  unfold Ideal.logistic
  rw [← rO_at t j]
  pointwise [rS]
theorem rE_at (d : FVec Ideal S1x8192x1024 .f32) (w : FVec Ideal S1x2816x1024 .f32) (t : Fin 8192) (j : Fin 2816) :
    rE d w (ix2 t j) = dac (fun k => d (ix3 0 t k)) (fun k => w (ix3 0 j k)) := by
  unfold dac
  simp only [← rT_at]
  pointwise [rE]
theorem rP_at (a b e : FVec Ideal S8192x2816 .f32) (t : Fin 8192) (j : Fin 2816) :
    rP a b e (ix2 t j) = dupR (e (ix2 t j)) (a (ix2 t j)) (b (ix2 t j)) := by
  unfold dupR
  rw [← rS_at, ← rO_at t j]
  pointwise [rP]
theorem rQ_at (a e : FVec Ideal S8192x2816 .f32) (t : Fin 8192) (j : Fin 2816) :
    rQ a e (ix2 t j) = dga (e (ix2 t j)) (a (ix2 t j)) := by
  unfold dga
  rw [← rS_at, mul_comm]
  pointwise [rQ]
theorem rF_at (a b : FVec Ideal S8192x2816 .f32) (t : Fin 8192) (j : Fin 2816) :
    rF a b (ix2 t j) = act (a (ix2 t j)) (b (ix2 t j)) := by
  unfold act
  rw [← rS_at]
  pointwise [rF]
theorem rN_at (p q : FVec Ideal S8192x2816 .f32) (w1 w3 : FVec Ideal S1x1024x2816 .f32) (t : Fin 8192) (k : Fin 1024) :
    rN p q w1 w3 (ix2 t k) = dnm (fun j => p (ix2 t j)) (fun j => q (ix2 t j)) (fun j k => w1 (ix3 0 k j)) (fun j k => w3 (ix3 0 k j)) k := by
  unfold dnm
  rw [add_comm]
  pointwise [rN]
theorem rM_at (h : FVec Ideal S1x8192x1024 .f32) (g : FVec Ideal S1x1024 .f32) (n : FVec Ideal S8192x1024 .f32) (t : Fin 8192) :
    rM h g n (ix2 t 0) = dms (fun k => n (ix2 t k)) (fun k => h (ix3 0 t k)) (fun k => g (ix2 0 k)) := by
  unfold dms
  rw [← rV_at, ← rR_at]
  simp only [← rT_at, ← rG_at g t]
  pointwise [rM]
theorem rB_at (h : FVec Ideal S1x8192x1024 .f32) (g : FVec Ideal S1x1024 .f32) (n : FVec Ideal S8192x1024 .f32) (t : Fin 8192) (k : Fin 1024) :
    rB h g n (ix2 t k) = dms (fun k => n (ix2 t k)) (fun k => h (ix3 0 t k)) (fun k => g (ix2 0 k)) := by
  rw [← rM_at]
  refine Eq.trans ?_ (Fin.sum_univ_one fun x : Fin 1 => rM h g n (ix2 t x))
  pointwise [rB]
theorem rX_at (h : FVec Ideal S1x8192x1024 .f32) (g : FVec Ideal S1x1024 .f32) (n : FVec Ideal S8192x1024 .f32) (d : FVec Ideal S1x8192x1024 .f32) (t : Fin 8192) (k : Fin 1024) :
    rX h g n d (ix2 t k) = d (ix3 0 t k) + dxR (fun k => n (ix2 t k)) (fun k => h (ix3 0 t k)) (fun k => g (ix2 0 k)) k := by
  unfold dxR
  rw [← rR_at, ← rB_at h g n t k]
  dsimp only
  rw [← rT_at h t k, ← rT_at d t k, ← rG_at g t]
  pointwise [rX]
theorem rD_at (h : FVec Ideal S1x8192x1024 .f32) (n : FVec Ideal S8192x1024 .f32) (k : Fin 1024) :
    rD h n (ix2 0 k) = ∑ t : Fin 8192, n (ix2 t k) * (h (ix3 0 t k) * rinv (fun k => h (ix3 0 t k))) := by
  simp only [← rH_at]
  refine Eq.trans ?_ (Finset.sum_congr rfl fun t _ => mul_comm (rH h (ix2 t k)) (n (ix2 t k)))
  refine Eq.trans ?_ (Fin.sum_univ_one fun _ : Fin 1 => ∑ t : Fin 8192, rH h (ix2 t k) * n (ix2 t k))
  pointwise [rD]

/-! ## The results -/

variable (m : (ℓ : Loc nD τ sig) → Buf (Elt Ideal) ℓ) (c : Dev nD)

abbrev aH : FVec Ideal S1x8192x1024 .f32 := m ((c.tc : Thread nD τ).loc main_arg0)
abbrev aG : FVec Ideal S1x1024 .f32 := m ((c.tc : Thread nD τ).loc main_arg1)
abbrev aW1 : FVec Ideal S1x1024x2816 .f32 := m ((c.tc : Thread nD τ).loc main_arg2)
abbrev aW3 : FVec Ideal S1x1024x2816 .f32 := m ((c.tc : Thread nD τ).loc main_arg3)
abbrev aW2 : FVec Ideal S1x2816x1024 .f32 := m ((c.tc : Thread nD τ).loc main_arg4)
abbrev aD : FVec Ideal S1x8192x1024 .f32 := m ((c.tc : Thread nD τ).loc main_arg5)

section args
variable (h : FVec Ideal S1x8192x1024 .f32) (g : FVec Ideal S1x1024 .f32) (w1 w3 : FVec Ideal S1x1024x2816 .f32) (w2 : FVec Ideal S1x2816x1024 .f32) (d : FVec Ideal S1x8192x1024 .f32)
/-- The gradients of the two products, of the normed tokens, in the arguments. -/
def gP : FVec Ideal S8192x2816 .f32 := rP (rA h g w1) (rA h g w3) (rE d w2)
def gQ : FVec Ideal S8192x2816 .f32 := rQ (rA h g w1) (rE d w2)
def gN : FVec Ideal S8192x1024 .f32 := rN (gP h g w1 w3 w2 d) (gQ h g w1 w2 d) w1 w3
end args

theorem res0 : res_main_v59 m c = rX (aH m c) (aG m c) (gN (aH m c) (aG m c) (aW1 m c) (aW3 m c) (aW2 m c) (aD m c)) (aD m c) := by
  unfold res_main_v59
  rfl
theorem res1 : res_main_v60 m c = truncf .bf16 (gP (aH m c) (aG m c) (aW1 m c) (aW3 m c) (aW2 m c) (aD m c)) bitsLt_bf16_f32 := by
  unfold res_main_v60
  rfl
theorem res4 : res_main_v63 m c = rD (aH m c) (gN (aH m c) (aG m c) (aW1 m c) (aW3 m c) (aW2 m c) (aD m c)) := by
  unfold res_main_v63
  rfl

variable (ρ : Dev nD → PrngReg)

/-- The reference's run, read at its results and its arguments. -/
theorem run_value : θ_run defs (onTc (τ := τ) (main (F := Ideal))) ⟨m, fun _ => 0, ρ⟩ fun r => ∀ c : Dev nD,
      r.2.mem ((c.tc : Thread nD τ).loc main_v59) = rX (aH m c) (aG m c) (gN (aH m c) (aG m c) (aW1 m c) (aW3 m c) (aW2 m c) (aD m c)) (aD m c)
      ∧ r.2.mem ((c.tc : Thread nD τ).loc main_v60) = truncf .bf16 (gP (aH m c) (aG m c) (aW1 m c) (aW3 m c) (aW2 m c) (aD m c)) bitsLt_bf16_f32
      ∧ r.2.mem ((c.tc : Thread nD τ).loc main_v61) = truncf .bf16 (gQ (aH m c) (aG m c) (aW1 m c) (aW2 m c) (aD m c)) bitsLt_bf16_f32
      ∧ r.2.mem ((c.tc : Thread nD τ).loc main_v62) = truncf .bf16 (rF (rA (aH m c) (aG m c) (aW1 m c)) (rA (aH m c) (aG m c) (aW3 m c))) bitsLt_bf16_f32
      ∧ r.2.mem ((c.tc : Thread nD τ).loc main_v63) = rD (aH m c) (gN (aH m c) (aG m c) (aW1 m c) (aW3 m c) (aW2 m c) (aD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (res0 m c), (h c).2.1.trans (res1 m c), (h c).2.2.1.trans rfl, (h c).2.2.2.1.trans rfl,
    (h c).2.2.2.2.1.trans (res4 m c), (h c).2.2.2.2.2⟩) (Cert.Reference4Ideal.Value.run (F := Ideal) m ρ)

end Cert.Reference4Ideal.Ffn

end
-- ==== Proof.FfnFinite.lean ====
/- The precondition of the FFN's backward call: six arrays whose every element is a real number. -/
module

public import proofs.«01_k».proof.Proof.Finite
public import proofs.«01_k».proof.Proof.Gen.Pre_finite_arguments4

@[expose] public section

set_option maxRecDepth 16384

noncomputable section

namespace Cert.Pre_finite_arguments4.Read

open Cert.Pre_finite_arguments4 Cert.Pre_finite_arguments4.Facts Idealize.ShloMosaic
open Cert.Pre_finite_arguments.Read (IsReal ofBits_top real_of_cmp)

variable [Cert.Pre_finite_arguments4.Facts]

instance : Subsingleton S_.Idx := ⟨fun a b => funext fun i => i.elim0⟩

theorem readT (a : FVec Ideal S1x8192x1024 .f32) (j : S_.Idx)
    (h : Host.reduce IntOp.andi (cmpf .olt (Host.absf a) (broadcastInDim S1x8192x1024 ![] bcast_S_S1x8192x1024 (constant (F := Ideal) S_ .f32 0x7F800000#32)))
      (constantI S_ 1 1#1) reducesTo_S1x8192x1024_S_d0_1_2 h_S_ j = 1#1) : IsReal a := fun y =>
  real_of_cmp (a y) (ofBits_top ▸ Host.reduce_andi_all _ _ _ _ j h y)

theorem readG (a : FVec Ideal S1x1024 .f32) (j : S_.Idx)
    (h : Host.reduce IntOp.andi (cmpf .olt (Host.absf a) (broadcastInDim S1x1024 ![] bcast_S_S1x1024 (constant (F := Ideal) S_ .f32 0x7F800000#32)))
      (constantI S_ 1 1#1) reducesTo_S1x1024_S_d0_1 h_S_ j = 1#1) : IsReal a := fun y =>
  real_of_cmp (a y) (ofBits_top ▸ Host.reduce_andi_all _ _ _ _ j h y)

theorem readU (a : FVec Ideal S1x1024x2816 .f32) (j : S_.Idx)
    (h : Host.reduce IntOp.andi (cmpf .olt (Host.absf a) (broadcastInDim S1x1024x2816 ![] bcast_S_S1x1024x2816 (constant (F := Ideal) S_ .f32 0x7F800000#32)))
      (constantI S_ 1 1#1) reducesTo_S1x1024x2816_S_d0_1_2 h_S_ j = 1#1) : IsReal a := fun y =>
  real_of_cmp (a y) (ofBits_top ▸ Host.reduce_andi_all _ _ _ _ j h y)

theorem readD (a : FVec Ideal S1x2816x1024 .f32) (j : S_.Idx)
    (h : Host.reduce IntOp.andi (cmpf .olt (Host.absf a) (broadcastInDim S1x2816x1024 ![] bcast_S_S1x2816x1024 (constant (F := Ideal) S_ .f32 0x7F800000#32)))
      (constantI S_ 1 1#1) reducesTo_S1x2816x1024_S_d0_1_2 h_S_ j = 1#1) : IsReal a := fun y =>
  real_of_cmp (a y) (ofBits_top ▸ Host.reduce_andi_all _ _ _ _ j h y)

theorem real_all (h : FVec Ideal S1x8192x1024 .f32) (g : FVec Ideal S1x1024 .f32) (w1 w3 : FVec Ideal S1x1024x2816 .f32) (w2 : FVec Ideal S1x2816x1024 .f32)
    (d : FVec Ideal S1x8192x1024 .f32) (e : fn (F := Ideal) h g w1 w3 w2 d = fun _ => 1#1) :
    IsReal h ∧ IsReal g ∧ IsReal w1 ∧ IsReal w3 ∧ IsReal w2 ∧ IsReal d := by
  have h0 := congrFun e (fun i => i.elim0)
  unfold fn fn_part1 at h0
  dsimp only at h0
  obtain ⟨h1, hd⟩ := IntOp.andi_eq_one.1 h0
  obtain ⟨h2, hw2⟩ := IntOp.andi_eq_one.1 h1
  obtain ⟨h3, hw3⟩ := IntOp.andi_eq_one.1 h2
  obtain ⟨h4, hw1⟩ := IntOp.andi_eq_one.1 h3
  obtain ⟨hh, hg⟩ := IntOp.andi_eq_one.1 h4
  exact ⟨readT h _ hh, readG g _ hg, readU w1 _ hw1, readU w3 _ hw3, readD w2 _ hw2, readT d _ hd⟩

end Cert.Pre_finite_arguments4.Read

end
-- ==== Proof.FfnValue.lean ====
/- The FFN's backward call: on real arguments its five results are the reference's. -/
module

public import proofs.«01_k».proof.Defs
public import proofs.«01_k».proof.Proof.FfnHost
public import proofs.«01_k».proof.Proof.FfnRef
public import proofs.«01_k».proof.Proof.FfnFinite

@[expose] public section

set_option maxRecDepth 16384

noncomputable section

namespace Cert.Kernel4Ideal.Ffn

open Cert.Kernel4Ideal Cert.Kernel4Ideal.Gen Cert.Kernel4Ideal.Value
open Idealize.ShloMosaic Idealize.ShloMosaic.TcCoe Idealize.ShloMosaic.Tactic
open Cert.Ffn
open Cert.Reference4Ideal.Ffn (rA rE rF rP rQ rN rX rD gP gQ gN rA_at rE_at rF_at rP_at rQ_at rN_at rX_at rD_at)
open Cert.Pre_finite_arguments.Read (IsReal)

section same
variable (h : FVec Ideal S1x8192x1024 .f32) (g : FVec Ideal S1x1024 .f32) (w1 w3 : FVec Ideal S1x1024x2816 .f32) (w2 : FVec Ideal S1x2816x1024 .f32) (d : FVec Ideal S1x8192x1024 .f32)

/-- The two forward products are the reference's. -/
theorem up_same (w : FVec Ideal S1x1024x2816 .f32) (t : Fin 8192) (j : Fin 2816) : kA h g w (ix2 t j) = rA h g w (ix2 t j) :=
  (kA_at h g w t j).trans (rA_at h g w t j).symm

/-- So is the gradient of the activation. -/
theorem dac_same (t : Fin 8192) (j : Fin 2816) : dac (fun k => kT d (ix2 t k)) (fun k => kD w2 (ix2 j k)) = rE d w2 (ix2 t j) := by
  rw [rE_at]
  simp only [kT_at, kD_at]

theorem q_same (t : Fin 8192) (j : Fin 2816) : oQ (kT d) (kA h g w1) (kD w2) t j = gQ h g w1 w2 d (ix2 t j) := by
  unfold oQ gQ
  rw [rQ_at, dac_same, up_same]

theorem f_same (t : Fin 8192) (j : Fin 2816) : act (kA h g w1 (ix2 t j)) (kA h g w3 (ix2 t j)) = rF (rA h g w1) (rA h g w3) (ix2 t j) := by
  rw [rF_at, up_same, up_same]

variable (fh : IsReal h) (fg : IsReal g) (f1 : IsReal w1) (f3 : IsReal w3) (f2 : IsReal w2) (fd : IsReal d)

theorem rl {S : Shape} {φ : FTy} {a : FVec Ideal S φ} (f : IsReal a) (y : S.Idx) : Rl (a y) := ⟨_, (f y).symm⟩

include fh fg in
/-- The forward products of real arrays are real, and the gradient of the activation. -/
theorem rl_up {w : FVec Ideal S1x1024x2816 .f32} (fw : IsReal w) (t : Fin 8192) (j : Fin 2816) : Rl (rA h g w (ix2 t j)) := by
  rw [rA_at]
  exact Rl.up (fun t k => rl fh _) (fun k => rl fg _) (fun k j => rl fw _) t j

include f2 fd in
theorem rl_dac (t : Fin 8192) (j : Fin 2816) : Rl (rE d w2 (ix2 t j)) := by
  rw [rE_at]
  exact Rl.dac (fun k => rl fd _) (fun k => rl f2 _)

include fh fg f1 f3 f2 fd in
theorem p_same (t : Fin 8192) (j : Fin 2816) : oP (kT d) (kA h g w1) (kA h g w3) (kD w2) t j = gP h g w1 w3 w2 d (ix2 t j) := by
  unfold oP gP
  rw [rP_at, dac_same, up_same, up_same]
  exact dup_eq (rl_dac w2 d f2 fd t j) (rl_up h g fh fg f1 t j) (rl_up h g fh fg f3 t j)

include fh fg f1 f3 f2 fd in
theorem n_same (t : Fin 8192) (k : Fin 1024) :
    oN (kT d) (kA h g w1) (kA h g w3) (kW w1) (kW w3) (kD w2) t k = gN h g w1 w3 w2 d (ix2 t k) := by
  unfold oN gN
  rw [rN_at]
  simp only [kW_at]
  exact congrArg₂ (fun p q => dnm p q (fun j k => w1 (ix3 0 k j)) (fun j k => w3 (ix3 0 k j)) k)
    (funext fun j => p_same h g w1 w3 w2 d fh fg f1 f3 f2 fd t j) (funext fun j => q_same h g w1 w2 d t j)

include fh fg f1 f3 f2 fd in
/-- The gradient of the normed tokens is real. -/
theorem rl_n (t : Fin 8192) (k : Fin 1024) : Rl (gN h g w1 w3 w2 d (ix2 t k)) := by
  rw [← n_same h g w1 w3 w2 d fh fg f1 f3 f2 fd]
  unfold oN
  refine Rl.dnm (fun j => ?_) (fun j => ?_) (fun j k => ?_) (fun j k => ?_) k
  · unfold oP
    rw [dac_same, up_same, up_same]
    exact Rl.dup (rl_dac w2 d f2 fd t j) (rl_up h g fh fg f1 t j) (rl_up h g fh fg f3 t j)
  · unfold oQ
    rw [dac_same, up_same]
    exact Rl.dga (rl_dac w2 d f2 fd t j) (rl_up h g fh fg f1 t j)
  · rw [kW_at]
    exact rl f1 _
  · rw [kW_at]
    exact rl f3 _

include fh fg f1 f3 f2 fd in
theorem same8 : o8 (kT h) g (kT d) (kA h g w1) (kA h g w3) (kW w1) (kW w3) (kD w2) = rX h g (gN h g w1 w3 w2 d) d := by
  funext z
  obtain ⟨t, k, rfl⟩ : ∃ (t : Fin 8192) (k : Fin 1024), z = ix2 t k := ⟨z 0, z 1, eq_ix2 (n0 := 8192) (n1 := 1024) z⟩
  show kT d (ix2 t k) + dx (oN (kT d) (kA h g w1) (kA h g w3) (kW w1) (kW w3) (kD w2) t) (fun k => kT h (ix2 t k)) (fun k => g (ix2 0 k)) k = _
  rw [rX_at, ← dx_eq (fun k => rl_n h g w1 w3 w2 d fh fg f1 f3 f2 fd t k) (fun k => rl fh _) (fun k => rl fg _) k, kT_at]
  simp only [kT_at]
  rw [funext (n_same h g w1 w3 w2 d fh fg f1 f3 f2 fd t)]

include fh fg f1 f3 f2 fd in
theorem same9 : o9 (kT d) (kA h g w1) (kA h g w3) (kD w2) = gP h g w1 w3 w2 d := by
  funext z
  obtain ⟨t, j, rfl⟩ : ∃ (t : Fin 8192) (j : Fin 2816), z = ix2 t j := ⟨z 0, z 1, eq_ix2 (n0 := 8192) (n1 := 2816) z⟩
  exact p_same h g w1 w3 w2 d fh fg f1 f3 f2 fd t j

theorem same10 : o10 (kT d) (kA h g w1) (kD w2) = gQ h g w1 w2 d := by
  funext z
  obtain ⟨t, j, rfl⟩ : ∃ (t : Fin 8192) (j : Fin 2816), z = ix2 t j := ⟨z 0, z 1, eq_ix2 (n0 := 8192) (n1 := 2816) z⟩
  exact q_same h g w1 w2 d t j

theorem same11 : o11 (kA h g w1) (kA h g w3) = rF (rA h g w1) (rA h g w3) := by
  funext z
  obtain ⟨t, j, rfl⟩ : ∃ (t : Fin 8192) (j : Fin 2816), z = ix2 t j := ⟨z 0, z 1, eq_ix2 (n0 := 8192) (n1 := 2816) z⟩
  exact f_same h g w1 w3 t j

include fh fg f1 f3 f2 fd in
theorem same12 : o12 (kT h) (kT d) (kA h g w1) (kA h g w3) (kW w1) (kW w3) (kD w2) = rD h (gN h g w1 w3 w2 d) := by
  funext z
  obtain ⟨k, rfl⟩ : ∃ k : Fin 1024, z = ix2 0 k := ⟨z 1, (eq_ix2 (n0 := 1) (n1 := 1024) z).trans (congrArg (fun i : Fin 1 => ix2 i (z 1 : Fin 1024)) (Subsingleton.elim _ _))⟩
  show (∑ t : Fin 8192, oG (kT h) (kT d) (kA h g w1) (kA h g w3) (kW w1) (kW w3) (kD w2) t k) = _
  rw [rD_at]
  refine Finset.sum_congr rfl fun t _ => ?_
  unfold oG
  rw [n_same h g w1 w3 w2 d fh fg f1 f3 f2 fd, kT_at]
  simp only [kT_at]
end same

variable (m : (ℓ : Loc nD τ sig) → Buf (Elt Ideal) ℓ)

/-- What the call leaves, in the program's arguments. -/
theorem call8 (c : Dev nD) : (dats m 0 c).arrAt 8 cfg0.N = o8 (kT (aH m c)) (aG m c) (kT (aD m c)) (kA (aH m c) (aG m c) (aW1 m c)) (kA (aH m c) (aG m c) (aW3 m c)) (kW (aW1 m c)) (kW (aW3 m c)) (kD (aW2 m c)) := by
  rw [final8, X0_eq, X1_eq, X2_eq, X3_eq, X4_eq, X5_eq, X6_eq, X7_eq]
theorem call9 (c : Dev nD) : (dats m 0 c).arrAt 9 cfg0.N = o9 (kT (aD m c)) (kA (aH m c) (aG m c) (aW1 m c)) (kA (aH m c) (aG m c) (aW3 m c)) (kD (aW2 m c)) := by
  rw [final9, X2_eq, X3_eq, X4_eq, X7_eq]
theorem call10 (c : Dev nD) : (dats m 0 c).arrAt 10 cfg0.N = o10 (kT (aD m c)) (kA (aH m c) (aG m c) (aW1 m c)) (kD (aW2 m c)) := by
  rw [final10, X2_eq, X3_eq, X7_eq]
theorem call11 (c : Dev nD) : (dats m 0 c).arrAt 11 cfg0.N = o11 (kA (aH m c) (aG m c) (aW1 m c)) (kA (aH m c) (aG m c) (aW3 m c)) := by
  rw [final11, X3_eq, X4_eq]
theorem call12 (c : Dev nD) : (dats m 0 c).arrAt 12 cfg0.N = o12 (kT (aH m c)) (kT (aD m c)) (kA (aH m c) (aG m c) (aW1 m c)) (kA (aH m c) (aG m c) (aW3 m c)) (kW (aW1 m c)) (kW (aW3 m c)) (kD (aW2 m c)) := by
  rw [final12, X0_eq, X2_eq, X3_eq, X4_eq, X5_eq, X6_eq, X7_eq]

/-- On real arguments the call's five results are the reference's. -/
theorem value : Cert.algebraic_Kernel4Ideal_Reference4Ideal_pre_finite_arguments4
    (hPre_finite_arguments4 := Cert.Pre_finite_arguments4.Gen.facts) := by
  intro m ρ m' ρ' hpre hagree
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, run_blocks m ρ,
    (θ_run Cert.Reference4Ideal.defs _ _).mono (fun r h c => ?_) (Cert.Reference4Ideal.Ffn.run_value m' ρ')⟩
  obtain ⟨h0, h1, h2, h3, h4, ha⟩ := h c
  obtain ⟨e0, e1, e2, e3, e4, e5⟩ := hagree c
  obtain ⟨fh, fg, f1, f3, f2, fd⟩ := Cert.Pre_finite_arguments4.Read.real_all _ _ _ _ _ _ (hpre c)
  have a0 : Cert.Reference4Ideal.Ffn.aH m' c = aH m c := e0
  have a1 : Cert.Reference4Ideal.Ffn.aG m' c = aG m c := e1
  have a2 : Cert.Reference4Ideal.Ffn.aW1 m' c = aW1 m c := e2
  have a3 : Cert.Reference4Ideal.Ffn.aW3 m' c = aW3 m c := e3
  have a4 : Cert.Reference4Ideal.Ffn.aW2 m' c = aW2 m c := e4
  have a5 : Cert.Reference4Ideal.Ffn.aD m' c = aD m c := e5
  rw [a0, a1, a2, a3, a4, a5] at h0 h1 h4
  rw [a0, a1, a2, a4, a5] at h2
  rw [a0, a1, a2, a3] at h3
  exact ⟨h0.trans ((same8 _ _ _ _ _ _ fh fg f1 f3 f2 fd).symm.trans (call8 m c).symm),
    h1.trans ((same9 _ _ _ _ _ _ fh fg f1 f3 f2 fd).symm.trans (call9 m c).symm),
    h2.trans ((same10 _ _ _ _ _).symm.trans (call10 m c).symm),
    h3.trans ((same11 _ _ _ _).symm.trans (call11 m c).symm),
    h4.trans ((same12 _ _ _ _ _ _ fh fg f1 f3 f2 fd).symm.trans (call12 m c).symm), ha⟩

end Cert.Kernel4Ideal.Ffn

end
-- ==== Proof.FwdTile.lean ====
/- The FFN's forward call: one block of tokens, and the four arrays it leaves, entry by entry. -/
module

public import proofs.«01_k».proof.Proof.FfnReal
public import proofs.«01_k».proof.Proof.FfnTile
public import proofs.«01_k».proof.Proof.Gen.Kernel5Ideal.Value

@[expose] public section

set_option maxRecDepth 16384

noncomputable section

namespace Cert.Ffn

open Idealize.ShloMosaic

/-- A normed token. -/
def nrm (h g : Fin 1024 → EReal) (k : Fin 1024) : EReal := h k * rinv h * g k
/-- A row of an up projection against a normed token. -/
def prd (n w : Fin 1024 → EReal) : EReal := ∑ k, n k * w k
/-- The output: the token, and half of the down projection of the activation. -/
def fout (x : EReal) (a b u : Fin 2816 → EReal) : EReal := x + half * ∑ j, act (a j) (b j) * u j

theorem half_mul_add (x y : EReal) : half * (x + y) = half * x + half * y := by
  rw [half_coe]
  exact EReal.left_distrib_of_nonneg_of_ne_top (by exact_mod_cast (by norm_num : (0 : ℝ) ≤ 1 / 2)) (EReal.coe_ne_top _) x y

theorem fout_cols (x : EReal) (a b u : Fin 2816 → EReal) : fout x a b u
    = x + half * (∑ y, act (a (col 0 (by decide) y)) (b (col 0 (by decide) y)) * u (col 0 (by decide) y))
      + half * ∑ y, act (a (col 1408 (by decide) y)) (b (col 1408 (by decide) y)) * u (col 1408 (by decide) y) := by
  unfold fout
  rw [sum_cols fun j => act (a j) (b j) * u j, half_mul_add, add_assoc]

end Cert.Ffn

namespace Cert.Kernel5Ideal.Fwd

open Cert.Kernel5Ideal Cert.Kernel5Ideal.Gen Cert.Kernel5Ideal.Value
open Idealize.ShloMosaic Idealize.ShloMosaic.TcCoe Idealize.ShloMosaic.Tactic Idealize.ShloMosaic.Pipeline
open Cert.Ffn
open Cert.Kernel4Ideal.Ffn (rB rB_at chunk hz2)

/-! ## The stores at an index -/

theorem pay7_at (h : Vec Ideal S256x1024 .f32) (g : Vec Ideal S1x1024 .f32) (x : Fin 256) (k : Fin 1024) :
    k0_pay7 h g (ix2 x k) = nrm (fun k => h (ix2 x k)) (fun k => g (ix2 0 k)) k := by
  pointwise [k0_pay7, k0_pay6, nrm, rinv]
theorem pay1_at (n : FVec Ideal S256x1024 .bf16) (w : Vec Ideal S1408x1024 .bf16) (x : Fin 256) (y : Fin 1408) :
    k0_pay1 n w (ix2 x y) = prd (fun k => n (ix2 x k)) (fun k => w (ix2 y k)) := by
  pointwise [k0_pay1, prd]
theorem pay2_eq (n : FVec Ideal S256x1024 .bf16) (w : Vec Ideal S1408x1024 .bf16) : k0_pay2 n w = k0_pay1 n w := rfl
theorem pay8_eq (h : Vec Ideal S256x1024 .f32) (g : Vec Ideal S1x1024 .f32) (w : Vec Ideal S1408x1024 .bf16) : k0_pay8 h g w = k0_pay1 (k0_pay7 h g) w := rfl
theorem pay9_eq (h : Vec Ideal S256x1024 .f32) (g : Vec Ideal S1x1024 .f32) (w : Vec Ideal S1408x1024 .bf16) : k0_pay9 h g w = k0_pay1 (k0_pay7 h g) w := rfl
theorem pay3_at (n : FVec Ideal S256x1024 .bf16) (w : Vec Ideal S1408x1024 .bf16) (x : Fin 256) (y : Fin 1408) :
    k0_pay3 n w (ix2 x y) = prd (fun k => n (ix2 x k)) (fun k => w (ix2 y k)) := by
  rw [← pay1_at]
  pointwise [k0_pay3]
/-- The second product, and both in the first half of the columns, are the same operations. -/
theorem pay4_eq (n : FVec Ideal S256x1024 .bf16) (w : Vec Ideal S1408x1024 .bf16) : k0_pay4 n w = k0_pay3 n w := rfl
theorem pay10_eq (h : Vec Ideal S256x1024 .f32) (g : Vec Ideal S1x1024 .f32) (w : Vec Ideal S1408x1024 .bf16) : k0_pay10 h g w = k0_pay3 (k0_pay7 h g) w := rfl
theorem pay11_eq (h : Vec Ideal S256x1024 .f32) (g : Vec Ideal S1x1024 .f32) (w : Vec Ideal S1408x1024 .bf16) : k0_pay11 h g w = k0_pay3 (k0_pay7 h g) w := rfl
theorem pay12_at (h : Vec Ideal S256x1024 .f32) (g : Vec Ideal S1x1024 .f32) (u v w : Vec Ideal S1408x1024 .bf16) (x : Fin 256) (y : Fin 1024) :
    k0_pay12 h g u v w (ix2 x y) = ∑ j : Fin 1408, act (k0_pay1 (k0_pay7 h g) u (ix2 x j)) (k0_pay1 (k0_pay7 h g) v (ix2 x j)) * w (ix2 j y) := by
  rw [← pay8_eq, ← pay9_eq]
  pointwise [k0_pay12, act]
theorem pay5_at (h : Vec Ideal S256x1024 .f32) (n : FVec Ideal S256x1024 .bf16) (e : FVec Ideal S256x1024 .f32) (u v w : Vec Ideal S1408x1024 .bf16) (x : Fin 256) (y : Fin 1024) :
    k0_pay5 (k0_pay6 h) n e u v w (ix2 x y)
      = h (ix2 x y) + half * e (ix2 x y) + half * ∑ j : Fin 1408, act (k0_pay1 n u (ix2 x j)) (k0_pay1 n v (ix2 x j)) * w (ix2 j y) := by
  rw [← pay2_eq n v]
  pointwise [k0_pay5, k0_pay6, act]

section block
variable (x0 : Vec Ideal S256x1024 .f32) (x1 : Vec Ideal S1x1024 .f32) (x2 x3 x4 : Vec Ideal S2816x1024 .bf16)

/-- The normed tokens of the block, and their product with an up projection. -/
def nB (x : Fin 256) (k : Fin 1024) : EReal := nrm (fun k => x0 (ix2 x k)) (fun k => x1 (ix2 0 k)) k
def aB (u : Vec Ideal S2816x1024 .bf16) (x : Fin 256) (j : Fin 2816) : EReal := prd (nB x0 x1 x) (fun k => u (ix2 j k))

/-- What the body leaves in each output. -/
def T5 : Vec Ideal S256x1024 .f32 := fun z =>
  fout (x0 (ix2 (z 0 : Fin 256) (z 1 : Fin 1024))) (aB x0 x1 x2 (z 0)) (aB x0 x1 x3 (z 0)) (fun j => x4 (ix2 j (z 1 : Fin 1024)))
def T6 (u : Vec Ideal S2816x1024 .bf16) : Vec Ideal S256x2816 .bf16 := fun z => aB x0 x1 u (z 0) (z 1)
def T8 : Vec Ideal S256x1024 .bf16 := fun z => nB x0 x1 (z 0) (z 1)

theorem a_cols {o : ℕ} (ho : o + 1408 ≤ 2816) (inb) (u : Vec Ideal S2816x1024 .bf16) (x : Fin 256) (y : Fin 1408) :
    prd (fun k => k0_pay7 x0 x1 (ix2 x k)) (fun k => rB o inb u (ix2 y k)) = aB x0 x1 u x (col o ho y) :=
  congrArg₂ prd (funext fun k => pay7_at x0 x1 x k) (funext fun k => rB_at ho inb u y k)

theorem act_cols {o : ℕ} (ho : o + 1408 ≤ 2816) (i j k) (x : Fin 256) (y : Fin 1024) :
    (∑ c : Fin 1408, act (k0_pay1 (k0_pay7 x0 x1) (rB o i x2) (ix2 x c)) (k0_pay1 (k0_pay7 x0 x1) (rB o j x3) (ix2 x c)) * rB o k x4 (ix2 c y))
      = ∑ c : Fin 1408, act (aB x0 x1 x2 x (col o ho c)) (aB x0 x1 x3 x (col o ho c)) * x4 (ix2 (col o ho c) y) :=
  Finset.sum_congr rfl fun c _ => congrArg₂ (· * ·)
    (congrArg₂ act ((pay1_at _ _ _ _).trans (a_cols x0 x1 ho i x2 x c)) ((pay1_at _ _ _ _).trans (a_cols x0 x1 ho j x3 x c))) (rB_at ho k x4 c y)

theorem st5 (i0 i1 j0 j1 k0 k1) :
    k0_pay5 (k0_pay6 x0) (k0_pay7 x0 x1) (k0_pay12 x0 x1 (rB 0 i0 x2) (rB 0 j0 x3) (rB 0 k0 x4)) (rB 1408 i1 x2) (rB 1408 j1 x3) (rB 1408 k1 x4)
      = T5 x0 x1 x2 x3 x4 := by
  funext z
  rw [eq_ix2 (n0 := 256) (n1 := 1024) z]
  refine (pay5_at _ _ _ _ _ _ _ _).trans (Eq.trans ?_ (fout_cols _ _ _ _).symm)
  exact congrArg₂ (fun a b => x0 (ix2 (z 0 : Fin 256) (z 1 : Fin 1024)) + half * a + half * b)
    ((pay12_at _ _ _ _ _ _ _).trans (act_cols x0 x1 x2 x3 x4 (by decide) i0 j0 k0 _ _)) (act_cols x0 x1 x2 x3 x4 (by decide) i1 j1 k1 _ _)

theorem st6 {o : ℕ} (ho : o + 1408 ≤ 2816) (i inb) (u : Vec Ideal S2816x1024 .bf16) (z : S256x1408.Idx) :
    k0_pay3 (k0_pay7 x0 x1) (rB o i u) z = T6 x0 x1 u ((Rect.unit (s := S256x2816) ![0, o] ![256, 1408] inb).emb z) :=
  chunk ho inb _ (T6 x0 x1 u) (fun _ _ => (pay3_at _ _ _ _).trans (a_cols x0 x1 ho i u _ _)) z

theorem out5 : out0_5 x0 x1 x2 x3 x4 = T5 x0 x1 x2 x3 x4 := by
  unfold out0_5 k0_pay13 r0_0 r0_1 r0_2 r0_4
  simp only [View.ld_unit_zero (S := S256x1024) hz2, View.ld_unit_zero (S := S1x1024) hz2, View.canon_unit_zero (S := S256x1024) hz2]
  exact st5 x0 x1 x2 x3 x4 inb_S2816x1024_S1408x1024_0_0 inb_S2816x1024_S1408x1024_1408_0 inb_S2816x1024_S1408x1024_0_0 inb_S2816x1024_S1408x1024_1408_0 inb_S2816x1024_S1408x1024_0_0 inb_S2816x1024_S1408x1024_1408_0
theorem out6 : out0_6 x0 x1 x2 x3 x4 = T6 x0 x1 x2 := by
  funext y
  refine View.canon_apply_of_pieces (T6 x0 x1 x2) _ ?_ y (cover0_6 _ _ y)
  unfold k0_pay13 r0_0 r0_1 r0_2 r0_3 r0_4 r0_5
  rw [List.forall_mem_cons, List.forall_mem_singleton]
  simp only [View.ld_unit_zero (S := S256x1024) hz2, View.ld_unit_zero (S := S1x1024) hz2, pay10_eq]
  exact ⟨fun z => st6 x0 x1 (by decide) inb_S2816x1024_S1408x1024_1408_0 inb_S256x2816_S256x1408_0_1408 x2 z, fun z => st6 x0 x1 (by decide) inb_S2816x1024_S1408x1024_0_0 inb_S256x2816_S256x1408_0_0 x2 z⟩
theorem out7 : out0_7 x0 x1 x2 x3 x4 = T6 x0 x1 x3 := by
  funext y
  refine View.canon_apply_of_pieces (T6 x0 x1 x3) _ ?_ y (cover0_7 _ _ y)
  unfold k0_pay13 r0_0 r0_1 r0_2 r0_3 r0_4 r0_5
  rw [List.forall_mem_cons, List.forall_mem_singleton]
  simp only [View.ld_unit_zero (S := S256x1024) hz2, View.ld_unit_zero (S := S1x1024) hz2, pay11_eq, pay4_eq]
  exact ⟨fun z => st6 x0 x1 (by decide) inb_S2816x1024_S1408x1024_1408_0 inb_S256x2816_S256x1408_0_1408 x3 z, fun z => st6 x0 x1 (by decide) inb_S2816x1024_S1408x1024_0_0 inb_S256x2816_S256x1408_0_0 x3 z⟩
theorem out8 : out0_8 x0 x1 x2 x3 x4 = T8 x0 x1 := by
  unfold out0_8 r0_0 r0_1
  simp only [View.ld_unit_zero (S := S256x1024) hz2, View.ld_unit_zero (S := S1x1024) hz2, View.canon_unit_zero (S := S256x1024) hz2]
  funext z
  rw [eq_ix2 (n0 := 256) (n1 := 1024) z]
  exact pay7_at _ _ _ _

end block

/-! ## The closed forms -/

section closed
variable (X0 : FVec Ideal S8192x1024 .f32) (X1 : FVec Ideal S1x1024 .f32) (X2 X3 X4 : FVec Ideal S2816x1024 .bf16)

def nW (t : Fin 8192) (k : Fin 1024) : EReal := nrm (fun k => X0 (ix2 t k)) (fun k => X1 (ix2 0 k)) k
def aW (u : FVec Ideal S2816x1024 .bf16) (t : Fin 8192) (j : Fin 2816) : EReal := prd (nW X0 X1 t) (fun k => u (ix2 j k))
def o5 : FVec Ideal S8192x1024 .f32 := fun z =>
  fout (X0 (ix2 (z 0 : Fin 8192) (z 1 : Fin 1024))) (aW X0 X1 X2 (z 0)) (aW X0 X1 X3 (z 0)) (fun j => X4 (ix2 j (z 1 : Fin 1024)))
def o6 (u : FVec Ideal S2816x1024 .bf16) : FVec Ideal S8192x2816 .bf16 := fun z => aW X0 X1 u (z 0) (z 1)
def o8 : FVec Ideal S8192x1024 .bf16 := fun z => nW X0 X1 (z 0) (z 1)

end closed

/-! ## The blocks of the arrays -/

/-- Token `x` of block `t`. -/
def tok (t : Fin cfg0.N) (x : Fin 256) : Fin 8192 := ⟨256 * t.val + x.val, by have := lt_of_lt_of_eq t.isLt (show cfg0.N = 32 from N_0); omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

variable (m : (ℓ : Loc nD τ sig) → Buf (Elt Ideal) ℓ) (c : Dev nD)

abbrev X0 : FVec Ideal S8192x1024 .f32 := V m c main_v0
abbrev X1 : FVec Ideal S1x1024 .f32 := V m c main_arg1
abbrev X2 : FVec Ideal S2816x1024 .bf16 := V m c main_v3
abbrev X3 : FVec Ideal S2816x1024 .bf16 := V m c main_v6
abbrev X4 : FVec Ideal S2816x1024 .bf16 := V m c main_v8

abbrev B0 (t : Fin cfg0.N) : Vec Ideal S256x1024 .f32 := iblk m c 0 t
abbrev B1 (t : Fin cfg0.N) : Vec Ideal S1x1024 .f32 := iblk m c 1 t
abbrev B2 (t : Fin cfg0.N) : Vec Ideal S2816x1024 .bf16 := iblk m c 2 t
abbrev B3 (t : Fin cfg0.N) : Vec Ideal S2816x1024 .bf16 := iblk m c 3 t
abbrev B4 (t : Fin cfg0.N) : Vec Ideal S2816x1024 .bf16 := iblk m c 4 t

theorem B0_at (t : Fin cfg0.N) (x : Fin 256) (k : Fin 1024) : B0 m c t (ix2 x k) = X0 m c (ix2 (tok t x) k) := by
  blk_simp [iblk]
  refine congrArg (V m c main_v0) ?_
  blk_ext [idx0 t, tok]
theorem B1_at (t : Fin cfg0.N) (k : Fin 1024) : B1 m c t (ix2 0 k) = X1 m c (ix2 0 k) := by
  blk_simp [iblk]
  refine congrArg (V m c main_arg1) ?_
  blk_ext [idx1 t]
theorem B2_at (t : Fin cfg0.N) (j : Fin 2816) (k : Fin 1024) : B2 m c t (ix2 j k) = X2 m c (ix2 j k) := by
  blk_simp [iblk]
  refine congrArg (V m c main_v3) ?_
  blk_ext [idx2 t]
theorem B3_at (t : Fin cfg0.N) (j : Fin 2816) (k : Fin 1024) : B3 m c t (ix2 j k) = X3 m c (ix2 j k) := by
  blk_simp [iblk]
  refine congrArg (V m c main_v6) ?_
  blk_ext [idx3 t]
theorem B4_at (t : Fin cfg0.N) (j : Fin 2816) (k : Fin 1024) : B4 m c t (ix2 j k) = X4 m c (ix2 j k) := by
  blk_simp [iblk]
  refine congrArg (V m c main_v8) ?_
  blk_ext [idx4 t]

theorem n_pt (t : Fin cfg0.N) (x : Fin 256) : nB (B0 m c t) (B1 m c t) x = nW (X0 m c) (X1 m c) (tok t x) :=
  congrArg₂ nrm (funext fun k => B0_at m c t x k) (funext fun k => B1_at m c t k)
theorem a1_pt (t : Fin cfg0.N) (x : Fin 256) : aB (B0 m c t) (B1 m c t) (B2 m c t) x = aW (X0 m c) (X1 m c) (X2 m c) (tok t x) :=
  funext fun j => congrArg₂ prd (n_pt m c t x) (funext fun k => B2_at m c t j k)
theorem a3_pt (t : Fin cfg0.N) (x : Fin 256) : aB (B0 m c t) (B1 m c t) (B3 m c t) x = aW (X0 m c) (X1 m c) (X3 m c) (tok t x) :=
  funext fun j => congrArg₂ prd (n_pt m c t x) (funext fun k => B3_at m c t j k)
theorem o_pt (t : Fin cfg0.N) (x : Fin 256) (y : Fin 1024) :
    fout (B0 m c t (ix2 x y)) (aB (B0 m c t) (B1 m c t) (B2 m c t) x) (aB (B0 m c t) (B1 m c t) (B3 m c t) x) (fun j => B4 m c t (ix2 j y))
      = fout (X0 m c (ix2 (tok t x) y)) (aW (X0 m c) (X1 m c) (X2 m c) (tok t x)) (aW (X0 m c) (X1 m c) (X3 m c) (tok t x)) (fun j => X4 m c (ix2 j y)) := by
  rw [a1_pt, a3_pt, B0_at, show (fun j : Fin 2816 => B4 m c t (ix2 j y)) = fun j => X4 m c (ix2 j y) from funext fun j => B4_at m c t j y]

/-! ## The arrays -/

theorem final5 : (dats m 0 c).arrAt 5 cfg0.N = o5 (X0 m c) (X1 m c) (X2 m c) (X3 m c) (X4 m c) := by
  refine (dats m 0 c).arrAt_eq_of_covers 5 _ (by decide +kernel) fun t hf y => ?_
  blk_simp
  rw [after0_5, out5]
  refine (show _ = o5 (X0 m c) (X1 m c) (X2 m c) (X3 m c) (X4 m c) (ix2 (tok t (y 0)) (y 1 : Fin 1024)) from o_pt m c t (y 0) (y 1)).trans (congrArg _ ?_)
  blk_ext [idx5 t, tok]
theorem final6 : (dats m 0 c).arrAt 6 cfg0.N = o6 (X0 m c) (X1 m c) (X2 m c) := by
  refine (dats m 0 c).arrAt_eq_of_covers 6 _ (by decide +kernel) fun t hf y => ?_
  blk_simp
  rw [after0_6, out6]
  refine (show _ = o6 (X0 m c) (X1 m c) (X2 m c) (ix2 (tok t (y 0)) (y 1 : Fin 2816)) from congrFun (a1_pt m c t (y 0)) (y 1)).trans (congrArg _ ?_)
  blk_ext [idx6 t, tok]
theorem final7 : (dats m 0 c).arrAt 7 cfg0.N = o6 (X0 m c) (X1 m c) (X3 m c) := by
  refine (dats m 0 c).arrAt_eq_of_covers 7 _ (by decide +kernel) fun t hf y => ?_
  blk_simp
  rw [after0_7, out7]
  refine (show _ = o6 (X0 m c) (X1 m c) (X3 m c) (ix2 (tok t (y 0)) (y 1 : Fin 2816)) from congrFun (a3_pt m c t (y 0)) (y 1)).trans (congrArg _ ?_)
  blk_ext [idx7 t, tok]
theorem final8 : (dats m 0 c).arrAt 8 cfg0.N = o8 (X0 m c) (X1 m c) := by
  refine (dats m 0 c).arrAt_eq_of_covers 8 _ (by decide +kernel) fun t hf y => ?_
  blk_simp
  rw [after0_8, out8]
  refine (show _ = o8 (X0 m c) (X1 m c) (ix2 (tok t (y 0)) (y 1 : Fin 1024)) from congrFun (n_pt m c t (y 0)) (y 1)).trans (congrArg _ ?_)
  blk_ext [idx8 t, tok]

end Cert.Kernel5Ideal.Fwd

end
-- ==== Proof.FwdValue.lean ====
/- The FFN's forward call against its reference, for all arguments. -/
module

public import proofs.«01_k».proof.Defs
public import proofs.«01_k».proof.Proof.FwdTile
public import proofs.«01_k».proof.Proof.FfnHost
public import proofs.«01_k».proof.Proof.FfnRef
public import proofs.«01_k».proof.Proof.Gen.Reference5Ideal.Run

@[expose] public section

set_option maxRecDepth 16384

noncomputable section

/-! ## The reference -/

namespace Cert.Reference5Ideal.Fwd

open Cert.Reference5Ideal Cert.Reference5Ideal.Gen
open Idealize.ShloMosaic Idealize.ShloMosaic.TcCoe Idealize.ShloMosaic.Tactic
open Cert.Ffn
open Cert.Reference4Ideal.Ffn (rT rH rG rA rF rT_at rH_at rG_at rA_at rF_at)

/-- The output. -/
def rY (h : FVec Ideal S1x8192x1024 .f32) (f : FVec Ideal S8192x2816 .f32) (w : FVec Ideal S1x2816x1024 .f32) : FVec Ideal S8192x1024 .f32 :=
  addf (rT h) (mulf (broadcastInDim S8192x1024 ![] bcast_S_S8192x1024 (constant S_ .f32 0x3F000000#32))
    (Host.dotGeneral dot_S8192x2816_S2816x1024_S8192x1024_1_0_0_1_n_n none f (shapeCast S2816x1024 w shapeCasts_S1x2816x1024_S2816x1024)))
/-- The normed tokens. -/
def rN (h : FVec Ideal S1x8192x1024 .f32) (g : FVec Ideal S1x1024 .f32) : FVec Ideal S8192x1024 .f32 := mulf (rH h) (rG g)

theorem rY_at (h : FVec Ideal S1x8192x1024 .f32) (f : FVec Ideal S8192x2816 .f32) (w : FVec Ideal S1x2816x1024 .f32) (t : Fin 8192) (k : Fin 1024) :
    rY h f w (ix2 t k) = h (ix3 0 t k) + half * ∑ j : Fin 2816, f (ix2 t j) * w (ix3 0 j k) := by
  rw [← rT_at h t k]
  pointwise [rY]
theorem rN_at (h : FVec Ideal S1x8192x1024 .f32) (g : FVec Ideal S1x1024 .f32) (t : Fin 8192) (k : Fin 1024) :
    rN h g (ix2 t k) = nrm (fun k => h (ix3 0 t k)) (fun k => g (ix2 0 k)) k := by
  refine Eq.trans ?_ (congrArg₂ (· * ·) (rH_at h t k) (rG_at g t k))
  pointwise [rN]

variable (m : (ℓ : Loc nD τ sig) → Buf (Elt Ideal) ℓ) (ρ : Dev nD → PrngReg) (c : Dev nD)

abbrev aH : FVec Ideal S1x8192x1024 .f32 := m ((c.tc : Thread nD τ).loc main_arg0)
abbrev aG : FVec Ideal S1x1024 .f32 := m ((c.tc : Thread nD τ).loc main_arg1)
abbrev aU : FVec Ideal S1x1024x2816 .f32 := m ((c.tc : Thread nD τ).loc main_arg2)
abbrev aV : FVec Ideal S1x1024x2816 .f32 := m ((c.tc : Thread nD τ).loc main_arg3)
abbrev aD : FVec Ideal S1x2816x1024 .f32 := m ((c.tc : Thread nD τ).loc main_arg4)

/-- The run's results, by these stages. -/
theorem run_value : θ_run defs (onTc (τ := τ) (main (F := Ideal))) ⟨m, fun _ => 0, ρ⟩ fun r => ∀ c : Dev nD,
    r.2.mem ((c.tc : Thread nD τ).loc main_v26) = rY (aH m c) (rF (rA (aH m c) (aG m c) (aU m c)) (rA (aH m c) (aG m c) (aV m c))) (aD m c)
    ∧ r.2.mem ((c.tc : Thread nD τ).loc main_v27) = (rA (aH m c) (aG m c) (aU m c) : S8192x2816.Idx → EReal)
    ∧ r.2.mem ((c.tc : Thread nD τ).loc main_v28) = (rA (aH m c) (aG m c) (aV m c) : S8192x2816.Idx → EReal)
    ∧ r.2.mem ((c.tc : Thread nD τ).loc main_v29) = (rN (aH m c) (aG m c) : S8192x1024.Idx → EReal)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2.1.trans rfl, (h c).2.2.2.2⟩)
    (Cert.Reference5Ideal.Value.run (F := Ideal) m ρ)

end Cert.Reference5Ideal.Fwd

/-! ## The call -/

namespace Cert.Kernel5Ideal.Fwd

open Cert.Kernel5Ideal Cert.Kernel5Ideal.Gen Cert.Kernel5Ideal.Value
open Idealize.ShloMosaic Idealize.ShloMosaic.TcCoe Idealize.ShloMosaic.Tactic Idealize.ShloMosaic.StableHlo
open Cert.Ffn
open Cert.Kernel4Ideal.Ffn (kT kW kD kT_at kW_at kD_at)
open Cert.Reference4Ideal.Ffn (rA rF rA_at rF_at)
open Cert.Reference5Ideal.Fwd (rY rN rY_at rN_at)

section same
variable (h : FVec Ideal S1x8192x1024 .f32) (g : FVec Ideal S1x1024 .f32) (w w1 w3 : FVec Ideal S1x1024x2816 .f32) (w2 : FVec Ideal S1x2816x1024 .f32)

theorem n_same (t : Fin 8192) (k : Fin 1024) : nW (kT h) g t k = rN h g (ix2 t k) := by
  rw [rN_at]
  exact congrArg (fun x => nrm x (fun k => g (ix2 0 k)) k) (funext fun k => kT_at h t k)
theorem a_same (t : Fin 8192) (j : Fin 2816) : aW (kT h) g (kW w) t j = rA h g w (ix2 t j) := by
  rw [rA_at]
  unfold aW prd up
  exact Finset.sum_congr rfl fun k _ => congrArg₂ (· * ·) ((n_same h g t k).trans (rN_at h g t k)) (kW_at w j k)
theorem y_same : o5 (kT h) g (kW w1) (kW w3) (kD w2) = rY h (rF (rA h g w1) (rA h g w3)) w2 := by
  funext z
  obtain ⟨t, k, rfl⟩ : ∃ (t : Fin 8192) (k : Fin 1024), z = ix2 t k := ⟨z 0, z 1, eq_ix2 (n0 := 8192) (n1 := 1024) z⟩
  refine Eq.trans ?_ (rY_at h _ w2 t k).symm
  refine congrArg₂ (fun x s => x + half * s) (kT_at h t k) (Finset.sum_congr rfl fun j _ => ?_)
  exact congrArg₂ (· * ·) ((congrArg₂ act (a_same h g w1 t j) (a_same h g w3 t j)).trans (rF_at _ _ t j).symm) (kD_at w2 j k)
theorem a_all : o6 (kT h) g (kW w) = (rA h g w : S8192x2816.Idx → EReal) := by
  funext z
  obtain ⟨t, j, rfl⟩ : ∃ (t : Fin 8192) (j : Fin 2816), z = ix2 t j := ⟨z 0, z 1, eq_ix2 (n0 := 8192) (n1 := 2816) z⟩
  exact a_same h g w t j
theorem n_all : o8 (kT h) g = (rN h g : S8192x1024.Idx → EReal) := by
  funext z
  obtain ⟨t, k, rfl⟩ : ∃ (t : Fin 8192) (k : Fin 1024), z = ix2 t k := ⟨z 0, z 1, eq_ix2 (n0 := 8192) (n1 := 1024) z⟩
  exact n_same h g t k

end same

variable (m : (ℓ : Loc nD τ sig) → Buf (Elt Ideal) ℓ) (ρ : Dev nD → PrngReg) (c : Dev nD)

abbrev aH : FVec Ideal S1x8192x1024 .f32 := m ((c.tc : Thread nD τ).loc main_arg0)
abbrev aG : FVec Ideal S1x1024 .f32 := m ((c.tc : Thread nD τ).loc main_arg1)
abbrev aU : FVec Ideal S1x1024x2816 .f32 := m ((c.tc : Thread nD τ).loc main_arg2)
abbrev aV : FVec Ideal S1x1024x2816 .f32 := m ((c.tc : Thread nD τ).loc main_arg3)
abbrev aD : FVec Ideal S1x2816x1024 .f32 := m ((c.tc : Thread nD τ).loc main_arg4)

theorem X0_eq : X0 m c = kT (aH m c) := by
  unfold X0 V
  after_reads_simp <;> rfl
theorem X1_eq : X1 m c = aG m c := V_main_arg1 m c
theorem X2_eq : X2 m c = kW (aU m c) := by
  unfold X2 V
  after_reads_simp <;> rfl
theorem X3_eq : X3 m c = kW (aV m c) := by
  unfold X3 V
  after_reads_simp <;> rfl
theorem X4_eq : X4 m c = kD (aD m c) := by
  unfold X4 V
  after_reads_simp <;> rfl

/-- The arrays of the launch, by the reference's stages. -/
theorem res5 : (dats m 0 c).arrAt 5 cfg0.N = rY (aH m c) (rF (rA (aH m c) (aG m c) (aU m c)) (rA (aH m c) (aG m c) (aV m c))) (aD m c) := by
  rw [final5, X0_eq, X1_eq, X2_eq, X3_eq, X4_eq]
  exact y_same (aH m c) (aG m c) (aU m c) (aV m c) (aD m c)
theorem res6 : (dats m 0 c).arrAt 6 cfg0.N = (rA (aH m c) (aG m c) (aU m c) : S8192x2816.Idx → EReal) := by
  rw [final6, X0_eq, X1_eq, X2_eq]
  exact a_all (aH m c) (aG m c) (aU m c)
theorem res7 : (dats m 0 c).arrAt 7 cfg0.N = (rA (aH m c) (aG m c) (aV m c) : S8192x2816.Idx → EReal) := by
  rw [final7, X0_eq, X1_eq, X3_eq]
  exact a_all (aH m c) (aG m c) (aV m c)
theorem res8 : (dats m 0 c).arrAt 8 cfg0.N = (rN (aH m c) (aG m c) : S8192x1024.Idx → EReal) := by
  rw [final8, X0_eq, X1_eq]
  exact n_all (aH m c) (aG m c)

/-- The call's output, two products and normed tokens are the reference's. -/
theorem value : Cert.algebraic_Kernel5Ideal_Reference5Ideal := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run Cert.Reference5Ideal.defs _ _).mono (fun r h c => ?_) (Cert.Reference5Ideal.Fwd.run_value m' g')⟩
  obtain ⟨h0, h1, h2, h3, ha⟩ := h c
  obtain ⟨e0, e1, e2, e3, e4⟩ := hagree c
  have a0 : Cert.Reference5Ideal.Fwd.aH m' c = aH m c := e0
  have a1 : Cert.Reference5Ideal.Fwd.aG m' c = aG m c := e1
  have a2 : Cert.Reference5Ideal.Fwd.aU m' c = aU m c := e2
  have a3 : Cert.Reference5Ideal.Fwd.aV m' c = aV m c := e3
  have a4 : Cert.Reference5Ideal.Fwd.aD m' c = aD m c := e4
  rw [a0, a1] at h3
  rw [a0, a1, a2] at h1
  rw [a0, a1, a3] at h2
  rw [a0, a1, a2, a3, a4] at h0
  exact ⟨h0.trans (res5 m c).symm, h1.trans (res6 m c).symm, h2.trans (res7 m c).symm, h3.trans (res8 m c).symm, ha⟩

end Cert.Kernel5Ideal.Fwd

end
-- ==== Proof.DwIn.lean ====
/- The weight-gradient product at the shape of the mixer's input projection: two blocks of 512 rows, eight blocks of tokens each. -/
module

public import proofs.«01_k».proof.Defs
public import proofs.«01_k».proof.Proof.Blocks
public import proofs.«01_k».proof.Proof.Gen.Kernel6Ideal.Value
public import proofs.«01_k».proof.Proof.Gen.Reference6Ideal.Run

@[expose] public section

set_option maxRecDepth 16384

noncomputable section

namespace Cert.Kernel6Ideal.Value

open Cert.Kernel6Ideal Cert.Kernel6Ideal.Gen
open Idealize.ShloMosaic Idealize.ShloMosaic.TcCoe Idealize.ShloMosaic.Tactic Idealize.SL.Sem
open Cert.Dw

theorem zero_at (x : Fin 512) (y : Fin 2176) : k0_pay1 (F := Ideal) (ix2 x y) = 0 := by pointwise [k0_pay1]
theorem more_at (v : Vec Ideal S512x2176 .f32) (a : Vec Ideal S1024x512 .bf16) (b : Vec Ideal S1024x2176 .bf16) (x : Fin 512) (y : Fin 2176) :
    k0_pay2 v a b (ix2 x y) = v (ix2 x y) + ∑ k : Fin 1024, a (ix2 k x) * b (ix2 k y) := by
  pointwise [k0_pay2]

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)

variable (m : (ℓ : Loc nD τ sig) → Buf (Elt Ideal) ℓ) (c : Dev nD)

/-- The normed input, and the gradient of its products. -/
abbrev uA : FVec Ideal S8192x1024 .bf16 := m ((c.tc : Thread nD τ).loc main_arg0)
abbrev zA : FVec Ideal S8192x2176 .bf16 := m ((c.tc : Thread nD τ).loc main_arg1)

/-- What one point adds: its tokens are those of block `s`, its rows those of block `r / 512`. -/
theorem add_at (n : Fin cfg0.N) (r : Fin 1024) (s : Fin 8) (e : n.val = 8 * (r.val / 512) + s.val) (x : Fin 512) (hx : x.val = r.val % 512) (y : Fin 2176)
    (v : Vec Ideal S512x2176 .f32) :
    k0_pay2 v (iblk m c 0 n) (iblk m c 1 n) (ix2 x y) = v (ix2 x y) + ∑ k, uA m c (ix2 (tok s k) r) * zA m c (ix2 (tok s k) y) := by
  have hm : n.val % 8 = s.val := by omega
  have hd : n.val / 8 = r.val / 512 := by omega
  have hr : 512 * (r.val / 512) + r.val % 512 = r.val := Nat.div_add_mod _ _
  refine (more_at _ _ _ x y).trans (congrArg (v (ix2 x y) + ·) (Finset.sum_congr rfl fun k _ => congrArg₂ (· * ·) ?_ ?_))
  · blk_simp [iblk]
    refine (congrArg (V m c main_arg0) ?_).trans (congrFun (V_main_arg0 m c) _)
    blk_ext [idx0 n, hm, hd, hx, tok]
  · blk_simp [iblk]
    refine (congrArg (V m c main_arg1) ?_).trans (congrFun (V_main_arg1 m c) _)
    blk_ext [idx1 n, hm, tok]

/-- The array after the run. -/
abbrev out : FVec Ideal S1024x2176 .f32 := G2 m c

/-- It is the product over all the tokens. -/
theorem out_at (r : Fin 1024) (y : Fin 2176) : out m c (ix2 r y) = ∑ t : Fin 8192, uA m c (ix2 t r) * zA m c (ix2 t y) := by
  have hb : 8 * run2Of (ix2 r y) = 8 * (r.val / 512) := by
    show 8 * (1 * (r.val / 512 - 0) + 1 * (y.val / 2176 - 0)) = _
    omega
  have hl : loc2Of (ix2 r y) = ix2 (⟨r.val % 512, Nat.mod_lt _ (by decide)⟩ : Fin 512) y := by
    funext a
    apply Fin.ext
    match a with
    | ⟨0, _⟩ => rfl
    | ⟨1, _⟩ => exact Nat.mod_eq_of_lt y.isLt
  unfold out G2
  rw [dif_pos (by rw [hb, show cfg0.N = 16 from N_0]; omega), hl]
  refine acc_blocks (reset2 m c) (step2 m c) tok sum_tok (fun t => uA m c (ix2 t r) * zA m c (ix2 t y)) _ _ _ (fun h' => ?_) (fun s h' acc => ?_)
  · exact (add_at m c ⟨_, h'⟩ r 0 hb _ rfl y _).trans ((congrArg (· + _) (zero_at _ y)).trans (zero_add _))
  · exact add_at m c ⟨_, h'⟩ r s (congrArg (· + s.val) hb) _ rfl y acc

end Cert.Kernel6Ideal.Value

namespace Cert.Reference6Ideal.Value

open Cert.Reference6Ideal Cert.Reference6Ideal.Gen Idealize.ShloMosaic Idealize.ShloMosaic.TcCoe Idealize.ShloMosaic.Tactic

/-- The gradient of the projection. -/
def grad (u : FVec Ideal S8192x1024 .bf16) (z : FVec Ideal S8192x2176 .bf16) : FVec Ideal S1024x2176 .f32 :=
  transpose S1024x2176 [1, 0] (Host.dotGeneral dot_S8192x2176_S8192x1024_S2176x1024_0_0_1_1_n_n none (extf .f32 z bitsLt_bf16_f32) (extf .f32 u bitsLt_bf16_f32)) transposes_S2176x1024_S1024x2176_1_0

theorem grad_at (u : FVec Ideal S8192x1024 .bf16) (z : FVec Ideal S8192x2176 .bf16) (x : Fin 1024) (y : Fin 2176) :
    grad u z (ix2 x y) = ∑ t : Fin 8192, u (ix2 t x) * z (ix2 t y) := by
  refine Eq.trans ?_ (Finset.sum_congr rfl fun t _ => mul_comm (z (ix2 t y)) (u (ix2 t x)))
  pointwise [grad]

end Cert.Reference6Ideal.Value

namespace Cert.Kernel6Ideal.Value

open Idealize.ShloMosaic Idealize.ShloMosaic.TcCoe Idealize.SL.Sem
open Cert.Reference6Ideal.Value (grad grad_at)

/-- The kernel's weight gradient is the reference's. -/
theorem value : Cert.algebraic_Kernel6Ideal_Reference6Ideal := by
  intro m g m' g' _ hagree
  refine ⟨fun c => out m c, run m g, (θ_run Cert.Reference6Ideal.defs _ _).mono (fun r h c => ?_) (Cert.Reference6Ideal.Value.run (F := Ideal) m' g')⟩
  obtain ⟨h0, ha⟩ := h c
  obtain ⟨e0, e1⟩ := hagree c
  rw [e0, e1] at h0
  refine ⟨h0.trans (show grad (uA m c) (zA m c) = out m c from funext fun i => ?_), ha⟩
  obtain ⟨x, y, rfl⟩ : ∃ (x : Fin 1024) (y : Fin 2176), i = ix2 x y := ⟨i 0, i 1, eq_ix2 (n0 := 1024) (n1 := 2176) i⟩
  exact (grad_at _ _ x y).trans (out_at m c x y).symm

end Cert.Kernel6Ideal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_arguments
public import proofs.«01_k».proof.Proof.Gen.Kernel2.Frame
public import proofs.«01_k».proof.Proof.Gen.Kernel3.Frame
public import proofs.«01_k».proof.Proof.Run
public import proofs.«01_k».proof.Proof.Same
public import proofs.«01_k».proof.Proof.Value
public import proofs.«01_k».proof.Proof.DwUp
public import proofs.«01_k».proof.Proof.DwDown
public import proofs.«01_k».proof.Proof.FfnValue
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite_arguments4
public import proofs.«01_k».proof.Proof.FwdValue
public import proofs.«01_k».proof.Proof.Gen.Kernel5.Frame
public import proofs.«01_k».proof.Proof.Gen.Kernel5Ideal.Value
public import proofs.«01_k».proof.Proof.Gen.Reference5Ideal.Run
public import proofs.«01_k».proof.Proof.DwIn
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

namespace Cert.Proof

open Idealize.ShloMosaic Idealize.SL.Sem

/-- The kernel as printed runs, leaves its arguments and ends with its counters at zero. -/
theorem frame_k : Cert.quiescent_Kernel := Cert.Same.frame

/-- The kernel at the extended reals: the same run. -/
theorem frame_ki : Cert.quiescent_KernelIdeal := fun m ρ _ =>
  Cert.KernelIdeal.Bwd.frame_all (F := Ideal) m ρ

/-- The reference is a straight line of host operations and declares no counter. -/
theorem frame_r : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

open Cert.KernelIdeal.Bwd in
/-- On real arguments the kernel's four gradients are the reference's. -/
theorem value : Cert.algebraic_KernelIdeal_ReferenceIdeal_pre_finite_arguments
    (hPre_finite_arguments := Cert.Pre_finite_arguments.Gen.facts) := by
  intro m g m' g' hpre hagree
  refine ⟨fun c => kDq (outQ (X0 m c) (X1 m c) (X2 m c) (X3 m c)), fun c => kDk (outK (X0 m c) (X1 m c) (X2 m c) (X3 m c)),
    fun c => kDk (outV (X0 m c) (X1 m c) (X2 m c)), fun c => kDc (outC (X0 m c) (X1 m c) (X2 m c) (X3 m c)), run_value m g,
    (θ_run Cert.ReferenceIdeal.defs _ _).mono (fun r h c => ?_) (Cert.ReferenceIdeal.Value.run (F := Ideal) m' g')⟩
  obtain ⟨h0, h1, h2, h3, ha⟩ := h c
  obtain ⟨e0, e1, e2, e3, e4⟩ := hagree c
  obtain ⟨fq, fk, fv, fc, fg⟩ := Cert.Pre_finite_arguments.Read.real_all _ _ _ _ _ (hpre c)
  have a0 : Cert.ReferenceIdeal.Grad.aq m' c = aq m c := e0
  have a1 : Cert.ReferenceIdeal.Grad.ak m' c = ak m c := e1
  have a2 : Cert.ReferenceIdeal.Grad.av m' c = av m c := e2
  have a3 : Cert.ReferenceIdeal.Grad.ac m' c = ac m c := e3
  have a4 : Cert.ReferenceIdeal.Grad.ag m' c = ag m c := e4
  refine ⟨h0.trans ?_, h1.trans ?_, h2.trans ?_, h3.trans ?_, ha⟩
  · rw [Cert.ReferenceIdeal.Grad.out0, a0, a1, a2, a3, a4]
    exact (same_dq (aq m c) (ak m c) (av m c) (ac m c) (ag m c) fq fk fv fc fg).symm.trans (arg_dq m c).symm
  · rw [Cert.ReferenceIdeal.Grad.out1, a0, a1, a2, a3, a4]
    exact (same_dk (aq m c) (ak m c) (av m c) (ac m c) (ag m c) fq fk fv fc fg).symm.trans (arg_dk m c).symm
  · rw [Cert.ReferenceIdeal.Grad.out2, a0, a1, a3, a4]
    exact (same_dv (aq m c) (ak m c) (av m c) (ac m c) (ag m c) fq fk fv fc fg).symm.trans (arg_dv m c).symm
  · rw [Cert.ReferenceIdeal.Grad.out3, a0, a1, a2, a3, a4]
    exact (same_dc (aq m c) (ak m c) (av m c) (ac m c) (ag m c) fq fk fv fc fg).symm.trans (arg_dc m c).symm

/-- The reference of the gradients of `w1` and `w3`: a straight line of host operations. -/
theorem frame_r2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The reference of the gradient of `w2`: likewise. -/
theorem frame_r3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The reference of the FFN's backward call: likewise. -/
theorem frame_r4 : Cert.quiescent_Reference4Ideal := fun m ρ _ =>
  (θ_run Cert.Reference4Ideal.defs _ _).mono
    (fun r h => ⟨fun c => (h c).2.2.2.2.2, sem_eq_zero_of_no_sems (by decide) r.2⟩)
    (Cert.Reference4Ideal.Value.run (F := Ideal) m ρ)

/-- The reference of the FFN's forward call: likewise. -/
theorem frame_r5 : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

/-- The reference of the gradient of the mixer's input projection: likewise. -/
theorem frame_r6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_arguments.Gen.facts, Cert.Pre_finite_arguments4.Gen.facts,
  frame_k, frame_ki, fun m ρ _ => Cert.KernelIdeal.Bwd.frame_all (F := Ideal) m ρ, frame_r,
  fun m ρ _ => (θ_run Cert.ReferenceIdeal.defs _ _).mono
    (fun r h => ⟨fun c => (h c).2.2.2.2, sem_eq_zero_of_no_sems (by decide) r.2⟩)
    (Cert.ReferenceIdeal.Value.run (F := Ideal) m ρ),
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, fun m ρ _ => Cert.Kernel4Ideal.Gen.frame m ρ, frame_r4,
  fun m ρ _ => frame_r4 m ρ trivial,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  trivial, value, trivial, Cert.Kernel2Ideal.Value.value, trivial, Cert.Kernel3Ideal.Value.value,
  trivial, Cert.Kernel4Ideal.Ffn.value,
  trivial, Cert.Kernel5Ideal.Fwd.value, trivial, Cert.Kernel6Ideal.Value.value⟩

end Cert.Proof

end
